-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x4096 : Shape := ⟨2, ![2048, 4096]⟩
abbrev S4096x2048 : Shape := ⟨2, ![4096, 2048]⟩
abbrev S512x2048 : Shape := ⟨2, ![512, 2048]⟩
abbrev S2048x512 : Shape := ⟨2, ![2048, 512]⟩
abbrev S2x256x768 : Shape := ⟨3, ![2, 256, 768]⟩
abbrev S896x768 : Shape := ⟨2, ![896, 768]⟩
abbrev S2x256x640 : Shape := ⟨3, ![2, 256, 640]⟩
abbrev S896x640 : Shape := ⟨2, ![896, 640]⟩
abbrev S24 : Shape := ⟨1, ![24]⟩
abbrev S_ : Shape := ⟨0, ![]⟩
abbrev S512x512 : Shape := ⟨2, ![512, 512]⟩
abbrev S256x768 : Shape := ⟨2, ![256, 768]⟩
abbrev S1x256x768 : Shape := ⟨3, ![1, 256, 768]⟩
abbrev S1 : Shape := ⟨1, ![1]⟩
abbrev S256x640 : Shape := ⟨2, ![256, 640]⟩
abbrev S1x256x640 : Shape := ⟨3, ![1, 256, 640]⟩
abbrev S128x768 : Shape := ⟨2, ![128, 768]⟩
abbrev S1x128x768 : Shape := ⟨3, ![1, 128, 768]⟩
abbrev S128x640 : Shape := ⟨2, ![128, 640]⟩
abbrev S1x128x640 : Shape := ⟨3, ![1, 128, 640]⟩
abbrev S64x768 : Shape := ⟨2, ![64, 768]⟩
abbrev S1x64x768 : Shape := ⟨3, ![1, 64, 768]⟩
abbrev S64x640 : Shape := ⟨2, ![64, 640]⟩
abbrev S1x64x640 : Shape := ⟨3, ![1, 64, 640]⟩

abbrev nBuf : Space → Nat
  | .hbm => 5
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4096, .bf16⟩
  | .hbm, ⟨3, _⟩ => ⟨S4096x2048, .bf16⟩
  | .hbm, ⟨4, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .f32⟩
  | .local _ .vmem, ⟨9, _⟩ => ⟨S2x256x768, .bf16⟩
  | .local _ .vmem, ⟨10, _⟩ => ⟨S896x768, .bf16⟩
  | .local _ .vmem, ⟨11, _⟩ => ⟨S2x256x640, .bf16⟩
  | .local _ .vmem, ⟨12, _⟩ => ⟨S896x640, .bf16⟩
  | .local _ .vmem, ⟨13, _⟩ => ⟨S2x256x640, .bf16⟩
  | .local _ .vmem, ⟨14, _⟩ => ⟨S896x640, .bf16⟩
  | _, _ => ⟨S2048x2048, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 153 → Bool
  | ⟨i, _⟩ => dmaSemScopedAt i

abbrev sig : RefSig :=
  (ofTc nBuf bufTy 1 153 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev barrier0 : Sem sig := 0

abbrev nD : Nat := 8
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32_32 : BitVec 32 := 0#32
  let v74 : BitVec 1 := Scalar.cmpi .eq arg0 c0_i32_32
  let arg1 : BitVec 32 := BitVec.ofNat 32 (i 1).val
  let c0_i32_33 : BitVec 32 := 0#32
  let v75 : BitVec 1 := Scalar.cmpi .eq arg1 c0_i32_33
  let v76 : BitVec 1 := Scalar.andi v74 v75
  let v77 : BitVec 32 := Scalar.extui v76
  let c0_i32_34 : BitVec 32 := 0#32
  let v78 : BitVec 1 := Scalar.cmpi .ne v77 c0_i32_34
  v78

def k0_dev1 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_114 : BitVec 32 := 1#32
  let v217 : BitVec 32 := Scalar.muli v63 c1_i32_114
  let v218 : BitVec 32 := Scalar.addi c0_i32_115 v217
  v218.toNat
def k0_dev2 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_117 : BitVec 32 := 1#32
  let v219 : BitVec 32 := Scalar.muli v69 c1_i32_117
  let v220 : BitVec 32 := Scalar.addi c0_i32_118 v219
  v220.toNat
def k0_dev3 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_120 : BitVec 32 := 1#32
  let v221 : BitVec 32 := Scalar.muli v73 c1_i32_120
  let v222 : BitVec 32 := Scalar.addi c0_i32_121 v221
  v222.toNat
def k0_cond2 (i : grid0.Coords) : BitVec 1 :=
  let arg1 : BitVec 32 := BitVec.ofNat 32 (i 1).val
  let c0_i32_47 : BitVec 32 := 0#32
  let v100 : BitVec 1 := Scalar.cmpi .eq arg1 c0_i32_47
  let v101 : BitVec 32 := Scalar.extui v100
  let c0_i32_48 : BitVec 32 := 0#32
  let v102 : BitVec 1 := Scalar.cmpi .ne v101 c0_i32_48
  v102

def k0_off1 (i : grid0.Coords) : Fin 2 → Nat :=
  let arg0 : BitVec 32 := BitVec.ofNat 32 (i 0).val
  let c512_i32 : BitVec 32 := 512#32
  let v216 : BitVec 32 := Scalar.muli arg0 c512_i32
  let v217 : Index := Scalar.indexCast v216
  let c0_113 : Index := 0#32
  ![v217.toNat, 0]
def k0_cond3 (i : grid0.Coords) : BitVec 1 :=
  let arg1 : BitVec 32 := BitVec.ofNat 32 (i 1).val
  let c0_i32_49 : BitVec 32 := 0#32
  let v103 : BitVec 1 := Scalar.cmpi .ne arg1 c0_i32_49
  let v104 : BitVec 32 := Scalar.extui v103
  let c0_i32_50 : BitVec 32 := 0#32
  let v105 : BitVec 1 := Scalar.cmpi .ne v104 c0_i32_50
  v105

def k0_off2 (i : grid0.Coords) : Fin 2 → Nat :=
  let arg0 : BitVec 32 := BitVec.ofNat 32 (i 0).val
  let c512_i32 : BitVec 32 := 512#32
  let v216 : BitVec 32 := Scalar.muli arg0 c512_i32
  let v217 : Index := Scalar.indexCast v216
  let c0_113 : Index := 0#32
  ![v217.toNat, 0]
def k0_cond4 (i : grid0.Coords) : BitVec 1 :=
  let arg0 : BitVec 32 := BitVec.ofNat 32 (i 0).val
  let c1_i32_51 : BitVec 32 := 1#32
  let v106 : BitVec 1 := Scalar.cmpi .eq arg0 c1_i32_51
  let arg1 : BitVec 32 := BitVec.ofNat 32 (i 1).val
  let c0_i32_52 : BitVec 32 := 0#32
  let v107 : BitVec 1 := Scalar.cmpi .eq arg1 c0_i32_52
  let v108 : BitVec 1 := Scalar.andi v106 v107
  let v109 : BitVec 32 := Scalar.extui v108
  let c0_i32_53 : BitVec 32 := 0#32
  let v110 : BitVec 1 := Scalar.cmpi .ne v109 c0_i32_53
  v110

def k0_off3 (d0 : Dev nD) : Fin 2 → Nat :=
  let c0_i32_114 : BitVec 32 := 0#32
  let c1_i32_113 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v216 : BitVec 32 := Scalar.subi c1_i32_113 v57
  let c256_i32 : BitVec 32 := 256#32
  let v217 : BitVec 32 := Scalar.muli v216 c256_i32
  let v218 : BitVec 32 := Scalar.addi c0_i32_114 v217
  let v219 : Index := Scalar.indexCast v218
  let c0_115 : Index := 0#32
  ![v219.toNat, 0]
def k0_dev4 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_122 : BitVec 32 := 1#32
  let v226 : BitVec 32 := Scalar.muli v63 c1_i32_122
  let v227 : BitVec 32 := Scalar.addi c0_i32_123 v226
  v227.toNat
def k0_off4 (d0 : Dev nD) : Fin 2 → Nat :=
  let c0_i32_130 : BitVec 32 := 0#32
  let c1_i32_128 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v235 : BitVec 32 := Scalar.subi c1_i32_128 v46
  let c256_i32_129 : BitVec 32 := 256#32
  let v236 : BitVec 32 := Scalar.muli v235 c256_i32_129
  let v237 : BitVec 32 := Scalar.addi c0_i32_130 v236
  let v238 : Index := Scalar.indexCast v237
  let c768 : Index := 768#32
  ![v238.toNat, 768]
def k0_dev5 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_137 : BitVec 32 := 1#32
  let v245 : BitVec 32 := Scalar.muli v69 c1_i32_137
  let v246 : BitVec 32 := Scalar.addi c0_i32_138 v245
  v246.toNat
def k0_off5 (d0 : Dev nD) : Fin 2 → Nat :=
  let c0_i32_145 : BitVec 32 := 0#32
  let c1_i32_143 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v254 : BitVec 32 := Scalar.subi c1_i32_143 v19
  let c256_i32_144 : BitVec 32 := 256#32
  let v255 : BitVec 32 := Scalar.muli v254 c256_i32_144
  let v256 : BitVec 32 := Scalar.addi c0_i32_145 v255
  let v257 : Index := Scalar.indexCast v256
  let c1408 : Index := 1408#32
  ![v257.toNat, 1408]
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_152 : BitVec 32 := 1#32
  let v264 : BitVec 32 := Scalar.muli v73 c1_i32_152
  let v265 : BitVec 32 := Scalar.addi c0_i32_153 v264
  v265.toNat
def k0_cond5 (i : grid0.Coords) : BitVec 1 :=
  let arg0 : BitVec 32 := BitVec.ofNat 32 (i 0).val
  let c1_i32_54 : BitVec 32 := 1#32
  let v111 : BitVec 1 := Scalar.cmpi .eq arg0 c1_i32_54
  let arg1 : BitVec 32 := BitVec.ofNat 32 (i 1).val
  let c1_i32_55 : BitVec 32 := 1#32
  let v112 : BitVec 1 := Scalar.cmpi .eq arg1 c1_i32_55
  let v113 : BitVec 1 := Scalar.andi v111 v112
  let v114 : BitVec 32 := Scalar.extui v113
  let c0_i32_56 : BitVec 32 := 0#32
  let v115 : BitVec 1 := Scalar.cmpi .ne v114 c0_i32_56
  v115

def k0_off6 (d0 : Dev nD) : Fin 2 → Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c0_i32_113 v216
  let v227 : Index := Scalar.indexCast v217
  let c0_125 : Index := 0#32
  ![v227.toNat, 0]
def k0_off7 (d0 : Dev nD) : Fin 2 → Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_127 : BitVec 32 := 256#32
  let v233 : BitVec 32 := Scalar.muli v46 c256_i32_127
  let v234 : BitVec 32 := Scalar.addi c0_i32_128 v233
  let v244 : Index := Scalar.indexCast v234
  let c768 : Index := 768#32
  ![v244.toNat, 768]
def k0_off8 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_141 : BitVec 32 := 256#32
  let v250 : BitVec 32 := Scalar.muli v19 c256_i32_141
  let v251 : BitVec 32 := Scalar.addi c0_i32_142 v250
  let v261 : Index := Scalar.indexCast v251
  let c1408 : Index := 1408#32
  ![v261.toNat, 1408]
def k0_off9 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_155 : BitVec 32 := 256#32
  let v267 : BitVec 32 := Scalar.muli v57 c256_i32_155
  let v268 : BitVec 32 := Scalar.addi c0_i32_156 v267
  let c1_i32_157 : BitVec 32 := 1#32
  let v269 : BitVec 32 := Scalar.subi c1_i32_157 v46
  let c128_i32 : BitVec 32 := 128#32
  let v270 : BitVec 32 := Scalar.muli v269 c128_i32
  let v271 : BitVec 32 := Scalar.addi v268 v270
  let v272 : Index := Scalar.indexCast v271
  let c0_158 : Index := 0#32
  ![v272.toNat, 0]
def k0_dev7 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_164 : BitVec 32 := 1#32
  let v279 : BitVec 32 := Scalar.muli v69 c1_i32_164
  let v280 : BitVec 32 := Scalar.addi c0_i32_165 v279
  v280.toNat
def k0_off10 (d0 : Dev nD) : Fin 2 → Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_170 : BitVec 32 := 256#32
  let v288 : BitVec 32 := Scalar.muli v46 c256_i32_170
  let v289 : BitVec 32 := Scalar.addi c0_i32_171 v288
  let c1_i32_172 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v290 : BitVec 32 := Scalar.subi c1_i32_172 v19
  let c128_i32_173 : BitVec 32 := 128#32
  let v291 : BitVec 32 := Scalar.muli v290 c128_i32_173
  let v292 : BitVec 32 := Scalar.addi v289 v291
  let v293 : Index := Scalar.indexCast v292
  let c768_174 : Index := 768#32
  ![v293.toNat, 768]
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_181 : BitVec 32 := 1#32
  let v300 : BitVec 32 := Scalar.muli v73 c1_i32_181
  let v301 : BitVec 32 := Scalar.addi c0_i32_182 v300
  v301.toNat
def k0_off11 (d0 : Dev nD) : Fin 2 → Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_187 : BitVec 32 := 256#32
  let v309 : BitVec 32 := Scalar.muli v19 c256_i32_187
  let v310 : BitVec 32 := Scalar.addi c0_i32_188 v309
  let c1_i32_189 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v311 : BitVec 32 := Scalar.subi c1_i32_189 v57
  let c128_i32_190 : BitVec 32 := 128#32
  let v312 : BitVec 32 := Scalar.muli v311 c128_i32_190
  let v313 : BitVec 32 := Scalar.addi v310 v312
  let v314 : Index := Scalar.indexCast v313
  let c1408_191 : Index := 1408#32
  ![v314.toNat, 1408]
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_198 : BitVec 32 := 1#32
  let v321 : BitVec 32 := Scalar.muli v63 c1_i32_198
  let v322 : BitVec 32 := Scalar.addi c0_i32_199 v321
  v322.toNat
def k0_cond6 (i : grid0.Coords) : BitVec 1 :=
  let arg0 : BitVec 32 := BitVec.ofNat 32 (i 0).val
  let c1_i32_57 : BitVec 32 := 1#32
  let v116 : BitVec 1 := Scalar.cmpi .eq arg0 c1_i32_57
  let arg1 : BitVec 32 := BitVec.ofNat 32 (i 1).val
  let c2_i32_58 : BitVec 32 := 2#32
  let v117 : BitVec 1 := Scalar.cmpi .eq arg1 c2_i32_58
  let v118 : BitVec 1 := Scalar.andi v116 v117
  let v119 : BitVec 32 := Scalar.extui v118
  let c0_i32_59 : BitVec 32 := 0#32
  let v120 : BitVec 1 := Scalar.cmpi .ne v119 c0_i32_59
  v120

def k0_off12 (d0 : Dev nD) : Fin 2 → Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c0_i32_113 v216
  let c128_i32 : BitVec 32 := 128#32
  let v218 : BitVec 32 := Scalar.muli v46 c128_i32
  let v219 : BitVec 32 := Scalar.addi v217 v218
  let v229 : Index := Scalar.indexCast v219
  let c0_124 : Index := 0#32
  ![v229.toNat, 0]
def k0_off13 (d0 : Dev nD) : Fin 2 → Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_126 : BitVec 32 := 256#32
  let v235 : BitVec 32 := Scalar.muli v46 c256_i32_126
  let v236 : BitVec 32 := Scalar.addi c0_i32_127 v235
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_128 : BitVec 32 := 128#32
  let v237 : BitVec 32 := Scalar.muli v19 c128_i32_128
  let v238 : BitVec 32 := Scalar.addi v236 v237
  let v248 : Index := Scalar.indexCast v238
  let c768 : Index := 768#32
  ![v248.toNat, 768]
def k0_off14 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_141 : BitVec 32 := 256#32
  let v254 : BitVec 32 := Scalar.muli v19 c256_i32_141
  let v255 : BitVec 32 := Scalar.addi c0_i32_142 v254
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_143 : BitVec 32 := 128#32
  let v256 : BitVec 32 := Scalar.muli v57 c128_i32_143
  let v257 : BitVec 32 := Scalar.addi v255 v256
  let v267 : Index := Scalar.indexCast v257
  let c1408 : Index := 1408#32
  ![v267.toNat, 1408]
def k0_off15 (d0 : Dev nD) : Fin 2 → Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_156 : BitVec 32 := 256#32
  let v273 : BitVec 32 := Scalar.muli v57 c256_i32_156
  let v274 : BitVec 32 := Scalar.addi c0_i32_157 v273
  let c128_i32_158 : BitVec 32 := 128#32
  let v275 : BitVec 32 := Scalar.muli v46 c128_i32_158
  let v276 : BitVec 32 := Scalar.addi v274 v275
  let c1_i32_159 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v277 : BitVec 32 := Scalar.subi c1_i32_159 v19
  let c64_i32 : BitVec 32 := 64#32
  let v278 : BitVec 32 := Scalar.muli v277 c64_i32
  let v279 : BitVec 32 := Scalar.addi v276 v278
  let v285 : Index := Scalar.indexCast v279
  let c0_168 : Index := 0#32
  ![v285.toNat, 0]
def k0_dev10 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_175 : BitVec 32 := 1#32
  let v292 : BitVec 32 := Scalar.muli v73 c1_i32_175
  let v293 : BitVec 32 := Scalar.addi c0_i32_176 v292
  v293.toNat
def k0_off16 (d0 : Dev nD) : Fin 2 → Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_180 : BitVec 32 := 256#32
  let v301 : BitVec 32 := Scalar.muli v46 c256_i32_180
  let v302 : BitVec 32 := Scalar.addi c0_i32_181 v301
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_182 : BitVec 32 := 128#32
  let v303 : BitVec 32 := Scalar.muli v19 c128_i32_182
  let v304 : BitVec 32 := Scalar.addi v302 v303
  let c1_i32_183 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v305 : BitVec 32 := Scalar.subi c1_i32_183 v57
  let c64_i32_184 : BitVec 32 := 64#32
  let v306 : BitVec 32 := Scalar.muli v305 c64_i32_184
  let v307 : BitVec 32 := Scalar.addi v304 v306
  let v313 : Index := Scalar.indexCast v307
  let c768_193 : Index := 768#32
  ![v313.toNat, 768]
def k0_dev11 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_200 : BitVec 32 := 1#32
  let v320 : BitVec 32 := Scalar.muli v63 c1_i32_200
  let v321 : BitVec 32 := Scalar.addi c0_i32_201 v320
  v321.toNat
def k0_off17 (d0 : Dev nD) : Fin 2 → Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_206 : BitVec 32 := 256#32
  let v329 : BitVec 32 := Scalar.muli v19 c256_i32_206
  let v330 : BitVec 32 := Scalar.addi c0_i32_207 v329
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_208 : BitVec 32 := 128#32
  let v331 : BitVec 32 := Scalar.muli v57 c128_i32_208
  let v332 : BitVec 32 := Scalar.addi v330 v331
  let c1_i32_209 : BitVec 32 := 1#32
  let v333 : BitVec 32 := Scalar.subi c1_i32_209 v46
  let c64_i32_210 : BitVec 32 := 64#32
  let v334 : BitVec 32 := Scalar.muli v333 c64_i32_210
  let v335 : BitVec 32 := Scalar.addi v332 v334
  let v341 : Index := Scalar.indexCast v335
  let c1408_219 : Index := 1408#32
  ![v341.toNat, 1408]
def k0_dev12 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_226 : BitVec 32 := 1#32
  let v348 : BitVec 32 := Scalar.muli v69 c1_i32_226
  let v349 : BitVec 32 := Scalar.addi c0_i32_227 v348
  v349.toNat
def k0_cond7 (i : grid0.Coords) : BitVec 1 :=
  let arg0 : BitVec 32 := BitVec.ofNat 32 (i 0).val
  let c1_i32_60 : BitVec 32 := 1#32
  let v121 : BitVec 1 := Scalar.cmpi .eq arg0 c1_i32_60
  let arg1 : BitVec 32 := BitVec.ofNat 32 (i 1).val
  let c3_i32 : BitVec 32 := 3#32
  let v122 : BitVec 1 := Scalar.cmpi .eq arg1 c3_i32
  let v123 : BitVec 1 := Scalar.andi v121 v122
  let v124 : BitVec 32 := Scalar.extui v123
  let c0_i32_61 : BitVec 32 := 0#32
  let v125 : BitVec 1 := Scalar.cmpi .ne v124 c0_i32_61
  v125

def k0_off18 (d0 : Dev nD) : Fin 2 → Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c0_i32_113 v216
  let c128_i32 : BitVec 32 := 128#32
  let v218 : BitVec 32 := Scalar.muli v46 c128_i32
  let v219 : BitVec 32 := Scalar.addi v217 v218
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32 : BitVec 32 := 64#32
  let v220 : BitVec 32 := Scalar.muli v19 c64_i32
  let v221 : BitVec 32 := Scalar.addi v219 v220
  let v231 : Index := Scalar.indexCast v221
  let c0_123 : Index := 0#32
  ![v231.toNat, 0]
def k0_off19 (d0 : Dev nD) : Fin 2 → Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_125 : BitVec 32 := 256#32
  let v237 : BitVec 32 := Scalar.muli v46 c256_i32_125
  let v238 : BitVec 32 := Scalar.addi c0_i32_126 v237
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_127 : BitVec 32 := 128#32
  let v239 : BitVec 32 := Scalar.muli v19 c128_i32_127
  let v240 : BitVec 32 := Scalar.addi v238 v239
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c64_i32_128 : BitVec 32 := 64#32
  let v241 : BitVec 32 := Scalar.muli v57 c64_i32_128
  let v242 : BitVec 32 := Scalar.addi v240 v241
  let v252 : Index := Scalar.indexCast v242
  let c768 : Index := 768#32
  ![v252.toNat, 768]
def k0_off20 (d0 : Dev nD) : Fin 2 → Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_141 : BitVec 32 := 256#32
  let v258 : BitVec 32 := Scalar.muli v19 c256_i32_141
  let v259 : BitVec 32 := Scalar.addi c0_i32_142 v258
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_143 : BitVec 32 := 128#32
  let v260 : BitVec 32 := Scalar.muli v57 c128_i32_143
  let v261 : BitVec 32 := Scalar.addi v259 v260
  let c64_i32_144 : BitVec 32 := 64#32
  let v262 : BitVec 32 := Scalar.muli v46 c64_i32_144
  let v263 : BitVec 32 := Scalar.addi v261 v262
  let v273 : Index := Scalar.indexCast v263
  let c1408 : Index := 1408#32
  ![v273.toNat, 1408]
def k0_dev13 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_175 : BitVec 32 := 1#32
  let v297 : BitVec 32 := Scalar.muli v73 c1_i32_175
  let v298 : BitVec 32 := Scalar.addi c0_i32_176 v297
  v298.toNat
def k0_dev14 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_199 : BitVec 32 := 1#32
  let v324 : BitVec 32 := Scalar.muli v63 c1_i32_199
  let v325 : BitVec 32 := Scalar.addi c0_i32_200 v324
  v325.toNat
def k0_dev15 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_224 : BitVec 32 := 1#32
  let v351 : BitVec 32 := Scalar.muli v69 c1_i32_224
  let v352 : BitVec 32 := Scalar.addi c0_i32_225 v351
  v352.toNat
def k0_cond8 (i : grid0.Coords) : BitVec 1 :=
  let arg0 : BitVec 32 := BitVec.ofNat 32 (i 0).val
  let c1_i32_62 : BitVec 32 := 1#32
  let v126 : BitVec 1 := Scalar.cmpi .eq arg0 c1_i32_62
  let arg1 : BitVec 32 := BitVec.ofNat 32 (i 1).val
  let c4_i32_63 : BitVec 32 := 4#32
  let v127 : BitVec 1 := Scalar.cmpi .eq arg1 c4_i32_63
  let v128 : BitVec 1 := Scalar.andi v126 v127
  let v129 : BitVec 32 := Scalar.extui v128
  let c0_i32_64 : BitVec 32 := 0#32
  let v130 : BitVec 1 := Scalar.cmpi .ne v129 c0_i32_64
  v130

def k0_off21 (d0 : Dev nD) : Fin 2 → Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c0_i32_113 v216
  let c128_i32 : BitVec 32 := 128#32
  let v218 : BitVec 32 := Scalar.muli v46 c128_i32
  let v219 : BitVec 32 := Scalar.addi v217 v218
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32 : BitVec 32 := 64#32
  let v220 : BitVec 32 := Scalar.muli v19 c64_i32
  let v221 : BitVec 32 := Scalar.addi v219 v220
  let c1_i32_115 : BitVec 32 := 1#32
  let c2_i32_114 : BitVec 32 := 2#32
  let v222 : BitVec 32 := Scalar.muli c2_i32_114 v19
  let v223 : BitVec 32 := Scalar.subi c1_i32_115 v222
  let c64_i32_116 : BitVec 32 := 64#32
  let v224 : BitVec 32 := Scalar.muli v223 c64_i32_116
  let v225 : BitVec 32 := Scalar.addi v221 v224
  let v235 : Index := Scalar.indexCast v225
  let c0_126 : Index := 0#32
  ![v235.toNat, 0]
def k0_off22 (d0 : Dev nD) : Fin 2 → Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_127 : BitVec 32 := 256#32
  let v237 : BitVec 32 := Scalar.muli v46 c256_i32_127
  let v238 : BitVec 32 := Scalar.addi c0_i32_128 v237
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_129 : BitVec 32 := 128#32
  let v239 : BitVec 32 := Scalar.muli v19 c128_i32_129
  let v240 : BitVec 32 := Scalar.addi v238 v239
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c64_i32_130 : BitVec 32 := 64#32
  let v241 : BitVec 32 := Scalar.muli v57 c64_i32_130
  let v242 : BitVec 32 := Scalar.addi v240 v241
  let c1_i32_132 : BitVec 32 := 1#32
  let c2_i32_131 : BitVec 32 := 2#32
  let v243 : BitVec 32 := Scalar.muli c2_i32_131 v57
  let v244 : BitVec 32 := Scalar.subi c1_i32_132 v243
  let c64_i32_133 : BitVec 32 := 64#32
  let v245 : BitVec 32 := Scalar.muli v244 c64_i32_133
  let v246 : BitVec 32 := Scalar.addi v242 v245
  let v256 : Index := Scalar.indexCast v246
  let c768 : Index := 768#32
  ![v256.toNat, 768]
def k0_off23 (d0 : Dev nD) : Fin 2 → Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_145 : BitVec 32 := 256#32
  let v258 : BitVec 32 := Scalar.muli v19 c256_i32_145
  let v259 : BitVec 32 := Scalar.addi c0_i32_146 v258
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_147 : BitVec 32 := 128#32
  let v260 : BitVec 32 := Scalar.muli v57 c128_i32_147
  let v261 : BitVec 32 := Scalar.addi v259 v260
  let c64_i32_148 : BitVec 32 := 64#32
  let v262 : BitVec 32 := Scalar.muli v46 c64_i32_148
  let v263 : BitVec 32 := Scalar.addi v261 v262
  let c1_i32_150 : BitVec 32 := 1#32
  let c2_i32_149 : BitVec 32 := 2#32
  let v264 : BitVec 32 := Scalar.muli c2_i32_149 v46
  let v265 : BitVec 32 := Scalar.subi c1_i32_150 v264
  let c64_i32_151 : BitVec 32 := 64#32
  let v266 : BitVec 32 := Scalar.muli v265 c64_i32_151
  let v267 : BitVec 32 := Scalar.addi v263 v266
  let v277 : Index := Scalar.indexCast v267
  let c1408 : Index := 1408#32
  ![v277.toNat, 1408]
def k0_off24 (d0 : Dev nD) : Fin 2 → Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_163 : BitVec 32 := 256#32
  let v279 : BitVec 32 := Scalar.muli v57 c256_i32_163
  let v280 : BitVec 32 := Scalar.addi c0_i32_164 v279
  let c128_i32_165 : BitVec 32 := 128#32
  let v281 : BitVec 32 := Scalar.muli v46 c128_i32_165
  let v282 : BitVec 32 := Scalar.addi v280 v281
  let v288 : Index := Scalar.indexCast v282
  let c0_173 : Index := 0#32
  ![v288.toNat, 0]
def k0_dev16 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_180 : BitVec 32 := 1#32
  let v295 : BitVec 32 := Scalar.muli v69 c1_i32_180
  let v296 : BitVec 32 := Scalar.addi c0_i32_181 v295
  v296.toNat
def k0_off25 (d0 : Dev nD) : Fin 2 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_185 : BitVec 32 := 256#32
  let v304 : BitVec 32 := Scalar.muli v46 c256_i32_185
  let v305 : BitVec 32 := Scalar.addi c0_i32_186 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_187 : BitVec 32 := 128#32
  let v306 : BitVec 32 := Scalar.muli v19 c128_i32_187
  let v307 : BitVec 32 := Scalar.addi v305 v306
  let v313 : Index := Scalar.indexCast v307
  let c768_196 : Index := 768#32
  ![v313.toNat, 768]
def k0_dev17 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_203 : BitVec 32 := 1#32
  let v320 : BitVec 32 := Scalar.muli v73 c1_i32_203
  let v321 : BitVec 32 := Scalar.addi c0_i32_204 v320
  v321.toNat
def k0_off26 (d0 : Dev nD) : Fin 2 → Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_209 : BitVec 32 := 256#32
  let v329 : BitVec 32 := Scalar.muli v19 c256_i32_209
  let v330 : BitVec 32 := Scalar.addi c0_i32_210 v329
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_211 : BitVec 32 := 128#32
  let v331 : BitVec 32 := Scalar.muli v57 c128_i32_211
  let v332 : BitVec 32 := Scalar.addi v330 v331
  let v338 : Index := Scalar.indexCast v332
  let c1408_220 : Index := 1408#32
  ![v338.toNat, 1408]
def k0_dev18 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_227 : BitVec 32 := 1#32
  let v345 : BitVec 32 := Scalar.muli v63 c1_i32_227
  let v346 : BitVec 32 := Scalar.addi c0_i32_228 v345
  v346.toNat
def k0_cond9 (i : grid0.Coords) : BitVec 1 :=
  let arg0 : BitVec 32 := BitVec.ofNat 32 (i 0).val
  let c1_i32_65 : BitVec 32 := 1#32
  let v131 : BitVec 1 := Scalar.cmpi .eq arg0 c1_i32_65
  let arg1 : BitVec 32 := BitVec.ofNat 32 (i 1).val
  let c5_i32 : BitVec 32 := 5#32
  let v132 : BitVec 1 := Scalar.cmpi .eq arg1 c5_i32
  let v133 : BitVec 1 := Scalar.andi v131 v132
  let v134 : BitVec 32 := Scalar.extui v133
  let c0_i32_66 : BitVec 32 := 0#32
  let v135 : BitVec 1 := Scalar.cmpi .ne v134 c0_i32_66
  v135

def k0_off27 (d0 : Dev nD) : Fin 2 → Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c0_i32_113 v216
  let c128_i32 : BitVec 32 := 128#32
  let v218 : BitVec 32 := Scalar.muli v46 c128_i32
  let v219 : BitVec 32 := Scalar.addi v217 v218
  let c1_i32_115 : BitVec 32 := 1#32
  let c2_i32_114 : BitVec 32 := 2#32
  let v220 : BitVec 32 := Scalar.muli c2_i32_114 v46
  let v221 : BitVec 32 := Scalar.subi c1_i32_115 v220
  let c128_i32_116 : BitVec 32 := 128#32
  let v222 : BitVec 32 := Scalar.muli v221 c128_i32_116
  let v223 : BitVec 32 := Scalar.addi v219 v222
  let v233 : Index := Scalar.indexCast v223
  let c0_126 : Index := 0#32
  ![v233.toNat, 0]
def k0_off28 (d0 : Dev nD) : Fin 2 → Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_127 : BitVec 32 := 256#32
  let v235 : BitVec 32 := Scalar.muli v46 c256_i32_127
  let v236 : BitVec 32 := Scalar.addi c0_i32_128 v235
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_129 : BitVec 32 := 128#32
  let v237 : BitVec 32 := Scalar.muli v19 c128_i32_129
  let v238 : BitVec 32 := Scalar.addi v236 v237
  let c1_i32_131 : BitVec 32 := 1#32
  let c2_i32_130 : BitVec 32 := 2#32
  let v239 : BitVec 32 := Scalar.muli c2_i32_130 v19
  let v240 : BitVec 32 := Scalar.subi c1_i32_131 v239
  let c128_i32_132 : BitVec 32 := 128#32
  let v241 : BitVec 32 := Scalar.muli v240 c128_i32_132
  let v242 : BitVec 32 := Scalar.addi v238 v241
  let v252 : Index := Scalar.indexCast v242
  let c768 : Index := 768#32
  ![v252.toNat, 768]
def k0_off29 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_144 : BitVec 32 := 256#32
  let v254 : BitVec 32 := Scalar.muli v19 c256_i32_144
  let v255 : BitVec 32 := Scalar.addi c0_i32_145 v254
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_146 : BitVec 32 := 128#32
  let v256 : BitVec 32 := Scalar.muli v57 c128_i32_146
  let v257 : BitVec 32 := Scalar.addi v255 v256
  let c1_i32_148 : BitVec 32 := 1#32
  let c2_i32_147 : BitVec 32 := 2#32
  let v258 : BitVec 32 := Scalar.muli c2_i32_147 v57
  let v259 : BitVec 32 := Scalar.subi c1_i32_148 v258
  let c128_i32_149 : BitVec 32 := 128#32
  let v260 : BitVec 32 := Scalar.muli v259 c128_i32_149
  let v261 : BitVec 32 := Scalar.addi v257 v260
  let v271 : Index := Scalar.indexCast v261
  let c1408 : Index := 1408#32
  ![v271.toNat, 1408]
def k0_off30 (d0 : Dev nD) : Fin 2 → Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_161 : BitVec 32 := 256#32
  let v273 : BitVec 32 := Scalar.muli v57 c256_i32_161
  let v274 : BitVec 32 := Scalar.addi c0_i32_162 v273
  let v280 : Index := Scalar.indexCast v274
  let c0_170 : Index := 0#32
  ![v280.toNat, 0]
def k0_dev19 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_176 : BitVec 32 := 1#32
  let v287 : BitVec 32 := Scalar.muli v63 c1_i32_176
  let v288 : BitVec 32 := Scalar.addi c0_i32_177 v287
  v288.toNat
def k0_off31 (d0 : Dev nD) : Fin 2 → Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_181 : BitVec 32 := 256#32
  let v296 : BitVec 32 := Scalar.muli v46 c256_i32_181
  let v297 : BitVec 32 := Scalar.addi c0_i32_182 v296
  let v303 : Index := Scalar.indexCast v297
  let c768_191 : Index := 768#32
  ![v303.toNat, 768]
def k0_dev20 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_198 : BitVec 32 := 1#32
  let v310 : BitVec 32 := Scalar.muli v69 c1_i32_198
  let v311 : BitVec 32 := Scalar.addi c0_i32_199 v310
  v311.toNat
def k0_off32 (d0 : Dev nD) : Fin 2 → Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_204 : BitVec 32 := 256#32
  let v319 : BitVec 32 := Scalar.muli v19 c256_i32_204
  let v320 : BitVec 32 := Scalar.addi c0_i32_205 v319
  let v326 : Index := Scalar.indexCast v320
  let c1408_214 : Index := 1408#32
  ![v326.toNat, 1408]
def k0_dev21 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_221 : BitVec 32 := 1#32
  let v333 : BitVec 32 := Scalar.muli v73 c1_i32_221
  let v334 : BitVec 32 := Scalar.addi c0_i32_222 v333
  v334.toNat
def k0_cond10 (i : grid0.Coords) : BitVec 1 :=
  let arg0 : BitVec 32 := BitVec.ofNat 32 (i 0).val
  let c1_i32_67 : BitVec 32 := 1#32
  let v136 : BitVec 1 := Scalar.cmpi .eq arg0 c1_i32_67
  let arg1 : BitVec 32 := BitVec.ofNat 32 (i 1).val
  let c6_i32 : BitVec 32 := 6#32
  let v137 : BitVec 1 := Scalar.cmpi .eq arg1 c6_i32
  let v138 : BitVec 1 := Scalar.andi v136 v137
  let v139 : BitVec 32 := Scalar.extui v138
  let c0_i32_68 : BitVec 32 := 0#32
  let v140 : BitVec 1 := Scalar.cmpi .ne v139 c0_i32_68
  v140

def k0_off33 (d0 : Dev nD) : Fin 2 → Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c0_i32_113 v216
  let c1_i32_115 : BitVec 32 := 1#32
  let c2_i32_114 : BitVec 32 := 2#32
  let v218 : BitVec 32 := Scalar.muli c2_i32_114 v57
  let v219 : BitVec 32 := Scalar.subi c1_i32_115 v218
  let c256_i32_116 : BitVec 32 := 256#32
  let v220 : BitVec 32 := Scalar.muli v219 c256_i32_116
  let v221 : BitVec 32 := Scalar.addi v217 v220
  let v231 : Index := Scalar.indexCast v221
  let c0_126 : Index := 0#32
  ![v231.toNat, 0]
def k0_off34 (d0 : Dev nD) : Fin 2 → Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_127 : BitVec 32 := 256#32
  let v233 : BitVec 32 := Scalar.muli v46 c256_i32_127
  let v234 : BitVec 32 := Scalar.addi c0_i32_128 v233
  let c1_i32_130 : BitVec 32 := 1#32
  let c2_i32_129 : BitVec 32 := 2#32
  let v235 : BitVec 32 := Scalar.muli c2_i32_129 v46
  let v236 : BitVec 32 := Scalar.subi c1_i32_130 v235
  let c256_i32_131 : BitVec 32 := 256#32
  let v237 : BitVec 32 := Scalar.muli v236 c256_i32_131
  let v238 : BitVec 32 := Scalar.addi v234 v237
  let v248 : Index := Scalar.indexCast v238
  let c768 : Index := 768#32
  ![v248.toNat, 768]
def k0_off35 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_143 : BitVec 32 := 256#32
  let v250 : BitVec 32 := Scalar.muli v19 c256_i32_143
  let v251 : BitVec 32 := Scalar.addi c0_i32_144 v250
  let c1_i32_146 : BitVec 32 := 1#32
  let c2_i32_145 : BitVec 32 := 2#32
  let v252 : BitVec 32 := Scalar.muli c2_i32_145 v19
  let v253 : BitVec 32 := Scalar.subi c1_i32_146 v252
  let c256_i32_147 : BitVec 32 := 256#32
  let v254 : BitVec 32 := Scalar.muli v253 c256_i32_147
  let v255 : BitVec 32 := Scalar.addi v251 v254
  let v265 : Index := Scalar.indexCast v255
  let c1408 : Index := 1408#32
  ![v265.toNat, 1408]
def k0_cond11 (i : grid0.Coords) : BitVec 1 :=
  let arg0 : BitVec 32 := BitVec.ofNat 32 (i 0).val
  let c2_i32_69 : BitVec 32 := 2#32
  let v141 : BitVec 1 := Scalar.cmpi .eq arg0 c2_i32_69
  let arg1 : BitVec 32 := BitVec.ofNat 32 (i 1).val
  let c0_i32_70 : BitVec 32 := 0#32
  let v142 : BitVec 1 := Scalar.cmpi .eq arg1 c0_i32_70
  let v143 : BitVec 1 := Scalar.andi v141 v142
  let v144 : BitVec 32 := Scalar.extui v143
  let c0_i32_71 : BitVec 32 := 0#32
  let v145 : BitVec 1 := Scalar.cmpi .ne v144 c0_i32_71
  v145

def k0_off36 (d0 : Dev nD) : Fin 2 → Nat :=
  let c512_i32 : BitVec 32 := 512#32
  let c1_i32_113 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v216 : BitVec 32 := Scalar.subi c1_i32_113 v57
  let c256_i32 : BitVec 32 := 256#32
  let v217 : BitVec 32 := Scalar.muli v216 c256_i32
  let v218 : BitVec 32 := Scalar.addi c512_i32 v217
  let v224 : Index := Scalar.indexCast v218
  let c0_122 : Index := 0#32
  ![v224.toNat, 0]
def k0_dev22 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_129 : BitVec 32 := 1#32
  let v231 : BitVec 32 := Scalar.muli v63 c1_i32_129
  let v232 : BitVec 32 := Scalar.addi c0_i32_130 v231
  v232.toNat
def k0_off37 (d0 : Dev nD) : Fin 2 → Nat :=
  let c512_i32_137 : BitVec 32 := 512#32
  let c1_i32_135 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v240 : BitVec 32 := Scalar.subi c1_i32_135 v46
  let c256_i32_136 : BitVec 32 := 256#32
  let v241 : BitVec 32 := Scalar.muli v240 c256_i32_136
  let v242 : BitVec 32 := Scalar.addi c512_i32_137 v241
  let v248 : Index := Scalar.indexCast v242
  let c768 : Index := 768#32
  ![v248.toNat, 768]
def k0_dev23 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_152 : BitVec 32 := 1#32
  let v255 : BitVec 32 := Scalar.muli v69 c1_i32_152
  let v256 : BitVec 32 := Scalar.addi c0_i32_153 v255
  v256.toNat
def k0_off38 (d0 : Dev nD) : Fin 2 → Nat :=
  let c512_i32_160 : BitVec 32 := 512#32
  let c1_i32_158 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v264 : BitVec 32 := Scalar.subi c1_i32_158 v19
  let c256_i32_159 : BitVec 32 := 256#32
  let v265 : BitVec 32 := Scalar.muli v264 c256_i32_159
  let v266 : BitVec 32 := Scalar.addi c512_i32_160 v265
  let v272 : Index := Scalar.indexCast v266
  let c1408 : Index := 1408#32
  ![v272.toNat, 1408]
def k0_dev24 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_175 : BitVec 32 := 1#32
  let v279 : BitVec 32 := Scalar.muli v73 c1_i32_175
  let v280 : BitVec 32 := Scalar.addi c0_i32_176 v279
  v280.toNat
def k0_cond12 (i : grid0.Coords) : BitVec 1 :=
  let arg0 : BitVec 32 := BitVec.ofNat 32 (i 0).val
  let c2_i32_72 : BitVec 32 := 2#32
  let v146 : BitVec 1 := Scalar.cmpi .eq arg0 c2_i32_72
  let arg1 : BitVec 32 := BitVec.ofNat 32 (i 1).val
  let c1_i32_73 : BitVec 32 := 1#32
  let v147 : BitVec 1 := Scalar.cmpi .eq arg1 c1_i32_73
  let v148 : BitVec 1 := Scalar.andi v146 v147
  let v149 : BitVec 32 := Scalar.extui v148
  let c0_i32_74 : BitVec 32 := 0#32
  let v150 : BitVec 1 := Scalar.cmpi .ne v149 c0_i32_74
  v150

def k0_off39 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c512_i32 v216
  let v227 : Index := Scalar.indexCast v217
  let c0_124 : Index := 0#32
  ![v227.toNat, 0]
def k0_off40 (d0 : Dev nD) : Fin 2 → Nat :=
  let c512_i32_127 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_126 : BitVec 32 := 256#32
  let v233 : BitVec 32 := Scalar.muli v46 c256_i32_126
  let v234 : BitVec 32 := Scalar.addi c512_i32_127 v233
  let v244 : Index := Scalar.indexCast v234
  let c768 : Index := 768#32
  ![v244.toNat, 768]
def k0_off41 (d0 : Dev nD) : Fin 2 → Nat :=
  let c512_i32_141 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_140 : BitVec 32 := 256#32
  let v250 : BitVec 32 := Scalar.muli v19 c256_i32_140
  let v251 : BitVec 32 := Scalar.addi c512_i32_141 v250
  let v261 : Index := Scalar.indexCast v251
  let c1408 : Index := 1408#32
  ![v261.toNat, 1408]
def k0_off42 (d0 : Dev nD) : Fin 2 → Nat :=
  let c512_i32_155 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_154 : BitVec 32 := 256#32
  let v267 : BitVec 32 := Scalar.muli v57 c256_i32_154
  let v268 : BitVec 32 := Scalar.addi c512_i32_155 v267
  let c1_i32_156 : BitVec 32 := 1#32
  let v269 : BitVec 32 := Scalar.subi c1_i32_156 v46
  let c128_i32 : BitVec 32 := 128#32
  let v270 : BitVec 32 := Scalar.muli v269 c128_i32
  let v271 : BitVec 32 := Scalar.addi v268 v270
  let v277 : Index := Scalar.indexCast v271
  let c0_164 : Index := 0#32
  ![v277.toNat, 0]
def k0_dev25 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_170 : BitVec 32 := 1#32
  let v284 : BitVec 32 := Scalar.muli v69 c1_i32_170
  let v285 : BitVec 32 := Scalar.addi c0_i32_171 v284
  v285.toNat
def k0_off43 (d0 : Dev nD) : Fin 2 → Nat :=
  let c512_i32_177 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_176 : BitVec 32 := 256#32
  let v293 : BitVec 32 := Scalar.muli v46 c256_i32_176
  let v294 : BitVec 32 := Scalar.addi c512_i32_177 v293
  let c1_i32_178 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v295 : BitVec 32 := Scalar.subi c1_i32_178 v19
  let c128_i32_179 : BitVec 32 := 128#32
  let v296 : BitVec 32 := Scalar.muli v295 c128_i32_179
  let v297 : BitVec 32 := Scalar.addi v294 v296
  let v303 : Index := Scalar.indexCast v297
  let c768_188 : Index := 768#32
  ![v303.toNat, 768]
def k0_dev26 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_195 : BitVec 32 := 1#32
  let v310 : BitVec 32 := Scalar.muli v73 c1_i32_195
  let v311 : BitVec 32 := Scalar.addi c0_i32_196 v310
  v311.toNat
def k0_off44 (d0 : Dev nD) : Fin 2 → Nat :=
  let c512_i32_202 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_201 : BitVec 32 := 256#32
  let v319 : BitVec 32 := Scalar.muli v19 c256_i32_201
  let v320 : BitVec 32 := Scalar.addi c512_i32_202 v319
  let c1_i32_203 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v321 : BitVec 32 := Scalar.subi c1_i32_203 v57
  let c128_i32_204 : BitVec 32 := 128#32
  let v322 : BitVec 32 := Scalar.muli v321 c128_i32_204
  let v323 : BitVec 32 := Scalar.addi v320 v322
  let v329 : Index := Scalar.indexCast v323
  let c1408_213 : Index := 1408#32
  ![v329.toNat, 1408]
def k0_dev27 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_220 : BitVec 32 := 1#32
  let v336 : BitVec 32 := Scalar.muli v63 c1_i32_220
  let v337 : BitVec 32 := Scalar.addi c0_i32_221 v336
  v337.toNat
def k0_cond13 (i : grid0.Coords) : BitVec 1 :=
  let arg0 : BitVec 32 := BitVec.ofNat 32 (i 0).val
  let c2_i32_75 : BitVec 32 := 2#32
  let v151 : BitVec 1 := Scalar.cmpi .eq arg0 c2_i32_75
  let arg1 : BitVec 32 := BitVec.ofNat 32 (i 1).val
  let c2_i32_76 : BitVec 32 := 2#32
  let v152 : BitVec 1 := Scalar.cmpi .eq arg1 c2_i32_76
  let v153 : BitVec 1 := Scalar.andi v151 v152
  let v154 : BitVec 32 := Scalar.extui v153
  let c0_i32_77 : BitVec 32 := 0#32
  let v155 : BitVec 1 := Scalar.cmpi .ne v154 c0_i32_77
  v155

def k0_off45 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c512_i32 v216
  let c128_i32 : BitVec 32 := 128#32
  let v218 : BitVec 32 := Scalar.muli v46 c128_i32
  let v219 : BitVec 32 := Scalar.addi v217 v218
  let v229 : Index := Scalar.indexCast v219
  let c0_123 : Index := 0#32
  ![v229.toNat, 0]
def k0_off46 (d0 : Dev nD) : Fin 2 → Nat :=
  let c512_i32_126 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_125 : BitVec 32 := 256#32
  let v235 : BitVec 32 := Scalar.muli v46 c256_i32_125
  let v236 : BitVec 32 := Scalar.addi c512_i32_126 v235
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_127 : BitVec 32 := 128#32
  let v237 : BitVec 32 := Scalar.muli v19 c128_i32_127
  let v238 : BitVec 32 := Scalar.addi v236 v237
  let v248 : Index := Scalar.indexCast v238
  let c768 : Index := 768#32
  ![v248.toNat, 768]
def k0_off47 (d0 : Dev nD) : Fin 2 → Nat :=
  let c512_i32_141 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_140 : BitVec 32 := 256#32
  let v254 : BitVec 32 := Scalar.muli v19 c256_i32_140
  let v255 : BitVec 32 := Scalar.addi c512_i32_141 v254
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_142 : BitVec 32 := 128#32
  let v256 : BitVec 32 := Scalar.muli v57 c128_i32_142
  let v257 : BitVec 32 := Scalar.addi v255 v256
  let v267 : Index := Scalar.indexCast v257
  let c1408 : Index := 1408#32
  ![v267.toNat, 1408]
def k0_off48 (d0 : Dev nD) : Fin 2 → Nat :=
  let c512_i32_156 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_155 : BitVec 32 := 256#32
  let v273 : BitVec 32 := Scalar.muli v57 c256_i32_155
  let v274 : BitVec 32 := Scalar.addi c512_i32_156 v273
  let c128_i32_157 : BitVec 32 := 128#32
  let v275 : BitVec 32 := Scalar.muli v46 c128_i32_157
  let v276 : BitVec 32 := Scalar.addi v274 v275
  let c1_i32_158 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v277 : BitVec 32 := Scalar.subi c1_i32_158 v19
  let c64_i32 : BitVec 32 := 64#32
  let v278 : BitVec 32 := Scalar.muli v277 c64_i32
  let v279 : BitVec 32 := Scalar.addi v276 v278
  let v285 : Index := Scalar.indexCast v279
  let c0_167 : Index := 0#32
  ![v285.toNat, 0]
def k0_dev28 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_174 : BitVec 32 := 1#32
  let v292 : BitVec 32 := Scalar.muli v73 c1_i32_174
  let v293 : BitVec 32 := Scalar.addi c0_i32_175 v292
  v293.toNat
def k0_off49 (d0 : Dev nD) : Fin 2 → Nat :=
  let c512_i32_180 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_179 : BitVec 32 := 256#32
  let v301 : BitVec 32 := Scalar.muli v46 c256_i32_179
  let v302 : BitVec 32 := Scalar.addi c512_i32_180 v301
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_181 : BitVec 32 := 128#32
  let v303 : BitVec 32 := Scalar.muli v19 c128_i32_181
  let v304 : BitVec 32 := Scalar.addi v302 v303
  let c1_i32_182 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v305 : BitVec 32 := Scalar.subi c1_i32_182 v57
  let c64_i32_183 : BitVec 32 := 64#32
  let v306 : BitVec 32 := Scalar.muli v305 c64_i32_183
  let v307 : BitVec 32 := Scalar.addi v304 v306
  let v313 : Index := Scalar.indexCast v307
  let c768_192 : Index := 768#32
  ![v313.toNat, 768]
def k0_dev29 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_199 : BitVec 32 := 1#32
  let v320 : BitVec 32 := Scalar.muli v63 c1_i32_199
  let v321 : BitVec 32 := Scalar.addi c0_i32_200 v320
  v321.toNat
def k0_off50 (d0 : Dev nD) : Fin 2 → Nat :=
  let c512_i32_206 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_205 : BitVec 32 := 256#32
  let v329 : BitVec 32 := Scalar.muli v19 c256_i32_205
  let v330 : BitVec 32 := Scalar.addi c512_i32_206 v329
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_207 : BitVec 32 := 128#32
  let v331 : BitVec 32 := Scalar.muli v57 c128_i32_207
  let v332 : BitVec 32 := Scalar.addi v330 v331
  let c1_i32_208 : BitVec 32 := 1#32
  let v333 : BitVec 32 := Scalar.subi c1_i32_208 v46
  let c64_i32_209 : BitVec 32 := 64#32
  let v334 : BitVec 32 := Scalar.muli v333 c64_i32_209
  let v335 : BitVec 32 := Scalar.addi v332 v334
  let v341 : Index := Scalar.indexCast v335
  let c1408_218 : Index := 1408#32
  ![v341.toNat, 1408]
def k0_dev30 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_225 : BitVec 32 := 1#32
  let v348 : BitVec 32 := Scalar.muli v69 c1_i32_225
  let v349 : BitVec 32 := Scalar.addi c0_i32_226 v348
  v349.toNat
def k0_cond14 (i : grid0.Coords) : BitVec 1 :=
  let arg0 : BitVec 32 := BitVec.ofNat 32 (i 0).val
  let c2_i32_78 : BitVec 32 := 2#32
  let v156 : BitVec 1 := Scalar.cmpi .eq arg0 c2_i32_78
  let arg1 : BitVec 32 := BitVec.ofNat 32 (i 1).val
  let c3_i32_79 : BitVec 32 := 3#32
  let v157 : BitVec 1 := Scalar.cmpi .eq arg1 c3_i32_79
  let v158 : BitVec 1 := Scalar.andi v156 v157
  let v159 : BitVec 32 := Scalar.extui v158
  let c0_i32_80 : BitVec 32 := 0#32
  let v160 : BitVec 1 := Scalar.cmpi .ne v159 c0_i32_80
  v160

def k0_off51 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c512_i32 v216
  let c128_i32 : BitVec 32 := 128#32
  let v218 : BitVec 32 := Scalar.muli v46 c128_i32
  let v219 : BitVec 32 := Scalar.addi v217 v218
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32 : BitVec 32 := 64#32
  let v220 : BitVec 32 := Scalar.muli v19 c64_i32
  let v221 : BitVec 32 := Scalar.addi v219 v220
  let v231 : Index := Scalar.indexCast v221
  let c0_122 : Index := 0#32
  ![v231.toNat, 0]
def k0_off52 (d0 : Dev nD) : Fin 2 → Nat :=
  let c512_i32_125 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_124 : BitVec 32 := 256#32
  let v237 : BitVec 32 := Scalar.muli v46 c256_i32_124
  let v238 : BitVec 32 := Scalar.addi c512_i32_125 v237
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_126 : BitVec 32 := 128#32
  let v239 : BitVec 32 := Scalar.muli v19 c128_i32_126
  let v240 : BitVec 32 := Scalar.addi v238 v239
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c64_i32_127 : BitVec 32 := 64#32
  let v241 : BitVec 32 := Scalar.muli v57 c64_i32_127
  let v242 : BitVec 32 := Scalar.addi v240 v241
  let v252 : Index := Scalar.indexCast v242
  let c768 : Index := 768#32
  ![v252.toNat, 768]
def k0_off53 (d0 : Dev nD) : Fin 2 → Nat :=
  let c512_i32_141 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_140 : BitVec 32 := 256#32
  let v258 : BitVec 32 := Scalar.muli v19 c256_i32_140
  let v259 : BitVec 32 := Scalar.addi c512_i32_141 v258
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_142 : BitVec 32 := 128#32
  let v260 : BitVec 32 := Scalar.muli v57 c128_i32_142
  let v261 : BitVec 32 := Scalar.addi v259 v260
  let c64_i32_143 : BitVec 32 := 64#32
  let v262 : BitVec 32 := Scalar.muli v46 c64_i32_143
  let v263 : BitVec 32 := Scalar.addi v261 v262
  let v273 : Index := Scalar.indexCast v263
  let c1408 : Index := 1408#32
  ![v273.toNat, 1408]
def k0_dev31 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_173 : BitVec 32 := 1#32
  let v297 : BitVec 32 := Scalar.muli v73 c1_i32_173
  let v298 : BitVec 32 := Scalar.addi c0_i32_174 v297
  v298.toNat
def k0_dev32 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_197 : BitVec 32 := 1#32
  let v324 : BitVec 32 := Scalar.muli v63 c1_i32_197
  let v325 : BitVec 32 := Scalar.addi c0_i32_198 v324
  v325.toNat
def k0_dev33 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_222 : BitVec 32 := 1#32
  let v351 : BitVec 32 := Scalar.muli v69 c1_i32_222
  let v352 : BitVec 32 := Scalar.addi c0_i32_223 v351
  v352.toNat
def k0_cond15 (i : grid0.Coords) : BitVec 1 :=
  let arg0 : BitVec 32 := BitVec.ofNat 32 (i 0).val
  let c2_i32_81 : BitVec 32 := 2#32
  let v161 : BitVec 1 := Scalar.cmpi .eq arg0 c2_i32_81
  let arg1 : BitVec 32 := BitVec.ofNat 32 (i 1).val
  let c4_i32_82 : BitVec 32 := 4#32
  let v162 : BitVec 1 := Scalar.cmpi .eq arg1 c4_i32_82
  let v163 : BitVec 1 := Scalar.andi v161 v162
  let v164 : BitVec 32 := Scalar.extui v163
  let c0_i32_83 : BitVec 32 := 0#32
  let v165 : BitVec 1 := Scalar.cmpi .ne v164 c0_i32_83
  v165

def k0_off54 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c512_i32 v216
  let c128_i32 : BitVec 32 := 128#32
  let v218 : BitVec 32 := Scalar.muli v46 c128_i32
  let v219 : BitVec 32 := Scalar.addi v217 v218
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32 : BitVec 32 := 64#32
  let v220 : BitVec 32 := Scalar.muli v19 c64_i32
  let v221 : BitVec 32 := Scalar.addi v219 v220
  let c1_i32_114 : BitVec 32 := 1#32
  let c2_i32_113 : BitVec 32 := 2#32
  let v222 : BitVec 32 := Scalar.muli c2_i32_113 v19
  let v223 : BitVec 32 := Scalar.subi c1_i32_114 v222
  let c64_i32_115 : BitVec 32 := 64#32
  let v224 : BitVec 32 := Scalar.muli v223 c64_i32_115
  let v225 : BitVec 32 := Scalar.addi v221 v224
  let v235 : Index := Scalar.indexCast v225
  let c0_124 : Index := 0#32
  ![v235.toNat, 0]
def k0_off55 (d0 : Dev nD) : Fin 2 → Nat :=
  let c512_i32_126 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_125 : BitVec 32 := 256#32
  let v237 : BitVec 32 := Scalar.muli v46 c256_i32_125
  let v238 : BitVec 32 := Scalar.addi c512_i32_126 v237
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_127 : BitVec 32 := 128#32
  let v239 : BitVec 32 := Scalar.muli v19 c128_i32_127
  let v240 : BitVec 32 := Scalar.addi v238 v239
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c64_i32_128 : BitVec 32 := 64#32
  let v241 : BitVec 32 := Scalar.muli v57 c64_i32_128
  let v242 : BitVec 32 := Scalar.addi v240 v241
  let c1_i32_130 : BitVec 32 := 1#32
  let c2_i32_129 : BitVec 32 := 2#32
  let v243 : BitVec 32 := Scalar.muli c2_i32_129 v57
  let v244 : BitVec 32 := Scalar.subi c1_i32_130 v243
  let c64_i32_131 : BitVec 32 := 64#32
  let v245 : BitVec 32 := Scalar.muli v244 c64_i32_131
  let v246 : BitVec 32 := Scalar.addi v242 v245
  let v256 : Index := Scalar.indexCast v246
  let c768 : Index := 768#32
  ![v256.toNat, 768]
def k0_off56 (d0 : Dev nD) : Fin 2 → Nat :=
  let c512_i32_144 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_143 : BitVec 32 := 256#32
  let v258 : BitVec 32 := Scalar.muli v19 c256_i32_143
  let v259 : BitVec 32 := Scalar.addi c512_i32_144 v258
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_145 : BitVec 32 := 128#32
  let v260 : BitVec 32 := Scalar.muli v57 c128_i32_145
  let v261 : BitVec 32 := Scalar.addi v259 v260
  let c64_i32_146 : BitVec 32 := 64#32
  let v262 : BitVec 32 := Scalar.muli v46 c64_i32_146
  let v263 : BitVec 32 := Scalar.addi v261 v262
  let c1_i32_148 : BitVec 32 := 1#32
  let c2_i32_147 : BitVec 32 := 2#32
  let v264 : BitVec 32 := Scalar.muli c2_i32_147 v46
  let v265 : BitVec 32 := Scalar.subi c1_i32_148 v264
  let c64_i32_149 : BitVec 32 := 64#32
  let v266 : BitVec 32 := Scalar.muli v265 c64_i32_149
  let v267 : BitVec 32 := Scalar.addi v263 v266
  let v277 : Index := Scalar.indexCast v267
  let c1408 : Index := 1408#32
  ![v277.toNat, 1408]
def k0_off57 (d0 : Dev nD) : Fin 2 → Nat :=
  let c512_i32_162 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_161 : BitVec 32 := 256#32
  let v279 : BitVec 32 := Scalar.muli v57 c256_i32_161
  let v280 : BitVec 32 := Scalar.addi c512_i32_162 v279
  let c128_i32_163 : BitVec 32 := 128#32
  let v281 : BitVec 32 := Scalar.muli v46 c128_i32_163
  let v282 : BitVec 32 := Scalar.addi v280 v281
  let v288 : Index := Scalar.indexCast v282
  let c0_171 : Index := 0#32
  ![v288.toNat, 0]
def k0_dev34 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_177 : BitVec 32 := 1#32
  let v295 : BitVec 32 := Scalar.muli v69 c1_i32_177
  let v296 : BitVec 32 := Scalar.addi c0_i32_178 v295
  v296.toNat
def k0_off58 (d0 : Dev nD) : Fin 2 → Nat :=
  let c512_i32_184 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_183 : BitVec 32 := 256#32
  let v304 : BitVec 32 := Scalar.muli v46 c256_i32_183
  let v305 : BitVec 32 := Scalar.addi c512_i32_184 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_185 : BitVec 32 := 128#32
  let v306 : BitVec 32 := Scalar.muli v19 c128_i32_185
  let v307 : BitVec 32 := Scalar.addi v305 v306
  let v313 : Index := Scalar.indexCast v307
  let c768_194 : Index := 768#32
  ![v313.toNat, 768]
def k0_dev35 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_201 : BitVec 32 := 1#32
  let v320 : BitVec 32 := Scalar.muli v73 c1_i32_201
  let v321 : BitVec 32 := Scalar.addi c0_i32_202 v320
  v321.toNat
def k0_off59 (d0 : Dev nD) : Fin 2 → Nat :=
  let c512_i32_208 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_207 : BitVec 32 := 256#32
  let v329 : BitVec 32 := Scalar.muli v19 c256_i32_207
  let v330 : BitVec 32 := Scalar.addi c512_i32_208 v329
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_209 : BitVec 32 := 128#32
  let v331 : BitVec 32 := Scalar.muli v57 c128_i32_209
  let v332 : BitVec 32 := Scalar.addi v330 v331
  let v338 : Index := Scalar.indexCast v332
  let c1408_218 : Index := 1408#32
  ![v338.toNat, 1408]
def k0_dev36 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_225 : BitVec 32 := 1#32
  let v345 : BitVec 32 := Scalar.muli v63 c1_i32_225
  let v346 : BitVec 32 := Scalar.addi c0_i32_226 v345
  v346.toNat
def k0_cond16 (i : grid0.Coords) : BitVec 1 :=
  let arg0 : BitVec 32 := BitVec.ofNat 32 (i 0).val
  let c2_i32_84 : BitVec 32 := 2#32
  let v166 : BitVec 1 := Scalar.cmpi .eq arg0 c2_i32_84
  let arg1 : BitVec 32 := BitVec.ofNat 32 (i 1).val
  let c5_i32_85 : BitVec 32 := 5#32
  let v167 : BitVec 1 := Scalar.cmpi .eq arg1 c5_i32_85
  let v168 : BitVec 1 := Scalar.andi v166 v167
  let v169 : BitVec 32 := Scalar.extui v168
  let c0_i32_86 : BitVec 32 := 0#32
  let v170 : BitVec 1 := Scalar.cmpi .ne v169 c0_i32_86
  v170

def k0_off60 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c512_i32 v216
  let c128_i32 : BitVec 32 := 128#32
  let v218 : BitVec 32 := Scalar.muli v46 c128_i32
  let v219 : BitVec 32 := Scalar.addi v217 v218
  let c1_i32_114 : BitVec 32 := 1#32
  let c2_i32_113 : BitVec 32 := 2#32
  let v220 : BitVec 32 := Scalar.muli c2_i32_113 v46
  let v221 : BitVec 32 := Scalar.subi c1_i32_114 v220
  let c128_i32_115 : BitVec 32 := 128#32
  let v222 : BitVec 32 := Scalar.muli v221 c128_i32_115
  let v223 : BitVec 32 := Scalar.addi v219 v222
  let v233 : Index := Scalar.indexCast v223
  let c0_125 : Index := 0#32
  ![v233.toNat, 0]
def k0_off61 (d0 : Dev nD) : Fin 2 → Nat :=
  let c512_i32_127 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_126 : BitVec 32 := 256#32
  let v235 : BitVec 32 := Scalar.muli v46 c256_i32_126
  let v236 : BitVec 32 := Scalar.addi c512_i32_127 v235
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_128 : BitVec 32 := 128#32
  let v237 : BitVec 32 := Scalar.muli v19 c128_i32_128
  let v238 : BitVec 32 := Scalar.addi v236 v237
  let c1_i32_130 : BitVec 32 := 1#32
  let c2_i32_129 : BitVec 32 := 2#32
  let v239 : BitVec 32 := Scalar.muli c2_i32_129 v19
  let v240 : BitVec 32 := Scalar.subi c1_i32_130 v239
  let c128_i32_131 : BitVec 32 := 128#32
  let v241 : BitVec 32 := Scalar.muli v240 c128_i32_131
  let v242 : BitVec 32 := Scalar.addi v238 v241
  let v252 : Index := Scalar.indexCast v242
  let c768 : Index := 768#32
  ![v252.toNat, 768]
def k0_off62 (d0 : Dev nD) : Fin 2 → Nat :=
  let c512_i32_144 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_143 : BitVec 32 := 256#32
  let v254 : BitVec 32 := Scalar.muli v19 c256_i32_143
  let v255 : BitVec 32 := Scalar.addi c512_i32_144 v254
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_145 : BitVec 32 := 128#32
  let v256 : BitVec 32 := Scalar.muli v57 c128_i32_145
  let v257 : BitVec 32 := Scalar.addi v255 v256
  let c1_i32_147 : BitVec 32 := 1#32
  let c2_i32_146 : BitVec 32 := 2#32
  let v258 : BitVec 32 := Scalar.muli c2_i32_146 v57
  let v259 : BitVec 32 := Scalar.subi c1_i32_147 v258
  let c128_i32_148 : BitVec 32 := 128#32
  let v260 : BitVec 32 := Scalar.muli v259 c128_i32_148
  let v261 : BitVec 32 := Scalar.addi v257 v260
  let v271 : Index := Scalar.indexCast v261
  let c1408 : Index := 1408#32
  ![v271.toNat, 1408]
def k0_off63 (d0 : Dev nD) : Fin 2 → Nat :=
  let c512_i32_161 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_160 : BitVec 32 := 256#32
  let v273 : BitVec 32 := Scalar.muli v57 c256_i32_160
  let v274 : BitVec 32 := Scalar.addi c512_i32_161 v273
  let v280 : Index := Scalar.indexCast v274
  let c0_168 : Index := 0#32
  ![v280.toNat, 0]
def k0_dev37 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_173 : BitVec 32 := 1#32
  let v287 : BitVec 32 := Scalar.muli v63 c1_i32_173
  let v288 : BitVec 32 := Scalar.addi c0_i32_174 v287
  v288.toNat
def k0_off64 (d0 : Dev nD) : Fin 2 → Nat :=
  let c512_i32_179 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_178 : BitVec 32 := 256#32
  let v296 : BitVec 32 := Scalar.muli v46 c256_i32_178
  let v297 : BitVec 32 := Scalar.addi c512_i32_179 v296
  let v303 : Index := Scalar.indexCast v297
  let c768_188 : Index := 768#32
  ![v303.toNat, 768]
def k0_dev38 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_195 : BitVec 32 := 1#32
  let v310 : BitVec 32 := Scalar.muli v69 c1_i32_195
  let v311 : BitVec 32 := Scalar.addi c0_i32_196 v310
  v311.toNat
def k0_off65 (d0 : Dev nD) : Fin 2 → Nat :=
  let c512_i32_202 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_201 : BitVec 32 := 256#32
  let v319 : BitVec 32 := Scalar.muli v19 c256_i32_201
  let v320 : BitVec 32 := Scalar.addi c512_i32_202 v319
  let v326 : Index := Scalar.indexCast v320
  let c1408_211 : Index := 1408#32
  ![v326.toNat, 1408]
def k0_dev39 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_218 : BitVec 32 := 1#32
  let v333 : BitVec 32 := Scalar.muli v73 c1_i32_218
  let v334 : BitVec 32 := Scalar.addi c0_i32_219 v333
  v334.toNat
def k0_cond17 (i : grid0.Coords) : BitVec 1 :=
  let arg0 : BitVec 32 := BitVec.ofNat 32 (i 0).val
  let c2_i32_87 : BitVec 32 := 2#32
  let v171 : BitVec 1 := Scalar.cmpi .eq arg0 c2_i32_87
  let arg1 : BitVec 32 := BitVec.ofNat 32 (i 1).val
  let c6_i32_88 : BitVec 32 := 6#32
  let v172 : BitVec 1 := Scalar.cmpi .eq arg1 c6_i32_88
  let v173 : BitVec 1 := Scalar.andi v171 v172
  let v174 : BitVec 32 := Scalar.extui v173
  let c0_i32_89 : BitVec 32 := 0#32
  let v175 : BitVec 1 := Scalar.cmpi .ne v174 c0_i32_89
  v175

def k0_off66 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c512_i32 v216
  let c1_i32_114 : BitVec 32 := 1#32
  let c2_i32_113 : BitVec 32 := 2#32
  let v218 : BitVec 32 := Scalar.muli c2_i32_113 v57
  let v219 : BitVec 32 := Scalar.subi c1_i32_114 v218
  let c256_i32_115 : BitVec 32 := 256#32
  let v220 : BitVec 32 := Scalar.muli v219 c256_i32_115
  let v221 : BitVec 32 := Scalar.addi v217 v220
  let v231 : Index := Scalar.indexCast v221
  let c0_124 : Index := 0#32
  ![v231.toNat, 0]
def k0_off67 (d0 : Dev nD) : Fin 2 → Nat :=
  let c512_i32_126 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_125 : BitVec 32 := 256#32
  let v233 : BitVec 32 := Scalar.muli v46 c256_i32_125
  let v234 : BitVec 32 := Scalar.addi c512_i32_126 v233
  let c1_i32_128 : BitVec 32 := 1#32
  let c2_i32_127 : BitVec 32 := 2#32
  let v235 : BitVec 32 := Scalar.muli c2_i32_127 v46
  let v236 : BitVec 32 := Scalar.subi c1_i32_128 v235
  let c256_i32_129 : BitVec 32 := 256#32
  let v237 : BitVec 32 := Scalar.muli v236 c256_i32_129
  let v238 : BitVec 32 := Scalar.addi v234 v237
  let v248 : Index := Scalar.indexCast v238
  let c768 : Index := 768#32
  ![v248.toNat, 768]
def k0_off68 (d0 : Dev nD) : Fin 2 → Nat :=
  let c512_i32_142 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_141 : BitVec 32 := 256#32
  let v250 : BitVec 32 := Scalar.muli v19 c256_i32_141
  let v251 : BitVec 32 := Scalar.addi c512_i32_142 v250
  let c1_i32_144 : BitVec 32 := 1#32
  let c2_i32_143 : BitVec 32 := 2#32
  let v252 : BitVec 32 := Scalar.muli c2_i32_143 v19
  let v253 : BitVec 32 := Scalar.subi c1_i32_144 v252
  let c256_i32_145 : BitVec 32 := 256#32
  let v254 : BitVec 32 := Scalar.muli v253 c256_i32_145
  let v255 : BitVec 32 := Scalar.addi v251 v254
  let v265 : Index := Scalar.indexCast v255
  let c1408 : Index := 1408#32
  ![v265.toNat, 1408]
def k0_cond18 (i : grid0.Coords) : BitVec 1 :=
  let arg0 : BitVec 32 := BitVec.ofNat 32 (i 0).val
  let c3_i32_90 : BitVec 32 := 3#32
  let v176 : BitVec 1 := Scalar.cmpi .eq arg0 c3_i32_90
  let arg1 : BitVec 32 := BitVec.ofNat 32 (i 1).val
  let c0_i32_91 : BitVec 32 := 0#32
  let v177 : BitVec 1 := Scalar.cmpi .eq arg1 c0_i32_91
  let v178 : BitVec 1 := Scalar.andi v176 v177
  let v179 : BitVec 32 := Scalar.extui v178
  let c0_i32_92 : BitVec 32 := 0#32
  let v180 : BitVec 1 := Scalar.cmpi .ne v179 c0_i32_92
  v180

def k0_off69 (d0 : Dev nD) : Fin 2 → Nat :=
  let c1024_i32 : BitVec 32 := 1024#32
  let c1_i32_113 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v216 : BitVec 32 := Scalar.subi c1_i32_113 v57
  let c256_i32 : BitVec 32 := 256#32
  let v217 : BitVec 32 := Scalar.muli v216 c256_i32
  let v218 : BitVec 32 := Scalar.addi c1024_i32 v217
  let v224 : Index := Scalar.indexCast v218
  let c0_120 : Index := 0#32
  ![v224.toNat, 0]
def k0_dev40 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_126 : BitVec 32 := 1#32
  let v231 : BitVec 32 := Scalar.muli v63 c1_i32_126
  let v232 : BitVec 32 := Scalar.addi c0_i32_127 v231
  v232.toNat
def k0_off70 (d0 : Dev nD) : Fin 2 → Nat :=
  let c1024_i32_134 : BitVec 32 := 1024#32
  let c1_i32_132 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v240 : BitVec 32 := Scalar.subi c1_i32_132 v46
  let c256_i32_133 : BitVec 32 := 256#32
  let v241 : BitVec 32 := Scalar.muli v240 c256_i32_133
  let v242 : BitVec 32 := Scalar.addi c1024_i32_134 v241
  let v248 : Index := Scalar.indexCast v242
  let c768 : Index := 768#32
  ![v248.toNat, 768]
def k0_dev41 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_149 : BitVec 32 := 1#32
  let v255 : BitVec 32 := Scalar.muli v69 c1_i32_149
  let v256 : BitVec 32 := Scalar.addi c0_i32_150 v255
  v256.toNat
def k0_off71 (d0 : Dev nD) : Fin 2 → Nat :=
  let c1024_i32_157 : BitVec 32 := 1024#32
  let c1_i32_155 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v264 : BitVec 32 := Scalar.subi c1_i32_155 v19
  let c256_i32_156 : BitVec 32 := 256#32
  let v265 : BitVec 32 := Scalar.muli v264 c256_i32_156
  let v266 : BitVec 32 := Scalar.addi c1024_i32_157 v265
  let v272 : Index := Scalar.indexCast v266
  let c1408 : Index := 1408#32
  ![v272.toNat, 1408]
def k0_dev42 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_172 : BitVec 32 := 1#32
  let v279 : BitVec 32 := Scalar.muli v73 c1_i32_172
  let v280 : BitVec 32 := Scalar.addi c0_i32_173 v279
  v280.toNat
def k0_cond19 (i : grid0.Coords) : BitVec 1 :=
  let arg0 : BitVec 32 := BitVec.ofNat 32 (i 0).val
  let c3_i32_93 : BitVec 32 := 3#32
  let v181 : BitVec 1 := Scalar.cmpi .eq arg0 c3_i32_93
  let arg1 : BitVec 32 := BitVec.ofNat 32 (i 1).val
  let c1_i32_94 : BitVec 32 := 1#32
  let v182 : BitVec 1 := Scalar.cmpi .eq arg1 c1_i32_94
  let v183 : BitVec 1 := Scalar.andi v181 v182
  let v184 : BitVec 32 := Scalar.extui v183
  let c0_i32_95 : BitVec 32 := 0#32
  let v185 : BitVec 1 := Scalar.cmpi .ne v184 c0_i32_95
  v185

def k0_off72 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c1024_i32 v216
  let v227 : Index := Scalar.indexCast v217
  let c0_123 : Index := 0#32
  ![v227.toNat, 0]
def k0_off73 (d0 : Dev nD) : Fin 2 → Nat :=
  let c1024_i32_126 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_125 : BitVec 32 := 256#32
  let v233 : BitVec 32 := Scalar.muli v46 c256_i32_125
  let v234 : BitVec 32 := Scalar.addi c1024_i32_126 v233
  let v244 : Index := Scalar.indexCast v234
  let c768 : Index := 768#32
  ![v244.toNat, 768]
def k0_off74 (d0 : Dev nD) : Fin 2 → Nat :=
  let c1024_i32_140 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_139 : BitVec 32 := 256#32
  let v250 : BitVec 32 := Scalar.muli v19 c256_i32_139
  let v251 : BitVec 32 := Scalar.addi c1024_i32_140 v250
  let v261 : Index := Scalar.indexCast v251
  let c1408 : Index := 1408#32
  ![v261.toNat, 1408]
def k0_off75 (d0 : Dev nD) : Fin 2 → Nat :=
  let c1024_i32_154 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_153 : BitVec 32 := 256#32
  let v267 : BitVec 32 := Scalar.muli v57 c256_i32_153
  let v268 : BitVec 32 := Scalar.addi c1024_i32_154 v267
  let c1_i32_155 : BitVec 32 := 1#32
  let v269 : BitVec 32 := Scalar.subi c1_i32_155 v46
  let c128_i32 : BitVec 32 := 128#32
  let v270 : BitVec 32 := Scalar.muli v269 c128_i32
  let v271 : BitVec 32 := Scalar.addi v268 v270
  let v277 : Index := Scalar.indexCast v271
  let c0_162 : Index := 0#32
  ![v277.toNat, 0]
def k0_dev43 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_167 : BitVec 32 := 1#32
  let v284 : BitVec 32 := Scalar.muli v69 c1_i32_167
  let v285 : BitVec 32 := Scalar.addi c0_i32_168 v284
  v285.toNat
def k0_off76 (d0 : Dev nD) : Fin 2 → Nat :=
  let c1024_i32_174 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_173 : BitVec 32 := 256#32
  let v293 : BitVec 32 := Scalar.muli v46 c256_i32_173
  let v294 : BitVec 32 := Scalar.addi c1024_i32_174 v293
  let c1_i32_175 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v295 : BitVec 32 := Scalar.subi c1_i32_175 v19
  let c128_i32_176 : BitVec 32 := 128#32
  let v296 : BitVec 32 := Scalar.muli v295 c128_i32_176
  let v297 : BitVec 32 := Scalar.addi v294 v296
  let v303 : Index := Scalar.indexCast v297
  let c768_185 : Index := 768#32
  ![v303.toNat, 768]
def k0_dev44 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_192 : BitVec 32 := 1#32
  let v310 : BitVec 32 := Scalar.muli v73 c1_i32_192
  let v311 : BitVec 32 := Scalar.addi c0_i32_193 v310
  v311.toNat
def k0_off77 (d0 : Dev nD) : Fin 2 → Nat :=
  let c1024_i32_199 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_198 : BitVec 32 := 256#32
  let v319 : BitVec 32 := Scalar.muli v19 c256_i32_198
  let v320 : BitVec 32 := Scalar.addi c1024_i32_199 v319
  let c1_i32_200 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v321 : BitVec 32 := Scalar.subi c1_i32_200 v57
  let c128_i32_201 : BitVec 32 := 128#32
  let v322 : BitVec 32 := Scalar.muli v321 c128_i32_201
  let v323 : BitVec 32 := Scalar.addi v320 v322
  let v329 : Index := Scalar.indexCast v323
  let c1408_210 : Index := 1408#32
  ![v329.toNat, 1408]
def k0_dev45 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_217 : BitVec 32 := 1#32
  let v336 : BitVec 32 := Scalar.muli v63 c1_i32_217
  let v337 : BitVec 32 := Scalar.addi c0_i32_218 v336
  v337.toNat
def k0_cond20 (i : grid0.Coords) : BitVec 1 :=
  let arg0 : BitVec 32 := BitVec.ofNat 32 (i 0).val
  let c3_i32_96 : BitVec 32 := 3#32
  let v186 : BitVec 1 := Scalar.cmpi .eq arg0 c3_i32_96
  let arg1 : BitVec 32 := BitVec.ofNat 32 (i 1).val
  let c2_i32_97 : BitVec 32 := 2#32
  let v187 : BitVec 1 := Scalar.cmpi .eq arg1 c2_i32_97
  let v188 : BitVec 1 := Scalar.andi v186 v187
  let v189 : BitVec 32 := Scalar.extui v188
  let c0_i32_98 : BitVec 32 := 0#32
  let v190 : BitVec 1 := Scalar.cmpi .ne v189 c0_i32_98
  v190

def k0_off78 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c1024_i32 v216
  let c128_i32 : BitVec 32 := 128#32
  let v218 : BitVec 32 := Scalar.muli v46 c128_i32
  let v219 : BitVec 32 := Scalar.addi v217 v218
  let v229 : Index := Scalar.indexCast v219
  let c0_122 : Index := 0#32
  ![v229.toNat, 0]
def k0_off79 (d0 : Dev nD) : Fin 2 → Nat :=
  let c1024_i32_125 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_124 : BitVec 32 := 256#32
  let v235 : BitVec 32 := Scalar.muli v46 c256_i32_124
  let v236 : BitVec 32 := Scalar.addi c1024_i32_125 v235
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_126 : BitVec 32 := 128#32
  let v237 : BitVec 32 := Scalar.muli v19 c128_i32_126
  let v238 : BitVec 32 := Scalar.addi v236 v237
  let v248 : Index := Scalar.indexCast v238
  let c768 : Index := 768#32
  ![v248.toNat, 768]
def k0_off80 (d0 : Dev nD) : Fin 2 → Nat :=
  let c1024_i32_140 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_139 : BitVec 32 := 256#32
  let v254 : BitVec 32 := Scalar.muli v19 c256_i32_139
  let v255 : BitVec 32 := Scalar.addi c1024_i32_140 v254
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_141 : BitVec 32 := 128#32
  let v256 : BitVec 32 := Scalar.muli v57 c128_i32_141
  let v257 : BitVec 32 := Scalar.addi v255 v256
  let v267 : Index := Scalar.indexCast v257
  let c1408 : Index := 1408#32
  ![v267.toNat, 1408]
def k0_off81 (d0 : Dev nD) : Fin 2 → Nat :=
  let c1024_i32_155 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_154 : BitVec 32 := 256#32
  let v273 : BitVec 32 := Scalar.muli v57 c256_i32_154
  let v274 : BitVec 32 := Scalar.addi c1024_i32_155 v273
  let c128_i32_156 : BitVec 32 := 128#32
  let v275 : BitVec 32 := Scalar.muli v46 c128_i32_156
  let v276 : BitVec 32 := Scalar.addi v274 v275
  let c1_i32_157 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v277 : BitVec 32 := Scalar.subi c1_i32_157 v19
  let c64_i32 : BitVec 32 := 64#32
  let v278 : BitVec 32 := Scalar.muli v277 c64_i32
  let v279 : BitVec 32 := Scalar.addi v276 v278
  let v285 : Index := Scalar.indexCast v279
  let c0_165 : Index := 0#32
  ![v285.toNat, 0]
def k0_dev46 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_171 : BitVec 32 := 1#32
  let v292 : BitVec 32 := Scalar.muli v73 c1_i32_171
  let v293 : BitVec 32 := Scalar.addi c0_i32_172 v292
  v293.toNat
def k0_off82 (d0 : Dev nD) : Fin 2 → Nat :=
  let c1024_i32_177 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_176 : BitVec 32 := 256#32
  let v301 : BitVec 32 := Scalar.muli v46 c256_i32_176
  let v302 : BitVec 32 := Scalar.addi c1024_i32_177 v301
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_178 : BitVec 32 := 128#32
  let v303 : BitVec 32 := Scalar.muli v19 c128_i32_178
  let v304 : BitVec 32 := Scalar.addi v302 v303
  let c1_i32_179 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v305 : BitVec 32 := Scalar.subi c1_i32_179 v57
  let c64_i32_180 : BitVec 32 := 64#32
  let v306 : BitVec 32 := Scalar.muli v305 c64_i32_180
  let v307 : BitVec 32 := Scalar.addi v304 v306
  let v313 : Index := Scalar.indexCast v307
  let c768_189 : Index := 768#32
  ![v313.toNat, 768]
def k0_dev47 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_196 : BitVec 32 := 1#32
  let v320 : BitVec 32 := Scalar.muli v63 c1_i32_196
  let v321 : BitVec 32 := Scalar.addi c0_i32_197 v320
  v321.toNat
def k0_off83 (d0 : Dev nD) : Fin 2 → Nat :=
  let c1024_i32_203 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_202 : BitVec 32 := 256#32
  let v329 : BitVec 32 := Scalar.muli v19 c256_i32_202
  let v330 : BitVec 32 := Scalar.addi c1024_i32_203 v329
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_204 : BitVec 32 := 128#32
  let v331 : BitVec 32 := Scalar.muli v57 c128_i32_204
  let v332 : BitVec 32 := Scalar.addi v330 v331
  let c1_i32_205 : BitVec 32 := 1#32
  let v333 : BitVec 32 := Scalar.subi c1_i32_205 v46
  let c64_i32_206 : BitVec 32 := 64#32
  let v334 : BitVec 32 := Scalar.muli v333 c64_i32_206
  let v335 : BitVec 32 := Scalar.addi v332 v334
  let v341 : Index := Scalar.indexCast v335
  let c1408_215 : Index := 1408#32
  ![v341.toNat, 1408]
def k0_dev48 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_222 : BitVec 32 := 1#32
  let v348 : BitVec 32 := Scalar.muli v69 c1_i32_222
  let v349 : BitVec 32 := Scalar.addi c0_i32_223 v348
  v349.toNat
def k0_cond21 (i : grid0.Coords) : BitVec 1 :=
  let arg0 : BitVec 32 := BitVec.ofNat 32 (i 0).val
  let c3_i32_99 : BitVec 32 := 3#32
  let v191 : BitVec 1 := Scalar.cmpi .eq arg0 c3_i32_99
  let arg1 : BitVec 32 := BitVec.ofNat 32 (i 1).val
  let c3_i32_100 : BitVec 32 := 3#32
  let v192 : BitVec 1 := Scalar.cmpi .eq arg1 c3_i32_100
  let v193 : BitVec 1 := Scalar.andi v191 v192
  let v194 : BitVec 32 := Scalar.extui v193
  let c0_i32_101 : BitVec 32 := 0#32
  let v195 : BitVec 1 := Scalar.cmpi .ne v194 c0_i32_101
  v195

def k0_off84 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c1024_i32 v216
  let c128_i32 : BitVec 32 := 128#32
  let v218 : BitVec 32 := Scalar.muli v46 c128_i32
  let v219 : BitVec 32 := Scalar.addi v217 v218
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32 : BitVec 32 := 64#32
  let v220 : BitVec 32 := Scalar.muli v19 c64_i32
  let v221 : BitVec 32 := Scalar.addi v219 v220
  let v231 : Index := Scalar.indexCast v221
  let c0_121 : Index := 0#32
  ![v231.toNat, 0]
def k0_off85 (d0 : Dev nD) : Fin 2 → Nat :=
  let c1024_i32_124 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_123 : BitVec 32 := 256#32
  let v237 : BitVec 32 := Scalar.muli v46 c256_i32_123
  let v238 : BitVec 32 := Scalar.addi c1024_i32_124 v237
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_125 : BitVec 32 := 128#32
  let v239 : BitVec 32 := Scalar.muli v19 c128_i32_125
  let v240 : BitVec 32 := Scalar.addi v238 v239
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c64_i32_126 : BitVec 32 := 64#32
  let v241 : BitVec 32 := Scalar.muli v57 c64_i32_126
  let v242 : BitVec 32 := Scalar.addi v240 v241
  let v252 : Index := Scalar.indexCast v242
  let c768 : Index := 768#32
  ![v252.toNat, 768]
def k0_off86 (d0 : Dev nD) : Fin 2 → Nat :=
  let c1024_i32_140 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_139 : BitVec 32 := 256#32
  let v258 : BitVec 32 := Scalar.muli v19 c256_i32_139
  let v259 : BitVec 32 := Scalar.addi c1024_i32_140 v258
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_141 : BitVec 32 := 128#32
  let v260 : BitVec 32 := Scalar.muli v57 c128_i32_141
  let v261 : BitVec 32 := Scalar.addi v259 v260
  let c64_i32_142 : BitVec 32 := 64#32
  let v262 : BitVec 32 := Scalar.muli v46 c64_i32_142
  let v263 : BitVec 32 := Scalar.addi v261 v262
  let v273 : Index := Scalar.indexCast v263
  let c1408 : Index := 1408#32
  ![v273.toNat, 1408]
def k0_dev49 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_171 : BitVec 32 := 1#32
  let v297 : BitVec 32 := Scalar.muli v73 c1_i32_171
  let v298 : BitVec 32 := Scalar.addi c0_i32_172 v297
  v298.toNat
def k0_dev50 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_195 : BitVec 32 := 1#32
  let v324 : BitVec 32 := Scalar.muli v63 c1_i32_195
  let v325 : BitVec 32 := Scalar.addi c0_i32_196 v324
  v325.toNat
def k0_dev51 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_220 : BitVec 32 := 1#32
  let v351 : BitVec 32 := Scalar.muli v69 c1_i32_220
  let v352 : BitVec 32 := Scalar.addi c0_i32_221 v351
  v352.toNat
def k0_cond22 (i : grid0.Coords) : BitVec 1 :=
  let arg0 : BitVec 32 := BitVec.ofNat 32 (i 0).val
  let c3_i32_102 : BitVec 32 := 3#32
  let v196 : BitVec 1 := Scalar.cmpi .eq arg0 c3_i32_102
  let arg1 : BitVec 32 := BitVec.ofNat 32 (i 1).val
  let c4_i32_103 : BitVec 32 := 4#32
  let v197 : BitVec 1 := Scalar.cmpi .eq arg1 c4_i32_103
  let v198 : BitVec 1 := Scalar.andi v196 v197
  let v199 : BitVec 32 := Scalar.extui v198
  let c0_i32_104 : BitVec 32 := 0#32
  let v200 : BitVec 1 := Scalar.cmpi .ne v199 c0_i32_104
  v200

def k0_off87 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c1024_i32 v216
  let c128_i32 : BitVec 32 := 128#32
  let v218 : BitVec 32 := Scalar.muli v46 c128_i32
  let v219 : BitVec 32 := Scalar.addi v217 v218
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32 : BitVec 32 := 64#32
  let v220 : BitVec 32 := Scalar.muli v19 c64_i32
  let v221 : BitVec 32 := Scalar.addi v219 v220
  let c1_i32_114 : BitVec 32 := 1#32
  let c2_i32_113 : BitVec 32 := 2#32
  let v222 : BitVec 32 := Scalar.muli c2_i32_113 v19
  let v223 : BitVec 32 := Scalar.subi c1_i32_114 v222
  let c64_i32_115 : BitVec 32 := 64#32
  let v224 : BitVec 32 := Scalar.muli v223 c64_i32_115
  let v225 : BitVec 32 := Scalar.addi v221 v224
  let v235 : Index := Scalar.indexCast v225
  let c0_124 : Index := 0#32
  ![v235.toNat, 0]
def k0_off88 (d0 : Dev nD) : Fin 2 → Nat :=
  let c1024_i32_126 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_125 : BitVec 32 := 256#32
  let v237 : BitVec 32 := Scalar.muli v46 c256_i32_125
  let v238 : BitVec 32 := Scalar.addi c1024_i32_126 v237
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_127 : BitVec 32 := 128#32
  let v239 : BitVec 32 := Scalar.muli v19 c128_i32_127
  let v240 : BitVec 32 := Scalar.addi v238 v239
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c64_i32_128 : BitVec 32 := 64#32
  let v241 : BitVec 32 := Scalar.muli v57 c64_i32_128
  let v242 : BitVec 32 := Scalar.addi v240 v241
  let c1_i32_130 : BitVec 32 := 1#32
  let c2_i32_129 : BitVec 32 := 2#32
  let v243 : BitVec 32 := Scalar.muli c2_i32_129 v57
  let v244 : BitVec 32 := Scalar.subi c1_i32_130 v243
  let c64_i32_131 : BitVec 32 := 64#32
  let v245 : BitVec 32 := Scalar.muli v244 c64_i32_131
  let v246 : BitVec 32 := Scalar.addi v242 v245
  let v256 : Index := Scalar.indexCast v246
  let c768 : Index := 768#32
  ![v256.toNat, 768]
def k0_off89 (d0 : Dev nD) : Fin 2 → Nat :=
  let c1024_i32_144 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_143 : BitVec 32 := 256#32
  let v258 : BitVec 32 := Scalar.muli v19 c256_i32_143
  let v259 : BitVec 32 := Scalar.addi c1024_i32_144 v258
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_145 : BitVec 32 := 128#32
  let v260 : BitVec 32 := Scalar.muli v57 c128_i32_145
  let v261 : BitVec 32 := Scalar.addi v259 v260
  let c64_i32_146 : BitVec 32 := 64#32
  let v262 : BitVec 32 := Scalar.muli v46 c64_i32_146
  let v263 : BitVec 32 := Scalar.addi v261 v262
  let c1_i32_148 : BitVec 32 := 1#32
  let c2_i32_147 : BitVec 32 := 2#32
  let v264 : BitVec 32 := Scalar.muli c2_i32_147 v46
  let v265 : BitVec 32 := Scalar.subi c1_i32_148 v264
  let c64_i32_149 : BitVec 32 := 64#32
  let v266 : BitVec 32 := Scalar.muli v265 c64_i32_149
  let v267 : BitVec 32 := Scalar.addi v263 v266
  let v277 : Index := Scalar.indexCast v267
  let c1408 : Index := 1408#32
  ![v277.toNat, 1408]
def k0_off90 (d0 : Dev nD) : Fin 2 → Nat :=
  let c1024_i32_162 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_161 : BitVec 32 := 256#32
  let v279 : BitVec 32 := Scalar.muli v57 c256_i32_161
  let v280 : BitVec 32 := Scalar.addi c1024_i32_162 v279
  let c128_i32_163 : BitVec 32 := 128#32
  let v281 : BitVec 32 := Scalar.muli v46 c128_i32_163
  let v282 : BitVec 32 := Scalar.addi v280 v281
  let v288 : Index := Scalar.indexCast v282
  let c0_170 : Index := 0#32
  ![v288.toNat, 0]
def k0_dev52 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_176 : BitVec 32 := 1#32
  let v295 : BitVec 32 := Scalar.muli v69 c1_i32_176
  let v296 : BitVec 32 := Scalar.addi c0_i32_177 v295
  v296.toNat
def k0_off91 (d0 : Dev nD) : Fin 2 → Nat :=
  let c1024_i32_182 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_181 : BitVec 32 := 256#32
  let v304 : BitVec 32 := Scalar.muli v46 c256_i32_181
  let v305 : BitVec 32 := Scalar.addi c1024_i32_182 v304
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_183 : BitVec 32 := 128#32
  let v306 : BitVec 32 := Scalar.muli v19 c128_i32_183
  let v307 : BitVec 32 := Scalar.addi v305 v306
  let v313 : Index := Scalar.indexCast v307
  let c768_192 : Index := 768#32
  ![v313.toNat, 768]
def k0_dev53 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_199 : BitVec 32 := 1#32
  let v320 : BitVec 32 := Scalar.muli v73 c1_i32_199
  let v321 : BitVec 32 := Scalar.addi c0_i32_200 v320
  v321.toNat
def k0_off92 (d0 : Dev nD) : Fin 2 → Nat :=
  let c1024_i32_206 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_205 : BitVec 32 := 256#32
  let v329 : BitVec 32 := Scalar.muli v19 c256_i32_205
  let v330 : BitVec 32 := Scalar.addi c1024_i32_206 v329
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_207 : BitVec 32 := 128#32
  let v331 : BitVec 32 := Scalar.muli v57 c128_i32_207
  let v332 : BitVec 32 := Scalar.addi v330 v331
  let v338 : Index := Scalar.indexCast v332
  let c1408_216 : Index := 1408#32
  ![v338.toNat, 1408]
def k0_dev54 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_223 : BitVec 32 := 1#32
  let v345 : BitVec 32 := Scalar.muli v63 c1_i32_223
  let v346 : BitVec 32 := Scalar.addi c0_i32_224 v345
  v346.toNat
def k0_cond23 (i : grid0.Coords) : BitVec 1 :=
  let arg0 : BitVec 32 := BitVec.ofNat 32 (i 0).val
  let c3_i32_105 : BitVec 32 := 3#32
  let v201 : BitVec 1 := Scalar.cmpi .eq arg0 c3_i32_105
  let arg1 : BitVec 32 := BitVec.ofNat 32 (i 1).val
  let c5_i32_106 : BitVec 32 := 5#32
  let v202 : BitVec 1 := Scalar.cmpi .eq arg1 c5_i32_106
  let v203 : BitVec 1 := Scalar.andi v201 v202
  let v204 : BitVec 32 := Scalar.extui v203
  let c0_i32_107 : BitVec 32 := 0#32
  let v205 : BitVec 1 := Scalar.cmpi .ne v204 c0_i32_107
  v205

def k0_off93 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c1024_i32 v216
  let c128_i32 : BitVec 32 := 128#32
  let v218 : BitVec 32 := Scalar.muli v46 c128_i32
  let v219 : BitVec 32 := Scalar.addi v217 v218
  let c1_i32_114 : BitVec 32 := 1#32
  let c2_i32_113 : BitVec 32 := 2#32
  let v220 : BitVec 32 := Scalar.muli c2_i32_113 v46
  let v221 : BitVec 32 := Scalar.subi c1_i32_114 v220
  let c128_i32_115 : BitVec 32 := 128#32
  let v222 : BitVec 32 := Scalar.muli v221 c128_i32_115
  let v223 : BitVec 32 := Scalar.addi v219 v222
  let v233 : Index := Scalar.indexCast v223
  let c0_124 : Index := 0#32
  ![v233.toNat, 0]
def k0_off94 (d0 : Dev nD) : Fin 2 → Nat :=
  let c1024_i32_126 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_125 : BitVec 32 := 256#32
  let v235 : BitVec 32 := Scalar.muli v46 c256_i32_125
  let v236 : BitVec 32 := Scalar.addi c1024_i32_126 v235
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_127 : BitVec 32 := 128#32
  let v237 : BitVec 32 := Scalar.muli v19 c128_i32_127
  let v238 : BitVec 32 := Scalar.addi v236 v237
  let c1_i32_129 : BitVec 32 := 1#32
  let c2_i32_128 : BitVec 32 := 2#32
  let v239 : BitVec 32 := Scalar.muli c2_i32_128 v19
  let v240 : BitVec 32 := Scalar.subi c1_i32_129 v239
  let c128_i32_130 : BitVec 32 := 128#32
  let v241 : BitVec 32 := Scalar.muli v240 c128_i32_130
  let v242 : BitVec 32 := Scalar.addi v238 v241
  let v252 : Index := Scalar.indexCast v242
  let c768 : Index := 768#32
  ![v252.toNat, 768]
def k0_off95 (d0 : Dev nD) : Fin 2 → Nat :=
  let c1024_i32_143 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_142 : BitVec 32 := 256#32
  let v254 : BitVec 32 := Scalar.muli v19 c256_i32_142
  let v255 : BitVec 32 := Scalar.addi c1024_i32_143 v254
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_144 : BitVec 32 := 128#32
  let v256 : BitVec 32 := Scalar.muli v57 c128_i32_144
  let v257 : BitVec 32 := Scalar.addi v255 v256
  let c1_i32_146 : BitVec 32 := 1#32
  let c2_i32_145 : BitVec 32 := 2#32
  let v258 : BitVec 32 := Scalar.muli c2_i32_145 v57
  let v259 : BitVec 32 := Scalar.subi c1_i32_146 v258
  let c128_i32_147 : BitVec 32 := 128#32
  let v260 : BitVec 32 := Scalar.muli v259 c128_i32_147
  let v261 : BitVec 32 := Scalar.addi v257 v260
  let v271 : Index := Scalar.indexCast v261
  let c1408 : Index := 1408#32
  ![v271.toNat, 1408]
def k0_off96 (d0 : Dev nD) : Fin 2 → Nat :=
  let c1024_i32_160 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_159 : BitVec 32 := 256#32
  let v273 : BitVec 32 := Scalar.muli v57 c256_i32_159
  let v274 : BitVec 32 := Scalar.addi c1024_i32_160 v273
  let v280 : Index := Scalar.indexCast v274
  let c0_167 : Index := 0#32
  ![v280.toNat, 0]
def k0_dev55 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_172 : BitVec 32 := 1#32
  let v287 : BitVec 32 := Scalar.muli v63 c1_i32_172
  let v288 : BitVec 32 := Scalar.addi c0_i32_173 v287
  v288.toNat
def k0_off97 (d0 : Dev nD) : Fin 2 → Nat :=
  let c1024_i32_178 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_177 : BitVec 32 := 256#32
  let v296 : BitVec 32 := Scalar.muli v46 c256_i32_177
  let v297 : BitVec 32 := Scalar.addi c1024_i32_178 v296
  let v303 : Index := Scalar.indexCast v297
  let c768_187 : Index := 768#32
  ![v303.toNat, 768]
def k0_dev56 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_194 : BitVec 32 := 1#32
  let v310 : BitVec 32 := Scalar.muli v69 c1_i32_194
  let v311 : BitVec 32 := Scalar.addi c0_i32_195 v310
  v311.toNat
def k0_off98 (d0 : Dev nD) : Fin 2 → Nat :=
  let c1024_i32_201 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_200 : BitVec 32 := 256#32
  let v319 : BitVec 32 := Scalar.muli v19 c256_i32_200
  let v320 : BitVec 32 := Scalar.addi c1024_i32_201 v319
  let v326 : Index := Scalar.indexCast v320
  let c1408_210 : Index := 1408#32
  ![v326.toNat, 1408]
def k0_dev57 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_217 : BitVec 32 := 1#32
  let v333 : BitVec 32 := Scalar.muli v73 c1_i32_217
  let v334 : BitVec 32 := Scalar.addi c0_i32_218 v333
  v334.toNat
def k0_cond24 (i : grid0.Coords) : BitVec 1 :=
  let arg0 : BitVec 32 := BitVec.ofNat 32 (i 0).val
  let c3_i32_108 : BitVec 32 := 3#32
  let v206 : BitVec 1 := Scalar.cmpi .eq arg0 c3_i32_108
  let arg1 : BitVec 32 := BitVec.ofNat 32 (i 1).val
  let c6_i32_109 : BitVec 32 := 6#32
  let v207 : BitVec 1 := Scalar.cmpi .eq arg1 c6_i32_109
  let v208 : BitVec 1 := Scalar.andi v206 v207
  let v209 : BitVec 32 := Scalar.extui v208
  let c0_i32_110 : BitVec 32 := 0#32
  let v210 : BitVec 1 := Scalar.cmpi .ne v209 c0_i32_110
  v210

def k0_off99 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32 : BitVec 32 := 256#32
  let v216 : BitVec 32 := Scalar.muli v57 c256_i32
  let v217 : BitVec 32 := Scalar.addi c1024_i32 v216
  let c1_i32_114 : BitVec 32 := 1#32
  let c2_i32_113 : BitVec 32 := 2#32
  let v218 : BitVec 32 := Scalar.muli c2_i32_113 v57
  let v219 : BitVec 32 := Scalar.subi c1_i32_114 v218
  let c256_i32_115 : BitVec 32 := 256#32
  let v220 : BitVec 32 := Scalar.muli v219 c256_i32_115
  let v221 : BitVec 32 := Scalar.addi v217 v220
  let v231 : Index := Scalar.indexCast v221
  let c0_124 : Index := 0#32
  ![v231.toNat, 0]
def k0_off100 (d0 : Dev nD) : Fin 2 → Nat :=
  let c1024_i32_126 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_125 : BitVec 32 := 256#32
  let v233 : BitVec 32 := Scalar.muli v46 c256_i32_125
  let v234 : BitVec 32 := Scalar.addi c1024_i32_126 v233
  let c1_i32_128 : BitVec 32 := 1#32
  let c2_i32_127 : BitVec 32 := 2#32
  let v235 : BitVec 32 := Scalar.muli c2_i32_127 v46
  let v236 : BitVec 32 := Scalar.subi c1_i32_128 v235
  let c256_i32_129 : BitVec 32 := 256#32
  let v237 : BitVec 32 := Scalar.muli v236 c256_i32_129
  let v238 : BitVec 32 := Scalar.addi v234 v237
  let v248 : Index := Scalar.indexCast v238
  let c768 : Index := 768#32
  ![v248.toNat, 768]
def k0_off101 (d0 : Dev nD) : Fin 2 → Nat :=
  let c1024_i32_142 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_141 : BitVec 32 := 256#32
  let v250 : BitVec 32 := Scalar.muli v19 c256_i32_141
  let v251 : BitVec 32 := Scalar.addi c1024_i32_142 v250
  let c1_i32_144 : BitVec 32 := 1#32
  let c2_i32_143 : BitVec 32 := 2#32
  let v252 : BitVec 32 := Scalar.muli c2_i32_143 v19
  let v253 : BitVec 32 := Scalar.subi c1_i32_144 v252
  let c256_i32_145 : BitVec 32 := 256#32
  let v254 : BitVec 32 := Scalar.muli v253 c256_i32_145
  let v255 : BitVec 32 := Scalar.addi v251 v254
  let v265 : Index := Scalar.indexCast v255
  let c1408 : Index := 1408#32
  ![v265.toNat, 1408]
def k0_cond25 (i : grid0.Coords) : BitVec 1 :=
  let arg0 : BitVec 32 := BitVec.ofNat 32 (i 0).val
  let c3_i32_111 : BitVec 32 := 3#32
  let v211 : BitVec 1 := Scalar.cmpi .eq arg0 c3_i32_111
  let arg1 : BitVec 32 := BitVec.ofNat 32 (i 1).val
  let c7_i32 : BitVec 32 := 7#32
  let v212 : BitVec 1 := Scalar.cmpi .eq arg1 c7_i32
  let v213 : BitVec 1 := Scalar.andi v211 v212
  let v214 : BitVec 32 := Scalar.extui v213
  let c0_i32_112 : BitVec 32 := 0#32
  let v215 : BitVec 1 := Scalar.cmpi .ne v214 c0_i32_112
  v215

def k0_off102 (d0 : Dev nD) : Fin 2 → Nat :=
  let c1536_i32 : BitVec 32 := 1536#32
  let c1_i32_113 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v216 : BitVec 32 := Scalar.subi c1_i32_113 v57
  let c256_i32 : BitVec 32 := 256#32
  let v217 : BitVec 32 := Scalar.muli v216 c256_i32
  let v218 : BitVec 32 := Scalar.addi c1536_i32 v217
  let v224 : Index := Scalar.indexCast v218
  let c0_120 : Index := 0#32
  ![v224.toNat, 0]
def k0_dev58 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_126 : BitVec 32 := 1#32
  let v231 : BitVec 32 := Scalar.muli v63 c1_i32_126
  let v232 : BitVec 32 := Scalar.addi c0_i32_127 v231
  v232.toNat
def k0_off103 (d0 : Dev nD) : Fin 2 → Nat :=
  let c1536_i32_134 : BitVec 32 := 1536#32
  let c1_i32_132 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v240 : BitVec 32 := Scalar.subi c1_i32_132 v46
  let c256_i32_133 : BitVec 32 := 256#32
  let v241 : BitVec 32 := Scalar.muli v240 c256_i32_133
  let v242 : BitVec 32 := Scalar.addi c1536_i32_134 v241
  let v248 : Index := Scalar.indexCast v242
  let c768 : Index := 768#32
  ![v248.toNat, 768]
def k0_dev59 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_149 : BitVec 32 := 1#32
  let v255 : BitVec 32 := Scalar.muli v69 c1_i32_149
  let v256 : BitVec 32 := Scalar.addi c0_i32_150 v255
  v256.toNat
def k0_off104 (d0 : Dev nD) : Fin 2 → Nat :=
  let c1536_i32_157 : BitVec 32 := 1536#32
  let c1_i32_155 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v264 : BitVec 32 := Scalar.subi c1_i32_155 v19
  let c256_i32_156 : BitVec 32 := 256#32
  let v265 : BitVec 32 := Scalar.muli v264 c256_i32_156
  let v266 : BitVec 32 := Scalar.addi c1536_i32_157 v265
  let v272 : Index := Scalar.indexCast v266
  let c1408 : Index := 1408#32
  ![v272.toNat, 1408]
def k0_dev60 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_172 : BitVec 32 := 1#32
  let v279 : BitVec 32 := Scalar.muli v73 c1_i32_172
  let v280 : BitVec 32 := Scalar.addi c0_i32_173 v279
  v280.toNat
def k0_off105 (d0 : Dev nD) : Fin 2 → Nat :=
  let c1536_i32_179 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_178 : BitVec 32 := 256#32
  let v288 : BitVec 32 := Scalar.muli v57 c256_i32_178
  let v289 : BitVec 32 := Scalar.addi c1536_i32_179 v288
  let v299 : Index := Scalar.indexCast v289
  let c0_191 : Index := 0#32
  ![v299.toNat, 0]
def k0_off106 (d0 : Dev nD) : Fin 2 → Nat :=
  let c1536_i32_194 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_193 : BitVec 32 := 256#32
  let v305 : BitVec 32 := Scalar.muli v46 c256_i32_193
  let v306 : BitVec 32 := Scalar.addi c1536_i32_194 v305
  let v316 : Index := Scalar.indexCast v306
  let c768_206 : Index := 768#32
  ![v316.toNat, 768]
def k0_off107 (d0 : Dev nD) : Fin 2 → Nat :=
  let c1536_i32_209 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_208 : BitVec 32 := 256#32
  let v322 : BitVec 32 := Scalar.muli v19 c256_i32_208
  let v323 : BitVec 32 := Scalar.addi c1536_i32_209 v322
  let v333 : Index := Scalar.indexCast v323
  let c1408_221 : Index := 1408#32
  ![v333.toNat, 1408]
def k0_off108 (d0 : Dev nD) : Fin 2 → Nat :=
  let c1536_i32_224 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_223 : BitVec 32 := 256#32
  let v339 : BitVec 32 := Scalar.muli v57 c256_i32_223
  let v340 : BitVec 32 := Scalar.addi c1536_i32_224 v339
  let c1_i32_225 : BitVec 32 := 1#32
  let v341 : BitVec 32 := Scalar.subi c1_i32_225 v46
  let c128_i32 : BitVec 32 := 128#32
  let v342 : BitVec 32 := Scalar.muli v341 c128_i32
  let v343 : BitVec 32 := Scalar.addi v340 v342
  let v349 : Index := Scalar.indexCast v343
  let c0_232 : Index := 0#32
  ![v349.toNat, 0]
def k0_dev61 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_237 : BitVec 32 := 1#32
  let v356 : BitVec 32 := Scalar.muli v69 c1_i32_237
  let v357 : BitVec 32 := Scalar.addi c0_i32_238 v356
  v357.toNat
def k0_off109 (d0 : Dev nD) : Fin 2 → Nat :=
  let c1536_i32_244 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_243 : BitVec 32 := 256#32
  let v365 : BitVec 32 := Scalar.muli v46 c256_i32_243
  let v366 : BitVec 32 := Scalar.addi c1536_i32_244 v365
  let c1_i32_245 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v367 : BitVec 32 := Scalar.subi c1_i32_245 v19
  let c128_i32_246 : BitVec 32 := 128#32
  let v368 : BitVec 32 := Scalar.muli v367 c128_i32_246
  let v369 : BitVec 32 := Scalar.addi v366 v368
  let v375 : Index := Scalar.indexCast v369
  let c768_255 : Index := 768#32
  ![v375.toNat, 768]
def k0_dev62 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_262 : BitVec 32 := 1#32
  let v382 : BitVec 32 := Scalar.muli v73 c1_i32_262
  let v383 : BitVec 32 := Scalar.addi c0_i32_263 v382
  v383.toNat
def k0_off110 (d0 : Dev nD) : Fin 2 → Nat :=
  let c1536_i32_269 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_268 : BitVec 32 := 256#32
  let v391 : BitVec 32 := Scalar.muli v19 c256_i32_268
  let v392 : BitVec 32 := Scalar.addi c1536_i32_269 v391
  let c1_i32_270 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let v393 : BitVec 32 := Scalar.subi c1_i32_270 v57
  let c128_i32_271 : BitVec 32 := 128#32
  let v394 : BitVec 32 := Scalar.muli v393 c128_i32_271
  let v395 : BitVec 32 := Scalar.addi v392 v394
  let v401 : Index := Scalar.indexCast v395
  let c1408_280 : Index := 1408#32
  ![v401.toNat, 1408]
def k0_dev63 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_287 : BitVec 32 := 1#32
  let v408 : BitVec 32 := Scalar.muli v63 c1_i32_287
  let v409 : BitVec 32 := Scalar.addi c0_i32_288 v408
  v409.toNat
def k0_off111 (d0 : Dev nD) : Fin 2 → Nat :=
  let c1536_i32_294 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_293 : BitVec 32 := 256#32
  let v417 : BitVec 32 := Scalar.muli v57 c256_i32_293
  let v418 : BitVec 32 := Scalar.addi c1536_i32_294 v417
  let c128_i32_295 : BitVec 32 := 128#32
  let v419 : BitVec 32 := Scalar.muli v46 c128_i32_295
  let v420 : BitVec 32 := Scalar.addi v418 v419
  let v430 : Index := Scalar.indexCast v420
  let c0_306 : Index := 0#32
  ![v430.toNat, 0]
def k0_off112 (d0 : Dev nD) : Fin 2 → Nat :=
  let c1536_i32_309 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_308 : BitVec 32 := 256#32
  let v436 : BitVec 32 := Scalar.muli v46 c256_i32_308
  let v437 : BitVec 32 := Scalar.addi c1536_i32_309 v436
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_310 : BitVec 32 := 128#32
  let v438 : BitVec 32 := Scalar.muli v19 c128_i32_310
  let v439 : BitVec 32 := Scalar.addi v437 v438
  let v449 : Index := Scalar.indexCast v439
  let c768_322 : Index := 768#32
  ![v449.toNat, 768]
def k0_off113 (d0 : Dev nD) : Fin 2 → Nat :=
  let c1536_i32_325 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_324 : BitVec 32 := 256#32
  let v455 : BitVec 32 := Scalar.muli v19 c256_i32_324
  let v456 : BitVec 32 := Scalar.addi c1536_i32_325 v455
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_326 : BitVec 32 := 128#32
  let v457 : BitVec 32 := Scalar.muli v57 c128_i32_326
  let v458 : BitVec 32 := Scalar.addi v456 v457
  let v468 : Index := Scalar.indexCast v458
  let c1408_338 : Index := 1408#32
  ![v468.toNat, 1408]
def k0_off114 (d0 : Dev nD) : Fin 2 → Nat :=
  let c1536_i32_341 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_340 : BitVec 32 := 256#32
  let v474 : BitVec 32 := Scalar.muli v57 c256_i32_340
  let v475 : BitVec 32 := Scalar.addi c1536_i32_341 v474
  let c128_i32_342 : BitVec 32 := 128#32
  let v476 : BitVec 32 := Scalar.muli v46 c128_i32_342
  let v477 : BitVec 32 := Scalar.addi v475 v476
  let c1_i32_343 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v478 : BitVec 32 := Scalar.subi c1_i32_343 v19
  let c64_i32 : BitVec 32 := 64#32
  let v479 : BitVec 32 := Scalar.muli v478 c64_i32
  let v480 : BitVec 32 := Scalar.addi v477 v479
  let v486 : Index := Scalar.indexCast v480
  let c0_352 : Index := 0#32
  ![v486.toNat, 0]
def k0_dev64 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_358 : BitVec 32 := 1#32
  let v493 : BitVec 32 := Scalar.muli v73 c1_i32_358
  let v494 : BitVec 32 := Scalar.addi c0_i32_359 v493
  v494.toNat
def k0_off115 (d0 : Dev nD) : Fin 2 → Nat :=
  let c1536_i32_364 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_363 : BitVec 32 := 256#32
  let v502 : BitVec 32 := Scalar.muli v46 c256_i32_363
  let v503 : BitVec 32 := Scalar.addi c1536_i32_364 v502
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_365 : BitVec 32 := 128#32
  let v504 : BitVec 32 := Scalar.muli v19 c128_i32_365
  let v505 : BitVec 32 := Scalar.addi v503 v504
  let c1_i32_366 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v506 : BitVec 32 := Scalar.subi c1_i32_366 v57
  let c64_i32_367 : BitVec 32 := 64#32
  let v507 : BitVec 32 := Scalar.muli v506 c64_i32_367
  let v508 : BitVec 32 := Scalar.addi v505 v507
  let v514 : Index := Scalar.indexCast v508
  let c768_376 : Index := 768#32
  ![v514.toNat, 768]
def k0_dev65 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_383 : BitVec 32 := 1#32
  let v521 : BitVec 32 := Scalar.muli v63 c1_i32_383
  let v522 : BitVec 32 := Scalar.addi c0_i32_384 v521
  v522.toNat
def k0_off116 (d0 : Dev nD) : Fin 2 → Nat :=
  let c1536_i32_390 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_389 : BitVec 32 := 256#32
  let v530 : BitVec 32 := Scalar.muli v19 c256_i32_389
  let v531 : BitVec 32 := Scalar.addi c1536_i32_390 v530
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_391 : BitVec 32 := 128#32
  let v532 : BitVec 32 := Scalar.muli v57 c128_i32_391
  let v533 : BitVec 32 := Scalar.addi v531 v532
  let c1_i32_392 : BitVec 32 := 1#32
  let v534 : BitVec 32 := Scalar.subi c1_i32_392 v46
  let c64_i32_393 : BitVec 32 := 64#32
  let v535 : BitVec 32 := Scalar.muli v534 c64_i32_393
  let v536 : BitVec 32 := Scalar.addi v533 v535
  let v542 : Index := Scalar.indexCast v536
  let c1408_402 : Index := 1408#32
  ![v542.toNat, 1408]
def k0_dev66 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_409 : BitVec 32 := 1#32
  let v549 : BitVec 32 := Scalar.muli v69 c1_i32_409
  let v550 : BitVec 32 := Scalar.addi c0_i32_410 v549
  v550.toNat
def k0_off117 (d0 : Dev nD) : Fin 2 → Nat :=
  let c1536_i32_416 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_415 : BitVec 32 := 256#32
  let v558 : BitVec 32 := Scalar.muli v57 c256_i32_415
  let v559 : BitVec 32 := Scalar.addi c1536_i32_416 v558
  let c128_i32_417 : BitVec 32 := 128#32
  let v560 : BitVec 32 := Scalar.muli v46 c128_i32_417
  let v561 : BitVec 32 := Scalar.addi v559 v560
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_418 : BitVec 32 := 64#32
  let v562 : BitVec 32 := Scalar.muli v19 c64_i32_418
  let v563 : BitVec 32 := Scalar.addi v561 v562
  let v573 : Index := Scalar.indexCast v563
  let c0_429 : Index := 0#32
  ![v573.toNat, 0]
def k0_off118 (d0 : Dev nD) : Fin 2 → Nat :=
  let c1536_i32_432 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_431 : BitVec 32 := 256#32
  let v579 : BitVec 32 := Scalar.muli v46 c256_i32_431
  let v580 : BitVec 32 := Scalar.addi c1536_i32_432 v579
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_433 : BitVec 32 := 128#32
  let v581 : BitVec 32 := Scalar.muli v19 c128_i32_433
  let v582 : BitVec 32 := Scalar.addi v580 v581
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c64_i32_434 : BitVec 32 := 64#32
  let v583 : BitVec 32 := Scalar.muli v57 c64_i32_434
  let v584 : BitVec 32 := Scalar.addi v582 v583
  let v594 : Index := Scalar.indexCast v584
  let c768_446 : Index := 768#32
  ![v594.toNat, 768]
def k0_off119 (d0 : Dev nD) : Fin 2 → Nat :=
  let c1536_i32_449 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_448 : BitVec 32 := 256#32
  let v600 : BitVec 32 := Scalar.muli v19 c256_i32_448
  let v601 : BitVec 32 := Scalar.addi c1536_i32_449 v600
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_450 : BitVec 32 := 128#32
  let v602 : BitVec 32 := Scalar.muli v57 c128_i32_450
  let v603 : BitVec 32 := Scalar.addi v601 v602
  let c64_i32_451 : BitVec 32 := 64#32
  let v604 : BitVec 32 := Scalar.muli v46 c64_i32_451
  let v605 : BitVec 32 := Scalar.addi v603 v604
  let v615 : Index := Scalar.indexCast v605
  let c1408_463 : Index := 1408#32
  ![v615.toNat, 1408]
def k0_dev67 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_483 : BitVec 32 := 1#32
  let v639 : BitVec 32 := Scalar.muli v73 c1_i32_483
  let v640 : BitVec 32 := Scalar.addi c0_i32_484 v639
  v640.toNat
def k0_dev68 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_507 : BitVec 32 := 1#32
  let v666 : BitVec 32 := Scalar.muli v63 c1_i32_507
  let v667 : BitVec 32 := Scalar.addi c0_i32_508 v666
  v667.toNat
def k0_dev69 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_532 : BitVec 32 := 1#32
  let v693 : BitVec 32 := Scalar.muli v69 c1_i32_532
  let v694 : BitVec 32 := Scalar.addi c0_i32_533 v693
  v694.toNat
def k0_off120 (d0 : Dev nD) : Fin 2 → Nat :=
  let c1536_i32_539 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_538 : BitVec 32 := 256#32
  let v702 : BitVec 32 := Scalar.muli v57 c256_i32_538
  let v703 : BitVec 32 := Scalar.addi c1536_i32_539 v702
  let c128_i32_540 : BitVec 32 := 128#32
  let v704 : BitVec 32 := Scalar.muli v46 c128_i32_540
  let v705 : BitVec 32 := Scalar.addi v703 v704
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_541 : BitVec 32 := 64#32
  let v706 : BitVec 32 := Scalar.muli v19 c64_i32_541
  let v707 : BitVec 32 := Scalar.addi v705 v706
  let c1_i32_543 : BitVec 32 := 1#32
  let c2_i32_542 : BitVec 32 := 2#32
  let v708 : BitVec 32 := Scalar.muli c2_i32_542 v19
  let v709 : BitVec 32 := Scalar.subi c1_i32_543 v708
  let c64_i32_544 : BitVec 32 := 64#32
  let v710 : BitVec 32 := Scalar.muli v709 c64_i32_544
  let v711 : BitVec 32 := Scalar.addi v707 v710
  let v721 : Index := Scalar.indexCast v711
  let c0_555 : Index := 0#32
  ![v721.toNat, 0]
def k0_off121 (d0 : Dev nD) : Fin 2 → Nat :=
  let c1536_i32_557 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_556 : BitVec 32 := 256#32
  let v723 : BitVec 32 := Scalar.muli v46 c256_i32_556
  let v724 : BitVec 32 := Scalar.addi c1536_i32_557 v723
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_558 : BitVec 32 := 128#32
  let v725 : BitVec 32 := Scalar.muli v19 c128_i32_558
  let v726 : BitVec 32 := Scalar.addi v724 v725
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let c64_i32_559 : BitVec 32 := 64#32
  let v727 : BitVec 32 := Scalar.muli v57 c64_i32_559
  let v728 : BitVec 32 := Scalar.addi v726 v727
  let c1_i32_561 : BitVec 32 := 1#32
  let c2_i32_560 : BitVec 32 := 2#32
  let v729 : BitVec 32 := Scalar.muli c2_i32_560 v57
  let v730 : BitVec 32 := Scalar.subi c1_i32_561 v729
  let c64_i32_562 : BitVec 32 := 64#32
  let v731 : BitVec 32 := Scalar.muli v730 c64_i32_562
  let v732 : BitVec 32 := Scalar.addi v728 v731
  let v742 : Index := Scalar.indexCast v732
  let c768_574 : Index := 768#32
  ![v742.toNat, 768]
def k0_off122 (d0 : Dev nD) : Fin 2 → Nat :=
  let c1536_i32_576 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_575 : BitVec 32 := 256#32
  let v744 : BitVec 32 := Scalar.muli v19 c256_i32_575
  let v745 : BitVec 32 := Scalar.addi c1536_i32_576 v744
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_577 : BitVec 32 := 128#32
  let v746 : BitVec 32 := Scalar.muli v57 c128_i32_577
  let v747 : BitVec 32 := Scalar.addi v745 v746
  let c64_i32_578 : BitVec 32 := 64#32
  let v748 : BitVec 32 := Scalar.muli v46 c64_i32_578
  let v749 : BitVec 32 := Scalar.addi v747 v748
  let c1_i32_580 : BitVec 32 := 1#32
  let c2_i32_579 : BitVec 32 := 2#32
  let v750 : BitVec 32 := Scalar.muli c2_i32_579 v46
  let v751 : BitVec 32 := Scalar.subi c1_i32_580 v750
  let c64_i32_581 : BitVec 32 := 64#32
  let v752 : BitVec 32 := Scalar.muli v751 c64_i32_581
  let v753 : BitVec 32 := Scalar.addi v749 v752
  let v763 : Index := Scalar.indexCast v753
  let c1408_593 : Index := 1408#32
  ![v763.toNat, 1408]
def k0_dev70 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_611 : BitVec 32 := 1#32
  let v781 : BitVec 32 := Scalar.muli v69 c1_i32_611
  let v782 : BitVec 32 := Scalar.addi c0_i32_612 v781
  v782.toNat
def k0_dev71 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_635 : BitVec 32 := 1#32
  let v806 : BitVec 32 := Scalar.muli v73 c1_i32_635
  let v807 : BitVec 32 := Scalar.addi c0_i32_636 v806
  v807.toNat
def k0_dev72 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_659 : BitVec 32 := 1#32
  let v831 : BitVec 32 := Scalar.muli v63 c1_i32_659
  let v832 : BitVec 32 := Scalar.addi c0_i32_660 v831
  v832.toNat
def k0_off123 (d0 : Dev nD) : Fin 2 → Nat :=
  let c1536_i32_666 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_665 : BitVec 32 := 256#32
  let v840 : BitVec 32 := Scalar.muli v57 c256_i32_665
  let v841 : BitVec 32 := Scalar.addi c1536_i32_666 v840
  let c128_i32_667 : BitVec 32 := 128#32
  let v842 : BitVec 32 := Scalar.muli v46 c128_i32_667
  let v843 : BitVec 32 := Scalar.addi v841 v842
  let c1_i32_669 : BitVec 32 := 1#32
  let c2_i32_668 : BitVec 32 := 2#32
  let v844 : BitVec 32 := Scalar.muli c2_i32_668 v46
  let v845 : BitVec 32 := Scalar.subi c1_i32_669 v844
  let c128_i32_670 : BitVec 32 := 128#32
  let v846 : BitVec 32 := Scalar.muli v845 c128_i32_670
  let v847 : BitVec 32 := Scalar.addi v843 v846
  let v857 : Index := Scalar.indexCast v847
  let c0_681 : Index := 0#32
  ![v857.toNat, 0]
def k0_off124 (d0 : Dev nD) : Fin 2 → Nat :=
  let c1536_i32_683 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_682 : BitVec 32 := 256#32
  let v859 : BitVec 32 := Scalar.muli v46 c256_i32_682
  let v860 : BitVec 32 := Scalar.addi c1536_i32_683 v859
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_684 : BitVec 32 := 128#32
  let v861 : BitVec 32 := Scalar.muli v19 c128_i32_684
  let v862 : BitVec 32 := Scalar.addi v860 v861
  let c1_i32_686 : BitVec 32 := 1#32
  let c2_i32_685 : BitVec 32 := 2#32
  let v863 : BitVec 32 := Scalar.muli c2_i32_685 v19
  let v864 : BitVec 32 := Scalar.subi c1_i32_686 v863
  let c128_i32_687 : BitVec 32 := 128#32
  let v865 : BitVec 32 := Scalar.muli v864 c128_i32_687
  let v866 : BitVec 32 := Scalar.addi v862 v865
  let v876 : Index := Scalar.indexCast v866
  let c768_699 : Index := 768#32
  ![v876.toNat, 768]
def k0_off125 (d0 : Dev nD) : Fin 2 → Nat :=
  let c1536_i32_701 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_700 : BitVec 32 := 256#32
  let v878 : BitVec 32 := Scalar.muli v19 c256_i32_700
  let v879 : BitVec 32 := Scalar.addi c1536_i32_701 v878
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c128_i32_702 : BitVec 32 := 128#32
  let v880 : BitVec 32 := Scalar.muli v57 c128_i32_702
  let v881 : BitVec 32 := Scalar.addi v879 v880
  let c1_i32_704 : BitVec 32 := 1#32
  let c2_i32_703 : BitVec 32 := 2#32
  let v882 : BitVec 32 := Scalar.muli c2_i32_703 v57
  let v883 : BitVec 32 := Scalar.subi c1_i32_704 v882
  let c128_i32_705 : BitVec 32 := 128#32
  let v884 : BitVec 32 := Scalar.muli v883 c128_i32_705
  let v885 : BitVec 32 := Scalar.addi v881 v884
  let v895 : Index := Scalar.indexCast v885
  let c1408_717 : Index := 1408#32
  ![v895.toNat, 1408]
def k0_dev73 (d0 : Dev nD) : Nat :=
  let c0_i32_735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v59 : BitVec 32 := Scalar.muli v19 c4_i32_24
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_25 : BitVec 32 := 2#32
  let v60 : BitVec 32 := Scalar.muli v46 c2_i32_25
  let c1_i32_23 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v58 : BitVec 32 := Scalar.subi c1_i32_23 v57
  let v61 : BitVec 32 := Scalar.xori v58 v46
  let v62 : BitVec 32 := Scalar.addi v60 v61
  let v63 : BitVec 32 := Scalar.addi v59 v62
  let c1_i32_734 : BitVec 32 := 1#32
  let v911 : BitVec 32 := Scalar.muli v63 c1_i32_734
  let v912 : BitVec 32 := Scalar.addi c0_i32_735 v911
  v912.toNat
def k0_dev74 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_27 : BitVec 32 := 4#32
  let v65 : BitVec 32 := Scalar.muli v19 c4_i32_27
  let c1_i32_26 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v64 : BitVec 32 := Scalar.subi c1_i32_26 v46
  let c2_i32_28 : BitVec 32 := 2#32
  let v66 : BitVec 32 := Scalar.muli v64 c2_i32_28
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.xori v56 v46
  let v67 : BitVec 32 := Scalar.xori v57 v64
  let v68 : BitVec 32 := Scalar.addi v66 v67
  let v69 : BitVec 32 := Scalar.addi v65 v68
  let c1_i32_757 : BitVec 32 := 1#32
  let v934 : BitVec 32 := Scalar.muli v69 c1_i32_757
  let v935 : BitVec 32 := Scalar.addi c0_i32_758 v934
  v935.toNat
def k0_dev75 (d0 : Dev nD) : Nat :=
  let c0_i32_781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let c2_i32_29 : BitVec 32 := 2#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.muli c2_i32_29 v19
  let v71 : BitVec 32 := Scalar.subi c1_i32_30 v70
  let c4_i32_31 : BitVec 32 := 4#32
  let v72 : BitVec 32 := Scalar.muli v71 c4_i32_31
  let v73 : BitVec 32 := Scalar.addi v2 v72
  let c1_i32_780 : BitVec 32 := 1#32
  let v957 : BitVec 32 := Scalar.muli v73 c1_i32_780
  let v958 : BitVec 32 := Scalar.addi c0_i32_781 v957
  v958.toNat
def k0_off126 (d0 : Dev nD) : Fin 2 → Nat :=
  let c1536_i32_787 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.xori v56 v46
  let c256_i32_786 : BitVec 32 := 256#32
  let v966 : BitVec 32 := Scalar.muli v57 c256_i32_786
  let v967 : BitVec 32 := Scalar.addi c1536_i32_787 v966
  let c1_i32_789 : BitVec 32 := 1#32
  let c2_i32_788 : BitVec 32 := 2#32
  let v968 : BitVec 32 := Scalar.muli c2_i32_788 v57
  let v969 : BitVec 32 := Scalar.subi c1_i32_789 v968
  let c256_i32_790 : BitVec 32 := 256#32
  let v970 : BitVec 32 := Scalar.muli v969 c256_i32_790
  let v971 : BitVec 32 := Scalar.addi v967 v970
  let v981 : Index := Scalar.indexCast v971
  let c0_801 : Index := 0#32
  ![v981.toNat, 0]
def k0_off127 (d0 : Dev nD) : Fin 2 → Nat :=
  let c1536_i32_803 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_802 : BitVec 32 := 256#32
  let v983 : BitVec 32 := Scalar.muli v46 c256_i32_802
  let v984 : BitVec 32 := Scalar.addi c1536_i32_803 v983
  let c1_i32_805 : BitVec 32 := 1#32
  let c2_i32_804 : BitVec 32 := 2#32
  let v985 : BitVec 32 := Scalar.muli c2_i32_804 v46
  let v986 : BitVec 32 := Scalar.subi c1_i32_805 v985
  let c256_i32_806 : BitVec 32 := 256#32
  let v987 : BitVec 32 := Scalar.muli v986 c256_i32_806
  let v988 : BitVec 32 := Scalar.addi v984 v987
  let v998 : Index := Scalar.indexCast v988
  let c768_818 : Index := 768#32
  ![v998.toNat, 768]
def k0_off128 (d0 : Dev nD) : Fin 2 → Nat :=
  let c1536_i32_820 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_819 : BitVec 32 := 256#32
  let v1000 : BitVec 32 := Scalar.muli v19 c256_i32_819
  let v1001 : BitVec 32 := Scalar.addi c1536_i32_820 v1000
  let c1_i32_822 : BitVec 32 := 1#32
  let c2_i32_821 : BitVec 32 := 2#32
  let v1002 : BitVec 32 := Scalar.muli c2_i32_821 v19
  let v1003 : BitVec 32 := Scalar.subi c1_i32_822 v1002
  let c256_i32_823 : BitVec 32 := 256#32
  let v1004 : BitVec 32 := Scalar.muli v1003 c256_i32_823
  let v1005 : BitVec 32 := Scalar.addi v1001 v1004
  let v1015 : Index := Scalar.indexCast v1005
  let c1408_835 : Index := 1408#32
  ![v1015.toNat, 1408]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S2048x2048 : Shape := ⟨2, ![2048, 2048]⟩
abbrev S2048x32768 : Shape := ⟨2, ![2048, 32768]⟩
abbrev S32768x2048 : Shape := ⟨2, ![32768, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x32768, .bf16⟩
  | .hbm, ⟨2, _⟩ => ⟨S2048x32768, .bf16⟩
  | .hbm, ⟨3, _⟩ => ⟨S32768x2048, .bf16⟩
  | .hbm, ⟨4, _⟩ => ⟨S2048x32768, .f32⟩
  | .hbm, ⟨5, _⟩ => ⟨S2048x32768, .f32⟩
  | .hbm, ⟨6, _⟩ => ⟨S2048x32768, .f32⟩
  | .hbm, ⟨7, _⟩ => ⟨S2048x32768, .f32⟩
  | .hbm, ⟨8, _⟩ => ⟨S_, .f32⟩
  | .hbm, ⟨9, _⟩ => ⟨S2048x32768, .f32⟩
  | .hbm, ⟨10, _⟩ => ⟨S2048x32768, .f32⟩
  | .hbm, ⟨11, _⟩ => ⟨S2048x32768, .f32⟩
  | .hbm, ⟨12, _⟩ => ⟨S2048x32768, .f32⟩
  | .hbm, ⟨13, _⟩ => ⟨S32768x2048, .f32⟩
  | .hbm, ⟨14, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Geometry.lean ====
/- The geometry of the fused kernel's all-reduce, and its program once for all rounds.

   The eight devices are the corners of a cube; axis `a` joins device `c` to `par a c`. The 2048 result rows are
   four waves of 512, the 2048 columns three parts (768, 640, 640). A part of a wave is reduced by three
   exchanges that halve the rows (`j = 0, 1, 2`) and spread by three that double them (`j = 3, 4, 5`), along the
   cube's axes in an order of the part's own. Round `k : Fin 24` is exchange `k % 6` of wave `k / 6`.

   `stageP p k c` is what device `c` runs to start part `p` of round `k` (narrow the rows, put them in a slot of
   the send buffer, start the copy to the neighbour), `consumeP p k c` what it runs to finish it (wait for the
   neighbour's rows, add them or put them in place), `waitSendP p k` the wait for its own copy to have left. -/
module

public import proofs.«01_k».proof.Proof.Gen.KernelIdeal.Skeleton
public import proofs.«01_k».proof.Proof.Gen.KernelIdeal.Frame

@[expose] public section

noncomputable section

namespace Cert.CubeProof

open Cert.KernelIdeal Cert.KernelIdeal.Gen
open Idealize.ShloMosaic Idealize.ShloMosaic.TcCoe Idealize.SL.Sem

variable {F : FTy → Type} [FloatOps F]

/-! ## Sizes and places -/

/-- The rows exchange `j` moves. -/
def szN : ℕ → ℕ
  | 0 => 256 | 1 => 128 | 2 => 64 | 3 => 64 | 4 => 128 | _ => 256
/-- The first row of exchange `j`'s region of the landing buffer. -/
def roffN : ℕ → ℕ
  | 0 => 0 | 1 => 256 | 2 => 384 | 3 => 448 | 4 => 512 | _ => 640
/-- A part's first column, -/
def col0 : Fin 3 → ℕ
  | 0 => 0 | 1 => 768 | 2 => 1408
/-- and its width. -/
def colw : Fin 3 → ℕ
  | 0 => 768 | 1 => 640 | 2 => 640

abbrev sz (k : Fin 24) : ℕ := szN (k.val % 6)

/-- The neighbour of `c` along axis `a`. -/
def par (a : Fin 3) (c : Dev nD) : Dev nD :=
  (![![1, 0, 3, 2, 5, 4, 7, 6], ![3, 2, 1, 0, 7, 6, 5, 4], ![4, 5, 6, 7, 0, 1, 2, 3]] : Fin 3 → Fin 8 → Fin 8) a c
/-- Which side of axis `a` device `c` is on. -/
def bit (a : Fin 3) (c : Dev nD) : ℕ :=
  (![![0, 1, 1, 0, 0, 1, 1, 0], ![0, 0, 1, 1, 0, 0, 1, 1], ![0, 0, 0, 0, 1, 1, 1, 1]] : Fin 3 → Fin 8 → ℕ) a c

theorem par_par : ∀ a c, par a (par a c) = c := by decide

/-- The `i`-th axis of part `p`. -/
def axN (p : Fin 3) (i : ℕ) : Fin 3 := ⟨(p.val + i) % 3, Nat.mod_lt _ (by decide)⟩
/-- The axis exchange `j` of part `p` runs along: the spreading exchanges go back the way the reducing ones came. -/
def axJ (p : Fin 3) (j : ℕ) : Fin 3 := axN p (if j < 3 then j else 5 - j)
/-- The neighbour of `c` in part `p` of round `k`. -/
abbrev mate (p : Fin 3) (k : Fin 24) (c : Dev nD) : Dev nD := par (axJ p (k.val % 6)) c

/-- The first row, within a wave, of the block device `c` is left with after `n` reducing exchanges of part `p`. -/
def base (p : Fin 3) (c : Dev nD) : ℕ → ℕ
  | 0 => 0
  | n + 1 => base p c n + bit (axN p n) c * szN n

/-- The first row of what `c` sends, -/
def sendRow (p : Fin 3) (k : Fin 24) (c : Dev nD) : ℕ :=
  512 * (k.val / 6) +
    if k.val % 6 < 3 then base p c (k.val % 6) + (1 - bit (axN p (k.val % 6)) c) * szN (k.val % 6)
    else base p c (6 - k.val % 6)
/-- and of where what it is sent goes. -/
def consRow (p : Fin 3) (k : Fin 24) (c : Dev nD) : ℕ :=
  512 * (k.val / 6) +
    if k.val % 6 < 3 then base p c (k.val % 6 + 1)
    else base p c (5 - k.val % 6) + (1 - bit (axN p (5 - k.val % 6)) c) * szN (5 - k.val % 6)

/-! ## The program's own address chains -/

/-- The offsets the program computes for what `c` sends, -/
def soffT (p : Fin 3) (k : Fin 24) : Dev nD → Fin 2 → ℕ :=
  (![
    ![k0_off3, k0_off9, k0_off15, k0_off18, k0_off24, k0_off30, k0_off36, k0_off42,
      k0_off48, k0_off51, k0_off57, k0_off63, k0_off69, k0_off75, k0_off81, k0_off84,
      k0_off90, k0_off96, k0_off102, k0_off108, k0_off114, k0_off117, k0_off111, k0_off105],
    ![k0_off4, k0_off10, k0_off16, k0_off19, k0_off25, k0_off31, k0_off37, k0_off43,
      k0_off49, k0_off52, k0_off58, k0_off64, k0_off70, k0_off76, k0_off82, k0_off85,
      k0_off91, k0_off97, k0_off103, k0_off109, k0_off115, k0_off118, k0_off112, k0_off106],
    ![k0_off5, k0_off11, k0_off17, k0_off20, k0_off26, k0_off32, k0_off38, k0_off44,
      k0_off50, k0_off53, k0_off59, k0_off65, k0_off71, k0_off77, k0_off83, k0_off86,
      k0_off92, k0_off98, k0_off104, k0_off110, k0_off116, k0_off119, k0_off113, k0_off107]] : Fin 3 → Fin 24 → _) p k
/-- for where what it is sent goes, -/
def coffT (p : Fin 3) (k : Fin 24) : Dev nD → Fin 2 → ℕ :=
  (![
    ![k0_off6, k0_off12, k0_off18, k0_off21, k0_off27, k0_off33, k0_off39, k0_off45,
      k0_off51, k0_off54, k0_off60, k0_off66, k0_off72, k0_off78, k0_off84, k0_off87,
      k0_off93, k0_off99, k0_off105, k0_off111, k0_off117, k0_off120, k0_off123, k0_off126],
    ![k0_off7, k0_off13, k0_off19, k0_off22, k0_off28, k0_off34, k0_off40, k0_off46,
      k0_off52, k0_off55, k0_off61, k0_off67, k0_off73, k0_off79, k0_off85, k0_off88,
      k0_off94, k0_off100, k0_off106, k0_off112, k0_off118, k0_off121, k0_off124, k0_off127],
    ![k0_off8, k0_off14, k0_off20, k0_off23, k0_off29, k0_off35, k0_off41, k0_off47,
      k0_off53, k0_off56, k0_off62, k0_off68, k0_off74, k0_off80, k0_off86, k0_off89,
      k0_off95, k0_off101, k0_off107, k0_off113, k0_off119, k0_off122, k0_off125, k0_off128]] : Fin 3 → Fin 24 → _) p k
/-- and the device it sends to. -/
def sdevT (p : Fin 3) (k : Fin 24) : Dev nD → ℕ :=
  (![
    ![k0_dev4, k0_dev7, k0_dev10, k0_dev13, k0_dev16, k0_dev19, k0_dev22, k0_dev25,
      k0_dev28, k0_dev31, k0_dev34, k0_dev37, k0_dev40, k0_dev43, k0_dev46, k0_dev49,
      k0_dev52, k0_dev55, k0_dev58, k0_dev61, k0_dev64, k0_dev67, k0_dev70, k0_dev73],
    ![k0_dev5, k0_dev8, k0_dev11, k0_dev14, k0_dev17, k0_dev20, k0_dev23, k0_dev26,
      k0_dev29, k0_dev32, k0_dev35, k0_dev38, k0_dev41, k0_dev44, k0_dev47, k0_dev50,
      k0_dev53, k0_dev56, k0_dev59, k0_dev62, k0_dev65, k0_dev68, k0_dev71, k0_dev74],
    ![k0_dev6, k0_dev9, k0_dev12, k0_dev15, k0_dev18, k0_dev21, k0_dev24, k0_dev27,
      k0_dev30, k0_dev33, k0_dev36, k0_dev39, k0_dev42, k0_dev45, k0_dev48, k0_dev51,
      k0_dev54, k0_dev57, k0_dev60, k0_dev63, k0_dev66, k0_dev69, k0_dev72, k0_dev75]] : Fin 3 → Fin 24 → _) p k

theorem soffT_eq : ∀ (p : Fin 3) (k : Fin 24) (c : Dev nD), soffT p k c = ![sendRow p k c, col0 p] := by decide +kernel
theorem coffT_eq : ∀ (p : Fin 3) (k : Fin 24) (c : Dev nD), coffT p k c = ![consRow p k c, col0 p] := by decide +kernel
theorem sdevT_eq : ∀ (p : Fin 3) (k : Fin 24) (c : Dev nD), sdevT p k c = (mate p k c).val := by decide +kernel
theorem sdevT_lt (p : Fin 3) (k : Fin 24) (c : Dev nD) : sdevT p k c < nD := by rw [sdevT_eq]; exact (mate p k c).isLt

/-- What a device is sent comes from the rows it goes to. -/
theorem consRow_mate : ∀ (p : Fin 3) (k : Fin 24) (c : Dev nD), sendRow p k (mate p k c) = consRow p k c := by decide +kernel

/-! ## Shapes, memrefs and semaphores -/

/-- A block of rows of a part. -/
abbrev blkS (p : Fin 3) (k : Fin 24) : Shape := ⟨2, ![sz k, colw p]⟩
/-- The same in a slot of the send buffer. -/
abbrev slotS (p : Fin 3) (k : Fin 24) : Shape := ⟨3, ![1, sz k, colw p]⟩
abbrev sbS (p : Fin 3) : Shape := ⟨3, ![2, 256, colw p]⟩
abbrev rbS (p : Fin 3) : Shape := ⟨2, ![896, colw p]⟩

/-- The send buffer of a part, -/
def sbM : (p : Fin 3) → Memref sig .tc .vmem (sbS p) .bf16
  | 0 => Memref.whole cc0_scratch0 | 1 => Memref.whole cc0_scratch2 | 2 => Memref.whole cc0_scratch4
/-- its landing buffer, -/
def rbM : (p : Fin 3) → Memref sig .tc .vmem (rbS p) .bf16
  | 0 => Memref.whole cc0_scratch1 | 1 => Memref.whole cc0_scratch3 | 2 => Memref.whole cc0_scratch5
/-- its send semaphores, -/
def ssA : (p : Fin 3) → DmaSems sig S24
  | 0 => cc0_scratch6 | 1 => cc0_scratch8 | 2 => cc0_scratch10
/-- and its receive semaphores. -/
def rsA : (p : Fin 3) → DmaSems sig S24
  | 0 => cc0_scratch7 | 1 => cc0_scratch9 | 2 => cc0_scratch11
/-- The result's staging buffer. -/
abbrev outM : Memref sig .tc .vmem S2048x2048 .f32 := Memref.whole cc0_stg4_0

theorem sbM_whole : (p : Fin 3) → (sbM p).IsWhole
  | 0 => Memref.isWhole_whole _ | 1 => Memref.isWhole_whole _ | 2 => Memref.isWhole_whole _
theorem rbM_whole : (p : Fin 3) → (rbM p).IsWhole
  | 0 => Memref.isWhole_whole _ | 1 => Memref.isWhole_whole _ | 2 => Memref.isWhole_whole _

theorem inb24 (k : Fin 24) : ∀ a, (![k.val] : Fin 1 → ℕ) a + S1.size a ≤ S24.size a := by revert k; decide
theorem inbSb : ∀ (p : Fin 3) (k : Fin 24), ∀ a, (![k.val % 2, 0, 0] : Fin 3 → ℕ) a + (slotS p k).size a ≤ (sbS p).size a := by decide
theorem inbRb : ∀ (p : Fin 3) (k : Fin 24), ∀ a, (![roffN (k.val % 6), 0] : Fin 2 → ℕ) a + (blkS p k).size a ≤ (rbS p).size a := by decide
theorem soffT_inb : ∀ (p : Fin 3) (k : Fin 24) (c : Dev nD), ∀ a, soffT p k c a + (blkS p k).size a ≤ S2048x2048.size a := by decide +kernel
theorem coffT_inb : ∀ (p : Fin 3) (k : Fin 24) (c : Dev nD), ∀ a, coffT p k c a + (blkS p k).size a ≤ S2048x2048.size a := by decide +kernel

abbrev rSb (p : Fin 3) (k : Fin 24) : Rect (sbS p) := Rect.unit (s := sbS p) ![k.val % 2, 0, 0] (slotS p k).size (inbSb p k)
abbrev rRb (p : Fin 3) (k : Fin 24) : Rect (rbS p) := Rect.unit (s := rbS p) ![roffN (k.val % 6), 0] (blkS p k).size (inbRb p k)
abbrev rSo (p : Fin 3) (k : Fin 24) (c : Dev nD) : Rect S2048x2048 := Rect.unit (s := S2048x2048) (soffT p k c) (blkS p k).size (soffT_inb p k c)
abbrev rCo (p : Fin 3) (k : Fin 24) (c : Dev nD) : Rect S2048x2048 := Rect.unit (s := S2048x2048) (coffT p k c) (blkS p k).size (coffT_inb p k c)

theorem squeezesSb : ∀ (p : Fin 3) (k : Fin 24), (slotS p k).Squeezes (blkS p k) := by decide
theorem wordsSb : ∀ (p : Fin 3) (k : Fin 24), (rSb p k).WholeWords (EltTy.packing .bf16) := by decide +kernel
theorem packedSb : ∀ (p : Fin 3) (k : Fin 24), (rSb p k).PackedRows (EltTy.packing .bf16) := by decide +kernel
theorem wordsRb : ∀ (p : Fin 3) (k : Fin 24), (rRb p k).WholeWords (EltTy.packing .bf16) := by decide +kernel
theorem posBlk : ∀ (p : Fin 3) (k : Fin 24), 0 < (blkS p k).numel := by decide +kernel
theorem posSlot : ∀ (p : Fin 3) (k : Fin 24), 0 < (slotS p k).numel := by decide +kernel
theorem castBlk : ∀ (p : Fin 3) (k : Fin 24), (blkS p k).ShapeCasts (blkS p k) := by decide +kernel
theorem castSlot : ∀ (p : Fin 3) (k : Fin 24), (blkS p k).ShapeCasts (slotS p k) := by decide +kernel

/-- The slot of round `k`, as the copy reads it, -/
abbrev sbSl (p : Fin 3) (k : Fin 24) : Memref sig .tc .vmem (blkS p k) .bf16 :=
  ((sbM p).slice (rSb p k) (fun _ => rfl)).squeeze (blkS p k) (squeezesSb p k)
/-- the region it lands in, -/
abbrev rbSl (p : Fin 3) (k : Fin 24) : Memref sig .tc .vmem (blkS p k) .bf16 := (rbM p).slice (rRb p k) (fun _ => rfl)
/-- and its semaphores. -/
abbrev semAt (A : DmaSems sig S24) (k : Fin 24) : DmaSem sig :=
  ((A.slice (Rect.unit (s := S24) ![k.val] S1.size (inb24 k))).squeeze S_ squeezes_S1_S_).sem

theorem wordExactSb (p : Fin 3) (k : Fin 24) : (sbSl p k).view.WordExact := ((sbM_whole p).wordExact_slice rfl _ (wordsSb p k)).reshape _ _
theorem wordExactRb (p : Fin 3) (k : Fin 24) : (rbSl p k).view.WordExact := (rbM_whole p).wordExact_slice rfl _ (wordsRb p k)

/-! ## The rounds -/

/-- What is put in the slot: the rows, narrowed. -/
def stagePay (p : Fin 3) (k : Fin 24) (v : Vec F (blkS p k) .f32) : FVec F (slotS p k) .bf16 :=
  shapeCast (slotS p k) (truncf .bf16 (shapeCast (blkS p k) v (castBlk p k)) bitsLt_bf16_f32) (castSlot p k)
/-- What a reducing exchange puts in place of rows `o` when it is sent `v`, -/
def addPay (p : Fin 3) (k : Fin 24) (v : Vec F (blkS p k) .bf16) (o : Vec F (blkS p k) .f32) : FVec F (blkS p k) .f32 :=
  addf (shapeCast (blkS p k) o (castBlk p k)) (extf .f32 v bitsLt_bf16_f32)
/-- and a spreading one. -/
def setPay (p : Fin 3) (k : Fin 24) (v : Vec F (blkS p k) .bf16) : FVec F (blkS p k) .f32 :=
  extf .f32 v bitsLt_bf16_f32

abbrev KProg (F : FTy → Type) : Type 1 := Prog (TpuEff nD τ sig (Elt F) Λ₀ .tc) PUnit

def waitSendP (p : Fin 3) (k : Fin 24) : KProg F :=
  Prog.lift (.waitDma2 (semAt (ssA p) k) (rbSl p k) (sbSl p k) (wordExactRb p k) (wordExactSb p k))

def stageP (p : Fin 3) (k : Fin 24) (c : Dev nD) : KProg F := do
  let v : Vec F (blkS p k) .f32 ← Prog.lift (.load outM (rSo p k c).toLoadRect (View.loadsAt_vmem (posBlk p k)))
  let _v : Vec F (slotS p k) .bf16 ← Prog.lift (.load (sbM p) (rSb p k).toLoadRect (View.loadsAt_vmem (posSlot p k)))
  Prog.lift (.store (sbM p) (rSb p k) (stagePay p k v) Finset.univ
    (View.stores_vmem (posSlot p k) ((sbM_whole p).storeExact_slice rfl _ (packedSb p k)) (fun _ => rfl)) (.inl rfl))
  Prog.lift (.enqueueDma (sbSl p k) (.remote (Dev.tc (⟨sdevT p k c, sdevT_lt p k c⟩ : Dev nD)) (rbSl p k) (.dma (semAt (ssA p) k)))
    (.dma (semAt (rsA p) k)) (wordExactSb p k) (wordExactRb p k) ⟨⟨rfl, Or.inl rfl⟩, trivial⟩)

def recvP (p : Fin 3) (k : Fin 24) : Prog (TpuEff nD τ sig (Elt F) Λ₀ .tc) (Vec F (blkS p k) .bf16) := do
  Prog.lift (.waitDma2 (semAt (rsA p) k) (sbSl p k) (rbSl p k) (wordExactSb p k) (wordExactRb p k))
  Prog.lift (.load (rbM p) (rRb p k).toLoadRect (View.loadsAt_vmem (posBlk p k)))

def addP (p : Fin 3) (k : Fin 24) (c : Dev nD) (v : Vec F (blkS p k) .bf16) : KProg F := do
  let o : Vec F (blkS p k) .f32 ← Prog.lift (.load outM (rCo p k c).toLoadRect (View.loadsAt_vmem (posBlk p k)))
  let _o : Vec F (blkS p k) .f32 ← Prog.lift (.load outM (rCo p k c).toLoadRect (View.loadsAt_vmem (posBlk p k)))
  Prog.lift (.store outM (rCo p k c) (addPay p k v o) Finset.univ (View.stores_vmem_bits_univ (posBlk p k) rfl) (.inl rfl))

def setP (p : Fin 3) (k : Fin 24) (c : Dev nD) (v : Vec F (blkS p k) .bf16) : KProg F := do
  let _o : Vec F (blkS p k) .f32 ← Prog.lift (.load outM (rCo p k c).toLoadRect (View.loadsAt_vmem (posBlk p k)))
  Prog.lift (.store outM (rCo p k c) (setPay p k v) Finset.univ (View.stores_vmem_bits_univ (posBlk p k) rfl) (.inl rfl))

def consumeP (p : Fin 3) (k : Fin 24) (c : Dev nD) : KProg F := do
  let v ← recvP p k
  if k.val % 6 < 3 then addP p k c v else setP p k c v

/-- A round's start in part `p`, the slot's earlier copy awaited first where there was one, -/
def startP (p : Fin 3) (k : Fin 24) (c : Dev nD) : KProg F := do
  if h : 2 ≤ k.val then waitSendP p ⟨k.val - 2, by omega⟩ else pure ⟨⟩
  stageP p k c
/-- in all parts, -/
def start3 (k : Fin 24) (c : Dev nD) : KProg F := do
  startP 0 k c
  startP 1 k c
  startP 2 k c
/-- and its end. -/
def finish3 (k : Fin 24) (c : Dev nD) : KProg F := do
  consumeP 0 k c
  consumeP 1 k c
  consumeP 2 k c
/-- The rounds one grid point runs: it ends the round before and starts its own. -/
def swap3 (k k' : Fin 24) (c : Dev nD) : KProg F := do
  finish3 k c
  start3 k' c
/-- A round run whole, as the last wave's are. -/
def full3 (k : Fin 24) (c : Dev nD) : KProg F := do
  start3 k c
  finish3 k c
/-- The last waits for its own copies. -/
def drainP (p : Fin 3) : KProg F := do
  waitSendP p 22
  waitSendP p 23
/-- The last wave's rounds. -/
def tailP (c : Dev nD) : KProg F := do
  full3 18 c
  full3 19 c
  full3 20 c
  full3 21 c
  full3 22 c
  full3 23 c
  drainP 0
  drainP 1
  drainP 2

end Cert.CubeProof

end
-- ==== Proof.Body.lean ====
/- The kernel's body at a grid point, as the rounds of `Geometry`: the printed text is this program by unfolding. -/
module

public import proofs.«01_k».proof.Proof.Geometry

@[expose] public section

noncomputable section

namespace Cert.CubeProof

open Cert.KernelIdeal Cert.KernelIdeal.Gen
open Idealize.ShloMosaic Idealize.ShloMosaic.TcCoe Idealize.SL.Sem

variable {F : FTy → Type} [FloatOps F]

/-- The barrier semaphore. -/
abbrev barS : Sem sig := (SemArray.scalar (sig.barrier 0 rfl) : Sems sig S_).sem

/-- The barrier: a signal to each neighbour, and the wait for theirs. -/
def barP (i : grid0.Coords) (c : Dev nD) (h : k0_cond1 i = 1#1) : KProg F := do
  semSignalWord (⟨k0_dev1 c, k0_dev1_lt i c h⟩ : Dev nD) barS 1#32
  semSignalWord (⟨k0_dev2 c, k0_dev2_lt i c h⟩ : Dev nD) barS 1#32
  semSignalWord (⟨k0_dev3 c, k0_dev3_lt i c h⟩ : Dev nD) barS 1#32
  semWaitWord barS 3#32

/-- A grid point's first product into its rows of the result, -/
def firstP (i : grid0.Coords) (x : Vec F S512x2048 .bf16) (g u : Vec F S2048x512 .bf16) (d : Vec F S512x2048 .bf16) (h : k0_cond2 i = 1#1) : KProg F := do
  let _o : Vec F S512x2048 .f32 ← Prog.lift (.load outM (Rect.unit (s := S2048x2048) (k0_off1 i) S512x2048.size (k0_off1_inb i h)).toLoadRect (View.loadsAt_vmem h_S512x2048))
  Prog.lift (.store outM (Rect.unit (s := S2048x2048) (k0_off1 i) S512x2048.size (k0_off1_inb i h)) (k0_pay133 x g u d) Finset.univ (View.stores_vmem_bits_univ h_S512x2048 rfl) (.inl rfl))
/-- and a later one, added. -/
def laterP (i : grid0.Coords) (x : Vec F S512x2048 .bf16) (g u : Vec F S2048x512 .bf16) (d : Vec F S512x2048 .bf16) (h : k0_cond3 i = 1#1) : KProg F := do
  let o : Vec F S512x2048 .f32 ← Prog.lift (.load outM (Rect.unit (s := S2048x2048) (k0_off2 i) S512x2048.size (k0_off2_inb i h)).toLoadRect (View.loadsAt_vmem h_S512x2048))
  let _o : Vec F S512x2048 .f32 ← Prog.lift (.load outM (Rect.unit (s := S2048x2048) (k0_off2 i) S512x2048.size (k0_off2_inb i h)).toLoadRect (View.loadsAt_vmem h_S512x2048))
  Prog.lift (.store outM (Rect.unit (s := S2048x2048) (k0_off2 i) S512x2048.size (k0_off2_inb i h)) (k0_pay134 x g u d o) Finset.univ (View.stores_vmem_bits_univ h_S512x2048 rfl) (.inl rfl))

section
variable (i : grid0.Coords) (m2 : Memref sig .tc .vmem S512x2048 .bf16) (h2 : m2.IsWhole) (m3 : Memref sig .tc .vmem S2048x512 .bf16) (h3 : m3.IsWhole)
  (m4 : Memref sig .tc .vmem S2048x512 .bf16) (h4 : m4.IsWhole) (m5 : Memref sig .tc .vmem S512x2048 .bf16) (h5 : m5.IsWhole)

def group0 (c : Dev nD) {β : Type} (r : β) : Prog (TpuEff nD τ sig (Elt F) Λ₀ .tc) β := do
  if h : k0_cond1 i = 1#1 then barP i c h else pure ⟨⟩
  let x : Vec F S512x2048 .bf16 ← Prog.lift (.load m2 (Rect.unit (s := S512x2048) ![0, 0] S512x2048.size inb_S512x2048_S512x2048_0_0).toLoadRect (View.loadsAt_vmem h_S512x2048))
  let g : Vec F S2048x512 .bf16 ← Prog.lift (.load m3 (Rect.unit (s := S2048x512) ![0, 0] S2048x512.size inb_S2048x512_S2048x512_0_0).toLoadRect (View.loadsAt_vmem h_S2048x512))
  let u : Vec F S2048x512 .bf16 ← Prog.lift (.load m4 (Rect.unit (s := S2048x512) ![0, 0] S2048x512.size inb_S2048x512_S2048x512_0_0).toLoadRect (View.loadsAt_vmem h_S2048x512))
  let d : Vec F S512x2048 .bf16 ← Prog.lift (.load m5 (Rect.unit (s := S512x2048) ![0, 0] S512x2048.size inb_S512x2048_S512x2048_0_0).toLoadRect (View.loadsAt_vmem h_S512x2048))
  if h : k0_cond2 i = 1#1 then firstP i x g u d h else pure ⟨⟩
  if h : k0_cond3 i = 1#1 then laterP i x g u d h else pure ⟨⟩
  if h : k0_cond4 i = 1#1 then start3 0 c else pure ⟨⟩
  pure r
def group1 (c : Dev nD) {β : Type} (r : β) : Prog (TpuEff nD τ sig (Elt F) Λ₀ .tc) β := do
  if h : k0_cond5 i = 1#1 then swap3 0 1 c else pure ⟨⟩
  if h : k0_cond6 i = 1#1 then swap3 1 2 c else pure ⟨⟩
  if h : k0_cond7 i = 1#1 then swap3 2 3 c else pure ⟨⟩
  if h : k0_cond8 i = 1#1 then swap3 3 4 c else pure ⟨⟩
  if h : k0_cond9 i = 1#1 then swap3 4 5 c else pure ⟨⟩
  if h : k0_cond10 i = 1#1 then finish3 5 c else pure ⟨⟩
  pure r
def group2 (c : Dev nD) {β : Type} (r : β) : Prog (TpuEff nD τ sig (Elt F) Λ₀ .tc) β := do
  if h : k0_cond11 i = 1#1 then start3 6 c else pure ⟨⟩
  if h : k0_cond12 i = 1#1 then swap3 6 7 c else pure ⟨⟩
  if h : k0_cond13 i = 1#1 then swap3 7 8 c else pure ⟨⟩
  if h : k0_cond14 i = 1#1 then swap3 8 9 c else pure ⟨⟩
  if h : k0_cond15 i = 1#1 then swap3 9 10 c else pure ⟨⟩
  if h : k0_cond16 i = 1#1 then swap3 10 11 c else pure ⟨⟩
  if h : k0_cond17 i = 1#1 then finish3 11 c else pure ⟨⟩
  pure r
def group3 (c : Dev nD) {β : Type} (r : β) : Prog (TpuEff nD τ sig (Elt F) Λ₀ .tc) β := do
  if h : k0_cond18 i = 1#1 then start3 12 c else pure ⟨⟩
  if h : k0_cond19 i = 1#1 then swap3 12 13 c else pure ⟨⟩
  if h : k0_cond20 i = 1#1 then swap3 13 14 c else pure ⟨⟩
  if h : k0_cond21 i = 1#1 then swap3 14 15 c else pure ⟨⟩
  if h : k0_cond22 i = 1#1 then swap3 15 16 c else pure ⟨⟩
  if h : k0_cond23 i = 1#1 then swap3 16 17 c else pure ⟨⟩
  if h : k0_cond24 i = 1#1 then finish3 17 c else pure ⟨⟩
  pure r
def group4 (c : Dev nD) : KProg F := do
  if h : k0_cond25 i = 1#1 then tailP c else pure ⟨⟩

set_option maxRecDepth 65536 in
set_option maxHeartbeats 0 in
theorem part99_eq (c : Dev nD) (w0 w1 w19 w46 w57 w63 w69 w73 w77 : BitVec 32) :
    ∃ r, k0_part99 (F := F) i m2 h2 m3 h3 m4 h4 m5 h5 outM (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11 w0 w1 c w19 w46 w57 w63 w69 w73 w77 = group0 i m2 m3 m4 m5 c r := by
  refine ⟨?_, ?_⟩; rotate_left
  rfl

set_option maxRecDepth 65536 in
set_option maxHeartbeats 0 in
theorem part100_eq (c : Dev nD) (w0 w1 w19 w46 w57 w63 w69 w73 w : BitVec 32) :
    ∃ r, k0_part100 (F := F) i m2 h2 m3 h3 m4 h4 m5 h5 outM (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11 w0 w1 c w19 w46 w57 w63 w69 w73 w = group1 i c r := by
  refine ⟨?_, ?_⟩; rotate_left
  rfl

set_option maxRecDepth 65536 in
set_option maxHeartbeats 0 in
theorem part101_eq (c : Dev nD) (w0 w1 w19 w46 w57 w63 w69 w73 w w' : BitVec 32) :
    ∃ r, k0_part101 (F := F) i m2 h2 m3 h3 m4 h4 m5 h5 outM (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11 w0 w1 c w19 w46 w57 w63 w69 w73 w w' = group2 i c r := by
  refine ⟨?_, ?_⟩; rotate_left
  rfl

set_option maxRecDepth 65536 in
set_option maxHeartbeats 0 in
theorem part102_eq (c : Dev nD) (w0 w1 w19 w46 w57 w63 w69 w73 : BitVec 32) (w w' : BitVec 1) :
    ∃ r, k0_part102 (F := F) i m2 h2 m3 h3 m4 h4 m5 h5 outM (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11 w0 w1 c w19 w46 w57 w63 w69 w73 w w' = group3 i c r := by
  refine ⟨?_, ?_⟩; rotate_left
  rfl

set_option maxRecDepth 65536 in
set_option maxHeartbeats 0 in
/-- The body: its device's number, then the barrier at the first point, the product, and the rounds due there. -/
theorem body_eq : ∃ (r0 : Dev nD → BitVec 32) (r1 : Dev nD → BitVec 32 → (_ : BitVec 32) ×' BitVec 32)
    (r2 : Dev nD → ((_ : BitVec 32) ×' BitVec 32) → (_ : BitVec 1) ×' BitVec 1) (r3 : Dev nD → ((_ : BitVec 1) ×' BitVec 1) → BitVec 32), cc0__fused_body (F := F) i m2 h2 m3 h3 m4 h4 m5 h5 outM (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11
    = (Prog.lift .deviceId >>= fun c => group0 i m2 m3 m4 m5 c (r0 c) >>= fun w0 => group1 i c (r1 c w0) >>= fun w1 =>
        group2 i c (r2 c w1) >>= fun w2 => group3 i c (r3 c w2) >>= fun _ => group4 i c) := by
  choose r0 e0 using part99_eq (F := F) i m2 h2 m3 h3 m4 h4 m5 h5
  choose r1 e1 using part100_eq (F := F) i m2 h2 m3 h3 m4 h4 m5 h5
  choose r2 e2 using part101_eq (F := F) i m2 h2 m3 h3 m4 h4 m5 h5
  choose r3 e3 using part102_eq (F := F) i m2 h2 m3 h3 m4 h4 m5 h5
  refine ⟨?_, ?_, ?_, ?_, ?_⟩; rotate_left 4
  rw [cc0__fused_body_eq_skeleton]; unfold cc0__fused_body_skel
  simp only [e0, e1, e2, e3]
  rfl

end

end Cert.CubeProof

end
-- ==== Proof.Schedule.lean ====
module

public import proofs.«01_k».proof.Proof.Geometry
public import proofs.«01_k».proof.Proof.Body
public import Idealize.ShloMosaic.Lib.Pipeline.Launch
public import Idealize.ShloMosaic.Lib.Pipeline.Kit
public import Idealize.ShloMosaic.Lib.Tactic

/-! # The exchanges' protocol

Every semaphore is used once. Device `c`'s barrier cell is signalled by its three neighbours; the one along axis `a` hands
`c` the regions of its landing buffers that `c` is to write first along that axis. In round `k` of part `p` device `c`
fills a slot of its send buffer and copies it to its neighbour `mate p k c`, on whose receive cell the copy hands over
the block, and with it, until the last three rounds, the region of `c`'s own landing buffer that the neighbour is next to
write. A receive wait takes what the neighbour handed over; a send wait takes back the slot.

The blocks sent are a parameter: `X p k c` is what `c` sends in round `k` of part `p`. -/

@[expose] public section

noncomputable section

namespace Cert.CubeProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- What every device sends in every round. -/
abbrev Msgs (F : FTy → Type) : Type := (p : Fin 3) → (k : Fin 24) → Dev nD → Vec F (blkS p k) .bf16

/-! ## The cells -/

/-- The cells of a device: the barrier's, and per part and round a send (`true`) and a receive (`false`) cell. -/
abbrev CI : Type := Option (Bool × Fin 3 × Fin 24)

def csem : CI → SemLoc sig
  | none => .reg barS
  | some (true, p, k) => .dma (semAt (ssA p) k)
  | some (false, p, k) => .dma (semAt (rsA p) k)

/-- Which cell a semaphore is: the exchanges' follow the pipeline's nine in the pool, send and receive arrays in turn. -/
def cls : SemLoc sig → Option CI
  | .reg s => if s = barS then some none else none
  | .dma q =>
    if h : 9 ≤ q.val ∧ q.val < 153 then
      some (some (decide ((q.val - 9) % 48 < 24), ⟨(q.val - 9) / 48, by omega⟩, ⟨(q.val - 9) % 24, by omega⟩))
    else none

theorem cls_send : ∀ p k, cls (.dma (semAt (ssA p) k)) = some (some (true, p, k)) := by decide +kernel
theorem cls_recv : ∀ p k, cls (.dma (semAt (rsA p) k)) = some (some (false, p, k)) := by decide +kernel
theorem cls_bar : cls (.reg barS) = some none := by unfold cls; exact if_pos rfl
theorem cls_csem : ∀ x, cls (csem x) = some x
  | none => cls_bar
  | some (true, p, k) => cls_send p k
  | some (false, p, k) => cls_recv p k
theorem csem_inj : Function.Injective csem := fun a b h => by
  have := congrArg cls h; rw [cls_csem, cls_csem] at this; exact Option.some.inj this

abbrev kcell (ck : Dev nD × CI) : GSem nD τ sig := ((ck.1 : Thread nD τ), csem ck.2)
abbrev barCell (c : Dev nD) : GSem nD τ sig := ((c : Thread nD τ), .reg barS)
abbrev sCell (c : Dev nD) (p : Fin 3) (k : Fin 24) : GSem nD τ sig := ((c : Thread nD τ), .dma (semAt (ssA p) k))
abbrev rCell (c : Dev nD) (p : Fin 3) (k : Fin 24) : GSem nD τ sig := ((c : Thread nD τ), .dma (semAt (rsA p) k))

/-- The credit of a round's copy. -/
abbrev nB (p : Fin 3) (k : Fin 24) : ℕ := (rbSl p k).view.dmaCredit
theorem nB_pos (p : Fin 3) (k : Fin 24) : 0 < nB p k := View.dmaCredit_pos _ (posBlk p k)
theorem nB_send : ∀ (p : Fin 3) (k : Fin 24), (sbSl p k).view.dmaCredit = nB p k := by decide +kernel

/-! ## The buffers' pieces -/

theorem inbReg : ∀ (p : Fin 3) (j : ℕ), ∀ a, (![roffN j, 0] : Fin 2 → ℕ) a + (⟨2, ![szN j, colw p]⟩ : Shape).size a ≤ (rbS p).size a := by
  intro p j
  have h : ∀ (p : Fin 3) (j : Fin 6), ∀ a, (![roffN j, 0] : Fin 2 → ℕ) a + (⟨2, ![szN j, colw p]⟩ : Shape).size a ≤ (rbS p).size a := by decide
  by_cases hj : j < 6
  · exact h p ⟨j, hj⟩
  · obtain ⟨i, rfl⟩ := Nat.exists_eq_add_of_le (Nat.not_lt.mp hj)
    rw [show 6 + i = i + 5 + 1 by omega]
    exact h p 5
theorem inbSlot : ∀ (p : Fin 3) (b : ℕ), ∀ a, (![b % 2, 0, 0] : Fin 3 → ℕ) a + (⟨3, ![1, 256, colw p]⟩ : Shape).size a ≤ (sbS p).size a := by
  intro p b
  have h : ∀ (p : Fin 3) (j : Fin 2), ∀ a, (![j, 0, 0] : Fin 3 → ℕ) a + (⟨3, ![1, 256, colw p]⟩ : Shape).size a ≤ (sbS p).size a := by decide
  exact h p ⟨b % 2, Nat.mod_lt _ (by decide)⟩

/-- Exchange `j`'s region of part `p`'s landing buffer. -/
abbrev regR (p : Fin 3) (j : ℕ) : Rect (rbS p) := Rect.unit (s := rbS p) ![roffN j, 0] (⟨2, ![szN j, colw p]⟩ : Shape).size (inbReg p j)
/-- Slot `b` of part `p`'s send buffer. -/
abbrev slotR (p : Fin 3) (b : ℕ) : Rect (sbS p) := Rect.unit (s := sbS p) ![b % 2, 0, 0] (⟨3, ![1, 256, colw p]⟩ : Shape).size (inbSlot p b)

abbrev regSet (p : Fin 3) (j : ℕ) : Finset (rbM p).view.ty.Idx := ((rbM p).access (regR p j)).set
abbrev slotSet (p : Fin 3) (b : ℕ) : Finset (sbM p).view.ty.Idx := ((sbM p).access (slotR p b)).set

theorem rbSl_set (p : Fin 3) (k : Fin 24) : (rbSl p k).view.set = regSet p (k.val % 6) := rfl
theorem sbSl_set (p : Fin 3) (k : Fin 24) : (sbSl p k).view.set = ((sbM p).access (rSb p k)).set := View.set_reshape _ _
theorem sbSl_sub (p : Fin 3) (k : Fin 24) : (sbSl p k).view.set ⊆ slotSet p k.val := by
  rw [sbSl_set]
  unfold slotSet Memref.access
  rw [View.set_slice, View.set_slice]
  refine Finset.map_subset_map.mpr ?_
  intro i hi
  rw [Rect.mem_set_unit] at hi ⊢
  intro a
  obtain ⟨h1, h2⟩ := hi a
  refine ⟨h1, h2.trans_le ?_⟩
  have hs : sz k ≤ 256 := by unfold sz szN; split <;> decide
  fin_cases a
  · exact le_rfl
  · exact Nat.add_le_add_left hs _
  · exact le_rfl

def rbPts (c : Dev nD) (p : Fin 3) (S : Finset (rbM p).view.ty.Idx) (f : (rbM p).view.ty.Contents (Elt F)) : sProp 𝕄 :=
  (rbM p).view.loc (c : Thread nD τ) ↦[S]{fullShare} f
def sbPts (c : Dev nD) (p : Fin 3) (S : Finset (sbM p).view.ty.Idx) (f : (sbM p).view.ty.Contents (Elt F)) : sProp 𝕄 :=
  (sbM p).view.loc (c : Thread nD τ) ↦[S]{fullShare} f

omit [FloatOps F] in
instance rbPts_storable (c : Dev nD) (p : Fin 3) (S f) : BI.Storable (upEmb : UEmb _ 𝕄) (rbPts (F := F) c p S f) := by unfold rbPts; infer_instance
omit [FloatOps F] in
instance sbPts_storable (c : Dev nD) (p : Fin 3) (S f) : BI.Storable (upEmb : UEmb _ 𝕄) (sbPts (F := F) c p S f) := by unfold sbPts; infer_instance

/-- Exchange `j`'s region of `c`'s landing buffer, its contents unknown. -/
def reg (c : Dev nD) (p : Fin 3) (j : ℕ) : sProp 𝕄 := iprop(∃ f, rbPts (F := F) c p (regSet p j) f)
/-- The region of the neighbour's that `c` writes in exchange `j`. -/
def right (c : Dev nD) (p : Fin 3) (j : ℕ) : sProp 𝕄 := reg (F := F) (par (axJ p j) c) p j

omit [FloatOps F] in
instance reg_storable (c : Dev nD) (p : Fin 3) (j : ℕ) : BI.Storable (upEmb : UEmb _ 𝕄) (reg (F := F) c p j) := by unfold reg; infer_instance

/-! ## The payloads -/

/-- The exchange among the first three of part `p` that runs along axis `a`. -/
def jOf (p a : Fin 3) : ℕ := (a.val + 3 - p.val) % 3
theorem axJ_jOf : ∀ p a, axJ p (jOf p a) = a := by decide

def barPay (c : Dev nD) (a : Fin 3) : sProp 𝕄 := bigSep Finset.univ fun p : Fin 3 => reg (F := F) (par a c) p (jOf p a)
def sendPay (c : Dev nD) (p : Fin 3) (k : Fin 24) : sProp 𝕄 := iprop(∃ f, sbPts (F := F) c p (sbSl p k).view.set f)
/-- The region handed on with round `k`'s block. -/
def handOn (d : Dev nD) (p : Fin 3) (k : Fin 24) : sProp 𝕄 := if k.val < 21 then reg (F := F) d p (5 - k.val % 6) else iprop(emp)
def recvPay (X : Msgs F) (c : Dev nD) (p : Fin 3) (k : Fin 24) : sProp 𝕄 :=
  iprop((∃ f, ⌜(rbSl p k).view.read (Elt F) f = X p k (mate p k c)⌝ ∗ rbPts c p (regSet p (k.val % 6)) f) ∗ handOn (F := F) (mate p k c) p k)

omit [FloatOps F] in
instance handOn_storable (c : Dev nD) (p : Fin 3) (k : Fin 24) : BI.Storable (upEmb : UEmb _ 𝕄) (handOn (F := F) c p k) := by
  unfold handOn; split <;> infer_instance

variable (X : Msgs F)

/-- One round each: the barrier cells with a unit from each neighbour, the others with one copy's credit. -/
def Rd : Rounds.Schedule (GSem nD τ sig) (Fin 3) 𝕄 where
  duties g r := if r = 0 ∧ g.1.2 = .tc then
      match cls g.2 with | some none => Finset.univ | some (some _) => {0} | none => ∅
    else ∅
  unitless _ := False
  amount g _ _ := match cls g.2 with | some (some (_, p, k)) => nB p k | _ => 1
  payload g _ d := match cls g.2 with
    | some none => barPay g.1.1 d
    | some (some (true, p, k)) => sendPay g.1.1 p k
    | some (some (false, p, k)) => recvPay X g.1.1 p k
    | none => iprop(emp)
  amount_pos g _ _ _ := by
    show 0 < (match cls g.2 with | some (some (_, p, k)) => nB p k | _ => 1)
    split
    · exact nB_pos _ _
    · exact Nat.one_pos

instance Rd_payload_storable (g : GSem nD τ sig) (r : ℕ) (d : Fin 3) :
    BI.Storable (upEmb : UEmb _ 𝕄) ((Rd (F := F) X).payload g r d) := by
  show BI.Storable upEmb (match cls g.2 with
    | some none => barPay g.1.1 d
    | some (some (true, p, k)) => sendPay g.1.1 p k
    | some (some (false, p, k)) => recvPay X g.1.1 p k
    | none => iprop(emp))
  unfold barPay recvPay sendPay
  split <;> infer_instance

section Sched
variable (c : Dev nD) (p : Fin 3) (k : Fin 24)

theorem duties_bar : (Rd X).duties (barCell c) 0 = Finset.univ := by
  dsimp only [Rd]; rw [if_pos ⟨rfl, rfl⟩, cls_bar]
theorem duties_send : (Rd X).duties (sCell c p k) 0 = {0} := by
  dsimp only [Rd]; rw [if_pos ⟨rfl, rfl⟩, cls_send]
theorem duties_recv : (Rd X).duties (rCell c p k) 0 = {0} := by
  dsimp only [Rd]; rw [if_pos ⟨rfl, rfl⟩, cls_recv]
theorem duties_later (g : GSem nD τ sig) : ∀ r, 1 ≤ r → (Rd X).duties g r = ∅ :=
  fun r hr => by dsimp only [Rd]; rw [if_neg fun h => by omega]
theorem amount_bar (d : Fin 3) : (Rd X).amount (barCell c) 0 d = 1 := by dsimp only [Rd]; rw [cls_bar]
theorem amount_send (d : Fin 3) : (Rd X).amount (sCell c p k) 0 d = nB p k := by dsimp only [Rd]; rw [cls_send]
theorem amount_recv (d : Fin 3) : (Rd X).amount (rCell c p k) 0 d = nB p k := by dsimp only [Rd]; rw [cls_recv]
theorem expect_bar : (Rd X).expect (barCell c) 0 = 3 := by
  unfold Schedule.expect Schedule.amountOf
  rw [duties_bar, Finset.sum_congr rfl fun d _ => amount_bar X c d]; rfl
theorem expect_send : (Rd X).expect (sCell c p k) 0 = nB p k := by
  unfold Schedule.expect Schedule.amountOf; rw [duties_send, Finset.sum_singleton, amount_send]
theorem expect_recv : (Rd X).expect (rCell c p k) 0 = nB p k := by
  unfold Schedule.expect Schedule.amountOf; rw [duties_recv, Finset.sum_singleton, amount_recv]
theorem payload_bar (d : Fin 3) : (Rd X).payload (barCell c) 0 d = barPay c d := by dsimp only [Rd]; rw [cls_bar]
theorem payload_send (d : Fin 3) : (Rd X).payload (sCell c p k) 0 d = sendPay c p k := by dsimp only [Rd]; rw [cls_send]
theorem payload_recv (d : Fin 3) : (Rd X).payload (rCell c p k) 0 d = recvPay X c p k := by dsimp only [Rd]; rw [cls_recv]
theorem rest_bar : bigSep ((Rd X).duties (barCell c) 0 \ ∅) (fun d => (Rd X).payload (barCell c) 0 d) = bigSep Finset.univ (barPay (F := F) c) := by
  rw [Finset.sdiff_empty, duties_bar]; exact bigSep_congr fun d _ => payload_bar X c d
theorem rest_send : bigSep ((Rd X).duties (sCell c p k) 0 \ ∅) (fun d => (Rd X).payload (sCell c p k) 0 d) = sendPay c p k := by
  rw [Finset.sdiff_empty, duties_send, bigSep_singleton, payload_send]
theorem rest_recv : bigSep ((Rd X).duties (rCell c p k) 0 \ ∅) (fun d => (Rd X).payload (rCell c p k) 0 d) = recvPay X c p k := by
  rw [Finset.sdiff_empty, duties_recv, bigSep_singleton, payload_recv]
end Sched

/-! ## Levels and what is owed -/

def L (g : GSem nD τ sig) : Finset Unit := if g.1.2 = .tc then {()} else ∅
/-- Staging and send cells lowest, then the barrier's, then the receive cells in the order of their rounds. -/
def lv (g : GSem nD τ sig) (_ : Unit) : ℕ :=
  match cls g.2 with | some none => 1 | some (some (false, _, k)) => 2 + k.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [cls_bar]
theorem lv_send (c : Dev nD) (p k) : lv (sCell c p k) () = 0 := by dsimp only [lv]; rw [cls_send]
theorem lv_recv (c : Dev nD) (p k) : lv (rCell c p k) () = 2 + k.val := by dsimp only [lv]; rw [cls_recv]

/-- Everything in `O` is owed above level `n`. -/
def Above (n : ℕ) (O : CellTallies nD τ sig Unit) : Prop := ∀ g u, 0 < O g u → u ∈ L g ∧ n < lv g u

theorem Above.mono {n n' : ℕ} {O : CellTallies nD τ sig Unit} (h : Above n' O) (hn : n ≤ n') : Above n O :=
  fun g u hg => ⟨(h g u hg).1, hn.trans_lt (h g u hg).2⟩
theorem Above.zero (n : ℕ) : Above n 0 := fun g u hg => absurd hg (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (sm : SemLoc sig) (N : ℕ) (h : n < lv ((c : Thread nD τ), sm) ()) :
    Above n (tallyAt ((c : Thread nD τ), sm) () N) := fun g u hg => by
  rw [tallyAt_apply] at hg
  by_cases h' : g = ((c : Thread nD τ), sm) ∧ u = ()
  · obtain ⟨rfl, rfl⟩ := h'; exact ⟨by rw [L_tc]; exact Finset.mem_singleton_self _, h⟩
  · rw [if_neg h'] at hg; exact absurd hg (Nat.lt_irrefl 0)
theorem Above.sum {n : ℕ} {I : Type} (s : Finset I) (O : I → CellTallies nD τ sig Unit) (h : ∀ i ∈ s, Above n (O i)) : Above n (∑ i ∈ s, O i) := by
  classical
  induction s using Finset.induction_on with
  | empty => rw [Finset.sum_empty]; exact Above.zero n
  | insert a s ha ih =>
    rw [Finset.sum_insert ha]
    exact (h a (Finset.mem_insert_self _ _)).add (ih fun i hi => h i (Finset.mem_insert_of_mem hi))

omit [FloatOps F] in
theorem mayWait_of_above (c : Dev nD) (sm : SemLoc sig) {n : ℕ} (hsm : lv ((c : Thread nD τ), sm) () = n) {O : CellTallies nD τ sig Unit} (h : Above n O) :
    (levAts L lv : sProp 𝕄) ⊢ MayWait (c : Thread nD τ) sm () O :=
  MayOwe.of_cut (L := L) (lev := lv) n (fun q hq => by rw [Finset.mem_singleton.mp hq, L_tc]; exact Finset.mem_singleton_self _)
    (fun g u hg => (h g u hg).1)
    (fun q hq => by rw [Finset.mem_singleton.mp hq]; exact hsm.le)
    (fun g u hg => (h g u hg).2)

/-! ## A device's holdings between rounds -/

/-- The rounds from `n` on, the rounds before, and the rounds two before. -/
def geS (n : ℕ) : Finset (Fin 24) := Finset.univ.filter fun k => n ≤ k.val
def ltS (n : ℕ) : Finset (Fin 24) := Finset.univ.filter fun k => k.val < n

theorem geS_eq (k : Fin 24) : geS k.val = insert k (geS (k.val + 1)) := by
  ext i; simp only [geS, Finset.mem_filter, Finset.mem_univ, true_and, Finset.mem_insert, Fin.ext_iff]; omega
theorem not_mem_geS (k : Fin 24) : k ∉ geS (k.val + 1) := by simp [geS]
theorem ltS_eq (k : Fin 24) : ltS (k.val + 1) = insert k (ltS k.val) := by
  ext i; simp only [ltS, Finset.mem_filter, Finset.mem_univ, true_and, Finset.mem_insert, Fin.ext_iff]; omega
theorem not_mem_ltS (k : Fin 24) : k ∉ ltS k.val := by simp [ltS]
theorem geS_zero : geS 0 = Finset.univ := by ext i; simp [geS]
theorem geS_last : geS 24 = ∅ := by ext i; simp only [geS, Finset.mem_filter, Finset.mem_univ, true_and, Finset.notMem_empty, iff_false]; omega
theorem ltS_zero : ltS 0 = ∅ := by ext i; simp [ltS]
theorem ltS_last : ltS 24 = Finset.univ := by ext i; simp only [ltS, Finset.mem_filter, Finset.mem_univ, true_and, iff_true]; omega

/-- The regions of its own landing buffer a device holds before round `n`, and those of its neighbours'. -/
def held : ℕ → Finset ℕ × Finset ℕ
  | 0 => ({3, 4, 5}, {0, 1, 2})
  | n + 1 =>
    (insert (n % 6) (if n < 21 then (held n).1.erase (5 - n % 6) else (held n).1),
      if n < 21 then insert (5 - n % 6) ((held n).2.erase (n % 6)) else (held n).2.erase (n % 6))
abbrev own (n : ℕ) : Finset ℕ := (held n).1
abbrev rts (n : ℕ) : Finset ℕ := (held n).2
/-- The same once round `n`'s block is on its way. -/
def ownMid (n : ℕ) : Finset ℕ := if n < 21 then (own n).erase (5 - n % 6) else own n
def rtsMid (n : ℕ) : Finset ℕ := (rts n).erase (n % 6)
theorem own_succ (n : ℕ) : own (n + 1) = insert (n % 6) (ownMid n) := rfl
theorem rts_succ (n : ℕ) : rts (n + 1) = if n < 21 then insert (5 - n % 6) (rtsMid n) else rtsMid n := rfl
theorem mem_rts : ∀ k : Fin 24, k.val % 6 ∈ rts k.val := by decide +kernel
theorem mem_own : ∀ k : Fin 24, k.val < 21 → 5 - k.val % 6 ∈ own k.val := by decide +kernel
theorem not_mem_ownMid : ∀ k : Fin 24, k.val % 6 ∉ ownMid k.val := by decide +kernel
theorem not_mem_rtsMid : ∀ k : Fin 24, 5 - k.val % 6 ∉ rtsMid k.val := by decide +kernel
theorem own_last : own 24 = {0, 1, 2, 3, 4, 5} := by decide +kernel
theorem rts_last : rts 24 = ∅ := by decide +kernel
theorem axJ_sub : ∀ (p : Fin 3) (k : Fin 24), axJ p (5 - k.val % 6) = axJ p (k.val % 6) := by decide +kernel

/-- A slot of the send buffer, its contents unknown. -/
def freeSlot (c : Dev nD) (p : Fin 3) (b : ℕ) : sProp 𝕄 := iprop(∃ f, sbPts (F := F) c p (slotSet p b) f)
/-- What waiting for round `k`'s send takes, and the part of the slot the copy does not read. -/
def flying (c : Dev nD) (p : Fin 3) (k : Fin 24) : sProp 𝕄 :=
  iprop(cred (tallyAt (sCell c p k) () (nB p k)) ∗ atPos ER (sCell c p k) 0 ∅ 0
    ∗ ∃ f, sbPts (F := F) c p (slotSet p k.val \ (sbSl p k).view.set) f)
/-- The slot round `n` is to use: at the first two rounds free, later that of the round two before, still in flight. -/
def pend (c : Dev nD) (p : Fin 3) : ℕ → sProp 𝕄
  | 0 => freeSlot (F := F) c p 0
  | 1 => freeSlot (F := F) c p 1
  | n + 2 => if h : n < 24 then flying (F := F) c p ⟨n, h⟩ else iprop(emp)
def sTodo (c : Dev nD) (p : Fin 3) (k : Fin 24) : sProp 𝕄 :=
  iprop(dutyTok (ER (F := F)) (sCell c p k) 0 0 ∗ dutyTok ER (rCell (mate p k c) p k) 0 0 ∗ atPos ER (sCell c p k) 0 ∅ 0)
def rTodo (c : Dev nD) (p : Fin 3) (k : Fin 24) : sProp 𝕄 :=
  iprop(atPos (ER (F := F)) (rCell c p k) 0 ∅ 0 ∗ cred (tallyAt (rCell c p k) () (nB p k)))
def sDone (c : Dev nD) (p : Fin 3) (k : Fin 24) : sProp 𝕄 := semVal (sCell c p k) 0
def rDone (c : Dev nD) (p : Fin 3) (k : Fin 24) : sProp 𝕄 := semVal (rCell c p k) 0

/-- Part `p`'s holdings before round `n`. -/
def PartA (c : Dev nD) (p : Fin 3) (n : ℕ) : sProp 𝕄 :=
  iprop((bigSep (geS n) (sTodo (F := F) c p) ∗ pend (F := F) c p n ∗ pend (F := F) c p (n + 1) ∗ bigSep (ltS (n - 2)) (sDone (F := F) c p))
    ∗ (bigSep (geS n) (rTodo (F := F) c p) ∗ bigSep (ltS n) (rDone (F := F) c p))
    ∗ bigSep (own n) (reg (F := F) c p) ∗ bigSep (rts n) (right (F := F) c p))
/-- Part `p`'s holdings with round `n`'s block on its way. -/
def PartB (c : Dev nD) (p : Fin 3) (n : ℕ) : sProp 𝕄 :=
  iprop((bigSep (geS (n + 1)) (sTodo (F := F) c p) ∗ pend (F := F) c p (n + 1) ∗ pend (F := F) c p (n + 2) ∗ bigSep (ltS (n - 1)) (sDone (F := F) c p))
    ∗ (bigSep (geS n) (rTodo (F := F) c p) ∗ bigSep (ltS n) (rDone (F := F) c p))
    ∗ bigSep (ownMid n) (reg (F := F) c p) ∗ bigSep (rtsMid n) (right (F := F) c p))

/-- Every cell's invariant, under the names `K`, and that its round 0 has been reached. -/
def recs (K : Dev nD × CI → ℕ) : sProp 𝕄 :=
  bigSep Finset.univ fun ck => iprop(cellInv ER (Rd X) (K ck) (kcell ck) ∗ reached ER (kcell ck) 0)
instance recs_persistent (K : Dev nD × CI → ℕ) : BI.Persistent (recs X K) := by unfold recs; infer_instance
theorem recs_at (K : Dev nD × CI → ℕ) (ck : Dev nD × CI) : recs X K ⊢ iprop(cellInv ER (Rd X) (K ck) (kcell ck) ∗ reached ER (kcell ck) 0) :=
  bigSep_elim (Finset.mem_univ ck)

end Cert.CubeProof

end
-- ==== Proof.Steps.lean ====
module

public import proofs.«01_k».proof.Proof.Schedule

/-! # A round of one part, from its holdings -/

@[expose] public section

noncomputable section

namespace Cert.CubeProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of device `c`'s core meets a postcondition. -/
abbrev Meets {α : Type} (c : Dev nD) (P : Prog (TpuEff nD τ sig (Elt F) Λ₀ .tc) α) (Q : α → sProp (MT nD τ sig Unit (Elt F) ℕ UU ℕ)) : sProp 𝕄 :=
  wp frame (wpE (defs₀ (F := F)) 𝒱₀ (c : Thread nD τ) none) Set.univ P Q

/-- What device `c` owes, whatever waits it has been through. -/
def debt (c : Dev nD) (O : CellTallies nD τ sig Unit) : sProp 𝕄 := iprop(∃ W, owes (c : Thread nD τ) O W)

/-! ## What the rounds do to the rows -/

abbrev OutC (F : FTy → Type) : Type := (cc0_stg4_0 : Ref sig .tc).ty.Contents (Elt F)

def outPts (c : Dev nD) (f : OutC F) : sProp 𝕄 := ((c : Thread nD τ).loc cc0_stg4_0) ↦{fullShare} f

/-- The block `c` sends in round `k` when its rows are `f`. -/
def sent (p : Fin 3) (k : Fin 24) (c : Dev nD) (f : OutC F) : Vec F (blkS p k) .bf16 :=
  fun j => stagePay p k (outM.view.readAt (Elt F) (rSo p k c).toLoadRect f) (Shape.reshapeEquiv (squeezesSb p k).numel_eq j)
/-- The rows of `c` after it is sent `v`. -/
def got (p : Fin 3) (k : Fin 24) (c : Dev nD) (v : Vec F (blkS p k) .bf16) (f : OutC F) : OutC F :=
  (outM.access (rCo p k c)).write (Elt F) f
    (if k.val % 6 < 3 then addPay p k v (outM.view.readAt (Elt F) (rCo p k c).toLoadRect f) else setPay p k v) Finset.univ

theorem read_staged (p : Fin 3) (k : Fin 24) (f : (sbM p).view.ty.Contents (Elt F)) (w : Vec F (slotS p k) .bf16) :
    (sbSl p k).view.read (Elt F) (((sbM p).access (rSb p k)).write (Elt F) f w Finset.univ) = fun j => w (Shape.reshapeEquiv (squeezesSb p k).numel_eq j) :=
  funext fun j => congrFun (View.read_write_univ (v := (sbM p).access (rSb p k)) f w) (Shape.reshapeEquiv (squeezesSb p k).numel_eq j)

variable (X : Msgs F) (K : Dev nD × CI → ℕ)

/-! ## The steps -/

theorem meets_waitSend (c : Dev nD) (p : Fin 3) (k : Fin 24) {O : CellTallies nD τ sig Unit} (hO : Above 0 O) (Q : PUnit → sProp 𝕄) :
    iprop(recs X K ∗ levAts L lv ∗ flying c p k ∗ debt c O ∗ ((freeSlot c p k.val ∗ sDone c p k ∗ debt c O) -∗ Q ⟨⟩)) ⊢ Meets c (waitSendP p k) Q := by
  unfold Meets waitSendP flying debt
  simp only [Prog.lift]
  iintro ⟨#HR, #Hlev, ⟨Hcr, Hat, %f, Hrest⟩, ⟨%W, HO⟩, HQ⟩
  ihave #HI := (recs_at X K (c, some (true, p, k))) $$ HR
  icases HI with ⟨#HI, -⟩
  iapply (Rounds.wp_wait_rest_token 𝒱₀ ER (Rd X) (c : Thread nD τ) none (κ := K (c, some (true, p, k)))
      (wpE_waitDma2_eq 𝒱₀ (c : Thread nD τ) none Set.univ) (Set.mem_univ _) () (O := O) (W := W) (R := 0) (m := 0) (T := ∅)
      (by rw [Nat.zero_add]; exact (nB_send p k).trans (expect_send X c p k).symm)) $$ [Hcr HO Hat]
  · isplitr; · iexact HI
    isplitl [Hcr]; · rw [nB_send]; iexact Hcr
    isplitl [HO]; · iexact HO
    isplitr; · iapply (mayWait_of_above c _ (lv_send c p k) hO); iexact Hlev
    iexact Hat
  iintro ⟨HO, Hat, -, Hpay⟩
  ihave Hp := (Entails.of_eq (rest_send X c p k)) $$ Hpay
  imod (Rounds.cell_close ER (Rd X) (Set.mem_univ (K (c, some (true, p, k)))) (fun h => h) (R := 0 + 1) (duties_later X (sCell c p k))) $$ [Hat] with Hz
  · isplitr; · iexact HI
    iexact Hat
  rw [wp_ret]; imodintro
  iapply HQ
  unfold sendPay freeSlot sDone
  icases Hp with ⟨%g, Hp⟩
  isplitl [Hp Hrest]
  · iexists _
    unfold sbPts
    iapply (pointsTo_join_subset (sbSl_sub p k))
    isplitl [Hp]; · iexact Hp
    iexact Hrest
  isplitl [Hz]; · iexact Hz
  iexists _; iexact HO

/-- A round's copy to the mate `n`: it takes the slot's rows and the mate's region, and hands on a region of `c`'s. -/
theorem wp_copy (c n n' : Dev nD) (p : Fin 3) (k : Fin 24) (hn : n' = n) (hm : mate p k n = c)
    {hsc : (rbSl p k : Memref sig (Dev.tc n' : Thread nD τ).2.kind .vmem (blkS p k) .bf16).view.ref.isScScratch = false}
    {hsrc : (sbSl p k).view.WordExact} {hdst : (rbSl p k).view.WordExact}
    {hsem : DmaTarget.Typed .vmem (.dma (semAt (rsA p) k)) (.remote (Dev.tc n' : Thread nD τ) (rbSl p k) (.dma (semAt (ssA p) k)) hsc)}
    {α : Type} {Q : α → sProp 𝕄} {kt : PUnit → Prog (TpuEff nD τ sig (Elt F) Λ₀ .tc) α}
    (fs : (sbM p).view.ty.Contents (Elt F)) (fd : (rbM p).view.ty.Contents (Elt F)) (hfs : (sbSl p k).view.read (Elt F) fs = X p k c)
    {O₀ : CellTallies nD τ sig Unit} (O : CellTallies nD τ sig Unit)
    (hO : O₀ = O + tallyAt (rCell n p k) () (nB p k)) (W : Waits sig Unit) :
    iprop(cellInv ER (Rd X) (K (c, some (true, p, k))) (sCell c p k) ∗ cellInv ER (Rd X) (K (n, some (false, p, k))) (rCell n p k)
        ∗ sbPts c p (sbSl p k).view.set fs ∗ (rbPts n p (regSet p (k.val % 6)) fd ∗ handOn c p k)
        ∗ owes (c : Thread nD τ) O₀ W
        ∗ dutyTok ER (sCell c p k) 0 0 ∗ reached ER (sCell c p k) 0
        ∗ dutyTok ER (rCell n p k) 0 0 ∗ reached ER (rCell n p k) 0)
      ⊢ iprop(((cred (tallyAt (sCell c p k) () (nB p k)) ∗ owes (c : Thread nD τ) O W) -∗ Meets c (kt ⟨⟩) Q)
          -∗ Meets c (.op (.enqueueDma (sbSl p k) (.remote (Dev.tc n' : Thread nD τ) (rbSl p k) (.dma (semAt (ssA p) k)) hsc) (.dma (semAt (rsA p) k)) hsrc hdst hsem) kt) Q) := by
  subst hn
  have hp1 : sbPts c p (sbSl p k).view.set fs ⊢ (Rd X).payload (sCell c p k) 0 0 := by
    rw [payload_send]; unfold sendPay; iintro H; iexists fs; iexact H
  have hp2 : iprop(rbPts n' p (regSet p (k.val % 6)) ((rbSl p k).view.write (Elt F) fd ((sbSl p k).view.read (Elt F) fs) Finset.univ) ∗ handOn c p k)
      ⊢ (Rd X).payload (rCell n' p k) 0 0 := by
    rw [payload_recv]; unfold recvPay
    rw [hm]
    iintro ⟨H, Hon⟩
    isplitl [H]
    · iexists ((rbSl p k).view.write (Elt F) fd ((sbSl p k).view.read (Elt F) fs) Finset.univ)
      isplitr
      · ipureintro
        rw [View.read_write_univ]
        exact hfs
      · iexact H
    iexact Hon
  have hr : τ.routes (c : Thread nD τ) (n' : Thread nD τ) = true := by routes
  have hN : (rbSl p k).view.amount (.dma (semAt (rsA p) k)) = nB p k := rfl
  have h1 : (0 : Fin 3) ∈ (Rd (F := F) X).duties (sCell c p k) 0 := by rw [duties_send]; exact Finset.mem_singleton_self _
  have h2 : (0 : Fin 3) ∈ (Rd (F := F) X).duties (rCell n' p k) 0 := by rw [duties_recv]; exact Finset.mem_singleton_self _
  have h3 := amount_send X c p k 0
  have h4 := amount_recv X n' p k 0
  have hp1' : ((sbSl p k).view.loc (c : Thread nD τ) ↦[(sbSl p k).view.set]{fullShare} fs) ⊢ (Rd X).payload (sCell c p k) 0 0 := hp1
  have hp2' : iprop(((rbSl p k).view.loc (n' : Thread nD τ) ↦[(rbSl p k).view.set]{fullShare} ((rbSl p k).view.write (Elt F) fd ((sbSl p k).view.read (Elt F) fs) Finset.univ)) ∗ handOn c p k)
      ⊢ (Rd X).payload (rCell n' p k) 0 0 := hp2
  exact Rounds.wp_send_pointsTo_with (defs := defs₀ (F := F)) 𝒱₀ ER (Rd X) (c : Thread nD τ) none (Q := Q) (c' := (n' : Thread nD τ)) (src := sbSl p k) (dst := rbSl p k) (sS := .dma (semAt (ssA p) k)) (sem := .dma (semAt (rsA p) k))
    (hsc := hsc) (hsrc := hsrc) (hdst := hdst) (hsem := hsem) (k := kt) (q := fullShare)
    (κ₁ := K (c, some (true, p, k))) (κ₂ := K (n', some (false, p, k)))
    (r₁ := 0) (r₂ := 0) (d₁ := 0) (d₂ := 0) (fs := fs) (fd := fd) (F := handOn c p k) h1 h2 () () (nB p k) hN h3 h4 O hO (W := W) hp1' hp2' (Es := Set.univ) hr

theorem meets_stage (c : Dev nD) (p : Fin 3) (k : Fin 24) (f : OutC F) (hX : sent p k c f = X p k c) {O₀ : CellTallies nD τ sig Unit} (O : CellTallies nD τ sig Unit)
    (hO : O₀ = O + tallyAt (rCell (mate p k c) p k) () (nB p k)) (Q : PUnit → sProp 𝕄) :
    iprop(recs X K ∗ freeSlot c p k.val ∗ sTodo c p k ∗ handOn c p k ∗ right c p (k.val % 6) ∗ outPts c f ∗ debt c O₀
        ∗ ((flying c p k ∗ outPts c f ∗ debt c O) -∗ Q ⟨⟩)) ⊢ Meets c (stageP p k c) Q := by
  have hd : (⟨sdevT p k c, sdevT_lt p k c⟩ : Dev nD) = mate p k c := Fin.ext (sdevT_eq p k c)
  unfold Meets stageP
  simp only [Prog.lift, Prog.bind_op, Prog.bind_ret]
  unfold debt freeSlot sTodo right reg outPts
  iintro ⟨#HR, ⟨%fs, Hs⟩, ⟨HtS, HtR, HatS⟩, Hon, ⟨%fd, Hd⟩, Hout, ⟨%W, HO⟩, HQ⟩
  ihave #HI := (recs_at X K (c, some (true, p, k))) $$ HR
  icases HI with ⟨#HI, #Hr⟩
  ihave #HJ := (recs_at X K (mate p k c, some (false, p, k))) $$ HR
  icases HJ with ⟨#HJ, #Hr'⟩
  unfold sbPts rbPts
  iapply (wp_load 𝒱₀ (c : Thread nD τ) none Set.univ (m := outM) (Finset.subset_univ _)) $$ Hout; iintro Hout
  have hsub : ((sbM p).access (rSb p k)).set ⊆ slotSet p k.val := (sbSl_set p k).symm.trans_subset (sbSl_sub p k)
  iapply (wp_load_rect 𝒱₀ (c : Thread nD τ) none Set.univ (m := sbM p) (r := rSb p k) (S := slotSet p k.val) hsub) $$ Hs; iintro Hs
  iapply (wp_store 𝒱₀ (c : Thread nD τ) none Set.univ (m := sbM p) (r := rSb p k) (Mk := Finset.univ) (S := slotSet p k.val) hsub) $$ Hs; iintro Hs
  ihave Hs2 := (pointsTo_split_subset (sbSl_sub p k)).1 $$ Hs
  icases Hs2 with ⟨Hs, Hrest⟩
  have hr : (sbSl p k).view.read (Elt F) (((sbM p).access (rSb p k)).write (Elt F) fs (stagePay p k (outM.view.readAt (Elt F) (rSo p k c).toLoadRect f)) Finset.univ)
      = X p k c := (read_staged p k fs _).trans hX
  iapply (wp_copy X K c (mate p k c) _ p k hd (par_par _ _) _ fd hr O hO W) $$ [Hs Hd Hon HO HtS HtR]
  · isplitr; · iexact HI
    isplitr; · iexact HJ
    isplitl [Hs]; · unfold sbPts; iexact Hs
    isplitl [Hd Hon]
    · isplitl [Hd]; · unfold rbPts; iexact Hd
      iexact Hon
    isplitl [HO]; · iexact HO
    isplitl [HtS]; · iexact HtS
    isplitr; · iexact Hr
    isplitl [HtR]; · iexact HtR
    iexact Hr'
  iintro ⟨Hcr, HO⟩
  unfold Meets
  rw [wp_ret]; imodintro
  iapply HQ
  unfold flying sbPts
  isplitl [Hcr HatS Hrest]
  · isplitl [Hcr]; · iexact Hcr
    isplitl [HatS]; · iexact HatS
    iexists _; iexact Hrest
  isplitl [Hout]; · iexact Hout
  iexists _; iexact HO

theorem meets_consume (c : Dev nD) (p : Fin 3) (k : Fin 24) (f : OutC F) {O : CellTallies nD τ sig Unit} (hO : Above (2 + k.val) O) (Q : PUnit → sProp 𝕄) :
    iprop(recs X K ∗ levAts L lv ∗ rTodo c p k ∗ outPts c f ∗ debt c O
        ∗ ((reg c p (k.val % 6) ∗ handOn (mate p k c) p k ∗ rDone c p k ∗ outPts c (got p k c (X p k (mate p k c)) f) ∗ debt c O) -∗ Q ⟨⟩))
      ⊢ Meets c (consumeP p k c) Q := by
  unfold Meets consumeP recvP
  simp only [Prog.lift, Prog.bind_op, Prog.bind_ret]
  unfold debt rTodo outPts
  iintro ⟨#HR, #Hlev, ⟨Hat, Hcr⟩, Hout, ⟨%W, HO⟩, HQ⟩
  ihave #HI := (recs_at X K (c, some (false, p, k))) $$ HR
  icases HI with ⟨#HI, -⟩
  iapply (Rounds.wp_wait_rest_token 𝒱₀ ER (Rd X) (c : Thread nD τ) none (κ := K (c, some (false, p, k)))
      (wpE_waitDma2_eq 𝒱₀ (c : Thread nD τ) none Set.univ) (Set.mem_univ _) () (O := O) (W := W) (R := 0) (m := 0) (T := ∅)
      (by rw [Nat.zero_add]; exact (expect_recv X c p k).symm)) $$ [Hcr HO Hat]
  · isplitr; · iexact HI
    isplitl [Hcr]; · iexact Hcr
    isplitl [HO]; · iexact HO
    isplitr; · iapply (mayWait_of_above c _ (lv_recv c p k) hO); iexact Hlev
    iexact Hat
  iintro ⟨HO, Hat, -, Hpay⟩
  ihave Hp := (Entails.of_eq (rest_recv X c p k)) $$ Hpay
  imod (Rounds.cell_close ER (Rd X) (Set.mem_univ (K (c, some (false, p, k)))) (fun h => h) (R := 0 + 1) (duties_later X (rCell c p k))) $$ [Hat] with Hz
  · isplitr; · iexact HI
    iexact Hat
  unfold recvPay rbPts
  icases Hp with ⟨⟨%g, %hg, Hg⟩, Hon⟩
  iapply (wp_load_rect 𝒱₀ (c : Thread nD τ) none Set.univ (m := rbM p) (r := rRb p k) (S := regSet p (k.val % 6)) (Finset.Subset.refl _)) $$ Hg; iintro Hg
  have hg' : ((rbM p).access (rRb p k)).read (Elt F) g = X p k (mate p k c) := hg
  rw [hg']
  by_cases hk : k.val % 6 < 3
  · simp only [if_pos hk, addP, Prog.lift, Prog.bind_op, Prog.bind_ret]
    iapply (wp_load 𝒱₀ (c : Thread nD τ) none Set.univ (m := outM) (Finset.subset_univ _)) $$ Hout; iintro Hout
    iapply (wp_load 𝒱₀ (c : Thread nD τ) none Set.univ (m := outM) (Finset.subset_univ _)) $$ Hout; iintro Hout
    iapply (wp_store 𝒱₀ (c : Thread nD τ) none Set.univ (m := outM) (r := rCo p k c) (Mk := Finset.univ) (Finset.subset_univ _)) $$ Hout; iintro Hout
    rw [wp_ret]; imodintro
    iapply HQ
    unfold reg rbPts rDone got
    simp only [if_pos hk]
    isplitl [Hg]; · iexists _; iexact Hg
    isplitl [Hon]; · iexact Hon
    isplitl [Hz]; · iexact Hz
    isplitl [Hout]; · iexact Hout
    iexists _; iexact HO
  · simp only [if_neg hk, setP, Prog.lift, Prog.bind_op, Prog.bind_ret]
    iapply (wp_load 𝒱₀ (c : Thread nD τ) none Set.univ (m := outM) (Finset.subset_univ _)) $$ Hout; iintro Hout
    iapply (wp_store 𝒱₀ (c : Thread nD τ) none Set.univ (m := outM) (r := rCo p k c) (Mk := Finset.univ) (Finset.subset_univ _)) $$ Hout; iintro Hout
    rw [wp_ret]; imodintro
    iapply HQ
    unfold reg rbPts rDone got
    simp only [if_neg hk]
    isplitl [Hg]; · iexists _; iexact Hg
    isplitl [Hon]; · iexact Hon
    isplitl [Hz]; · iexact Hz
    isplitl [Hout]; · iexact Hout
    iexists _; iexact HO

end Cert.CubeProof

end
-- ==== Proof.Parts.lean ====
module

public import proofs.«01_k».proof.Proof.Steps

/-! # A round of the three parts -/

@[expose] public section

noncomputable section

namespace Cert.CubeProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed between rounds -/

/-- What `c` owes its mates in part `p` before round `n`: the blocks of the rounds to come. -/
def owedP (c : Dev nD) (p : Fin 3) (n : ℕ) : CellTallies nD τ sig Unit := ∑ k ∈ geS n, tallyAt (rCell (mate p k c) p k) () (nB p k)
def owedV (c : Dev nD) (n : ℕ) : CellTallies nD τ sig Unit := owedP c 0 n + owedP c 1 n + owedP c 2 n

theorem owedP_eq (c : Dev nD) (p : Fin 3) (k : Fin 24) : owedP c p k.val = owedP c p (k.val + 1) + tallyAt (rCell (mate p k c) p k) () (nB p k) := by
  unfold owedP; rw [geS_eq, Finset.sum_insert (not_mem_geS k), add_comm]
theorem owedP_last (c : Dev nD) (p : Fin 3) : owedP c p 24 = 0 := by unfold owedP; rw [geS_last, Finset.sum_empty]
theorem owedV_last (c : Dev nD) : owedV c 24 = 0 := by unfold owedV; rw [owedP_last, owedP_last, owedP_last, add_zero, add_zero]
theorem above_owedP (c : Dev nD) (p : Fin 3) (n : ℕ) : Above (1 + n) (owedP c p n) :=
  Above.sum _ _ fun k hk => Above.tally _ _ _ (by rw [lv_recv]; simp only [geS, Finset.mem_filter] at hk; omega)
theorem above_owedV (c : Dev nD) (n : ℕ) : Above (1 + n) (owedV c n) :=
  ((above_owedP c 0 n).add (above_owedP c 1 n)).add (above_owedP c 2 n)

/-! ## Opening and closing a part's holdings -/

/-- What neither starting nor ending round `k` of a part touches. -/
def restA (c : Dev nD) (p : Fin 3) (k : Fin 24) : sProp 𝕄 :=
  iprop((bigSep (geS (k.val + 1)) (sTodo (F := F) c p) ∗ pend (F := F) c p (k.val + 1))
    ∗ (bigSep (geS k.val) (rTodo (F := F) c p) ∗ bigSep (ltS k.val) (rDone (F := F) c p))
    ∗ bigSep (ownMid k.val) (reg (F := F) c p) ∗ bigSep (rtsMid k.val) (right (F := F) c p))

theorem partA_open (c : Dev nD) (p : Fin 3) (k : Fin 24) :
    PartA (F := F) c p k.val ⊢ iprop(pend c p k.val ∗ bigSep (ltS (k.val - 2)) (sDone c p) ∗ sTodo c p k ∗ handOn c p k ∗ right c p (k.val % 6) ∗ restA c p k) := by
  have h1 : bigSep (own k.val) (reg (F := F) c p) = iprop(handOn c p k ∗ bigSep (ownMid k.val) (reg (F := F) c p)) := by
    unfold handOn ownMid
    by_cases hk : k.val < 21
    · rw [if_pos hk, if_pos hk]; exact bigSep_erase (mem_own k hk)
    · rw [if_neg hk, if_neg hk]; exact (BI.equiv_iff.mp emp_sep).symm
  have h2 : bigSep (rts k.val) (right (F := F) c p) = iprop(right c p (k.val % 6) ∗ bigSep (rtsMid k.val) (right (F := F) c p)) :=
    bigSep_erase (mem_rts k)
  have h3 : bigSep (geS k.val) (sTodo (F := F) c p) = iprop(sTodo c p k ∗ bigSep (geS (k.val + 1)) (sTodo c p)) := by
    rw [geS_eq]; exact bigSep_insert (not_mem_geS k)
  unfold PartA restA
  rw [h1, h2, h3]
  iintro ⟨⟨⟨H1, H2⟩, H3, H4, H5⟩, H6, ⟨H7, H8⟩, H9, H10⟩
  isplitl [H3]; · iexact H3
  isplitl [H5]; · iexact H5
  isplitl [H1]; · iexact H1
  isplitl [H7]; · iexact H7
  isplitl [H9]; · iexact H9
  isplitl [H2 H4]
  · isplitl [H2]; · iexact H2
    iexact H4
  isplitl [H6]; · iexact H6
  isplitl [H8]; · iexact H8
  iexact H10

theorem partB_close (c : Dev nD) (p : Fin 3) (k : Fin 24) :
    iprop(bigSep (ltS (k.val - 1)) (sDone c p) ∗ flying c p k ∗ restA c p k) ⊢ PartB (F := F) c p k.val := by
  have h : pend (F := F) c p (k.val + 2) = flying c p k := dif_pos k.isLt
  unfold PartB restA
  rw [h]
  iintro ⟨H1, H2, ⟨H3, H4⟩, H5⟩
  isplitl [H1 H2 H3 H4]
  · isplitl [H3]; · iexact H3
    isplitl [H4]; · iexact H4
    isplitl [H2]; · iexact H2
    iexact H1
  iexact H5

theorem partB_open (c : Dev nD) (p : Fin 3) (k : Fin 24) :
    iprop(PartB (F := F) c p k.val) ⊢ iprop(rTodo c p k ∗ ((reg c p (k.val % 6) ∗ handOn (mate p k c) p k ∗ rDone c p k) -∗ PartA (F := F) c p (k.val + 1))) := by
  have h1 : bigSep (geS k.val) (rTodo (F := F) c p) = iprop(rTodo c p k ∗ bigSep (geS (k.val + 1)) (rTodo c p)) := by
    rw [geS_eq]; exact bigSep_insert (not_mem_geS k)
  have h2 : bigSep (ltS (k.val + 1)) (rDone (F := F) c p) = iprop(rDone c p k ∗ bigSep (ltS k.val) (rDone c p)) := by
    rw [ltS_eq]; exact bigSep_insert (not_mem_ltS k)
  have h3 : bigSep (own (k.val + 1)) (reg (F := F) c p) = iprop(reg c p (k.val % 6) ∗ bigSep (ownMid k.val) (reg (F := F) c p)) := by
    rw [own_succ]; exact bigSep_insert (not_mem_ownMid k)
  have h4 : bigSep (rts (k.val + 1)) (right (F := F) c p) = iprop(handOn (mate p k c) p k ∗ bigSep (rtsMid k.val) (right (F := F) c p)) := by
    rw [rts_succ]; unfold handOn
    by_cases hk : k.val < 21
    · rw [if_pos hk, if_pos hk, show reg (F := F) (mate p k c) p (5 - k.val % 6) = right c p (5 - k.val % 6) by
        unfold right; rw [axJ_sub p k]]
      exact bigSep_insert (not_mem_rtsMid k)
    · rw [if_neg hk, if_neg hk]; exact (BI.equiv_iff.mp emp_sep).symm
  unfold PartB PartA
  rw [h1, h2, h3, h4, show k.val + 1 - 2 = k.val - 1 by omega]
  iintro ⟨⟨H1, H2, H3, H4⟩, ⟨⟨H5, H6⟩, H7⟩, H8, H9⟩
  isplitl [H5]; · iexact H5
  iintro ⟨G1, G2, G3⟩
  isplitl [H1 H2 H3 H4]
  · isplitl [H1]; · iexact H1
    isplitl [H2]; · iexact H2
    isplitl [H3]; · iexact H3
    iexact H4
  isplitl [H6 H7 G3]
  · isplitl [H6]; · iexact H6
    isplitl [G3]; · iexact G3
    iexact H7
  isplitl [H8 G1]
  · isplitl [G1]; · iexact G1
    iexact H8
  isplitl [G2]; · iexact G2
  iexact H9

variable (X : Msgs F) (K : Dev nD × CI → ℕ)

/-! ## A part's round -/

theorem slotSet_congr (p : Fin 3) (b b' : ℕ) (h : b % 2 = b' % 2) : slotSet p b = slotSet p b' := by
  have : ∀ (x y : ℕ) (hx : x = y) (h1 : ∀ a, (![x, 0, 0] : Fin 3 → ℕ) a + (⟨3, ![1, 256, colw p]⟩ : Shape).size a ≤ (sbS p).size a)
      (h2 : ∀ a, (![y, 0, 0] : Fin 3 → ℕ) a + (⟨3, ![1, 256, colw p]⟩ : Shape).size a ≤ (sbS p).size a),
      ((sbM p).access (Rect.unit (s := sbS p) ![x, 0, 0] (⟨3, ![1, 256, colw p]⟩ : Shape).size h1)).set
        = ((sbM p).access (Rect.unit (s := sbS p) ![y, 0, 0] (⟨3, ![1, 256, colw p]⟩ : Shape).size h2)).set := by
    rintro x _ rfl _ _; rfl
  exact this _ _ h _ _

theorem pend_eq (c : Dev nD) (p : Fin 3) : ∀ (k : Fin 24) (hk : 2 ≤ k.val), pend (F := F) c p k.val = flying c p ⟨k.val - 2, by omega⟩
  | ⟨n + 2, h⟩, _ => dif_pos (show n < 24 by omega)

theorem meets_start (c : Dev nD) (p : Fin 3) (k : Fin 24) (f : OutC F) (hX : sent p k c f = X p k c) {O₀ : CellTallies nD τ sig Unit} (O : CellTallies nD τ sig Unit)
    (hO : O₀ = O + tallyAt (rCell (mate p k c) p k) () (nB p k)) (hA : Above 0 O₀) (Q : PUnit → sProp 𝕄) :
    iprop(recs X K ∗ levAts L lv ∗ PartA c p k.val ∗ outPts c f ∗ debt c O₀
        ∗ ((PartB c p k.val ∗ outPts c f ∗ debt c O) -∗ Q ⟨⟩)) ⊢ Meets c (startP p k c) Q := by
  have hslot : ∀ (b b' : ℕ), b % 2 = b' % 2 → freeSlot (F := F) c p b ⊢ freeSlot c p b' := fun b b' h => by
    unfold freeSlot; rw [slotSet_congr p b b' h]
  unfold startP Meets
  by_cases hk : 2 ≤ k.val
  · simp only [dif_pos hk, wp_bind]
    iintro ⟨#HR, #Hlev, HA, Hout, HO, HQ⟩
    ihave H := (partA_open c p k) $$ HA
    icases H with ⟨Hp, Hd, Ht, Hon, Hri, Hrest⟩
    have h1 := pend_eq (F := F) c p k hk
    have h2 : bigSep (ltS (k.val - 1)) (sDone (F := F) c p) = iprop(sDone c p ⟨k.val - 2, by omega⟩ ∗ bigSep (ltS (k.val - 2)) (sDone c p)) := by
      have := ltS_eq ⟨k.val - 2, by omega⟩
      dsimp only at this
      rw [show k.val - 2 + 1 = k.val - 1 by omega] at this
      rw [this]
      exact bigSep_insert (not_mem_ltS ⟨k.val - 2, by omega⟩)
    ihave Hp := (Entails.of_eq h1) $$ Hp
    iapply (meets_waitSend X K c p ⟨k.val - 2, _⟩ hA)
    isplitr; · iexact HR
    isplitr; · iexact Hlev
    isplitl [Hp]; · iexact Hp
    isplitl [HO]; · iexact HO
    iintro ⟨Hf, Hs, HO⟩
    ihave Hf := (hslot (k.val - 2) k.val (by omega)) $$ Hf
    iapply (meets_stage X K c p k f hX O hO)
    isplitr; · iexact HR
    isplitl [Hf]; · iexact Hf
    isplitl [Ht]; · iexact Ht
    isplitl [Hon]; · iexact Hon
    isplitl [Hri]; · iexact Hri
    isplitl [Hout]; · iexact Hout
    isplitl [HO]; · iexact HO
    iintro ⟨Hfl, Hout, HO⟩
    iapply HQ
    isplitl [Hd Hs Hrest Hfl]
    · iapply (partB_close c p k)
      isplitl [Hd Hs]
      · rw [h2]
        isplitl [Hs]; · iexact Hs
        iexact Hd
      isplitl [Hfl]; · iexact Hfl
      iexact Hrest
    isplitl [Hout]; · iexact Hout
    iexact HO
  · simp only [dif_neg hk]
    iintro ⟨#HR, #Hlev, HA, Hout, HO, HQ⟩
    ihave H := (partA_open c p k) $$ HA
    icases H with ⟨Hp, Hd, Ht, Hon, Hri, Hrest⟩
    have h1 : pend (F := F) c p k.val = freeSlot c p k.val := by
      have : k.val = 0 ∨ k.val = 1 := by omega
      rcases this with h | h <;> rw [h] <;> rfl
    have h2 : k.val - 1 = k.val - 2 := by omega
    ihave Hp := (Entails.of_eq h1) $$ Hp
    iapply (meets_stage X K c p k f hX O hO)
    isplitr; · iexact HR
    isplitl [Hp]; · iexact Hp
    isplitl [Ht]; · iexact Ht
    isplitl [Hon]; · iexact Hon
    isplitl [Hri]; · iexact Hri
    isplitl [Hout]; · iexact Hout
    isplitl [HO]; · iexact HO
    iintro ⟨Hfl, Hout, HO⟩
    iapply HQ
    isplitl [Hd Hrest Hfl]
    · iapply (partB_close c p k)
      isplitl [Hd]; · rw [h2]; iexact Hd
      isplitl [Hfl]; · iexact Hfl
      iexact Hrest
    isplitl [Hout]; · iexact Hout
    iexact HO

theorem meets_finish (c : Dev nD) (p : Fin 3) (k : Fin 24) (f : OutC F) {O : CellTallies nD τ sig Unit} (hO : Above (2 + k.val) O) (Q : PUnit → sProp 𝕄) :
    iprop(recs X K ∗ levAts L lv ∗ PartB c p k.val ∗ outPts c f ∗ debt c O
        ∗ ((PartA c p (k.val + 1) ∗ outPts c (got p k c (X p k (mate p k c)) f) ∗ debt c O) -∗ Q ⟨⟩)) ⊢ Meets c (consumeP p k c) Q := by
  iintro ⟨#HR, #Hlev, HB, Hout, HO, HQ⟩
  ihave H := (partB_open c p k) $$ HB
  icases H with ⟨Hr, Hclose⟩
  iapply (meets_consume X K c p k f hO)
  isplitr; · iexact HR
  isplitr; · iexact Hlev
  isplitl [Hr]; · iexact Hr
  isplitl [Hout]; · iexact Hout
  isplitl [HO]; · iexact HO
  iintro ⟨H1, H2, H3, Hout, HO⟩
  iapply HQ
  isplitl [Hclose H1 H2 H3]
  · iapply Hclose
    isplitl [H1]; · iexact H1
    isplitl [H2]; · iexact H2
    iexact H3
  isplitl [Hout]; · iexact Hout
  iexact HO

/-! ## The three parts -/

def AllA (c : Dev nD) (n : ℕ) : sProp 𝕄 := iprop(PartA (F := F) c 0 n ∗ PartA (F := F) c 1 n ∗ PartA (F := F) c 2 n)
def AllB (c : Dev nD) (n : ℕ) : sProp 𝕄 := iprop(PartB (F := F) c 0 n ∗ PartB (F := F) c 1 n ∗ PartB (F := F) c 2 n)

/-- The rows of `c` after round `k`. -/
def got3 (k : Fin 24) (c : Dev nD) (f : OutC F) : OutC F :=
  got 2 k c (X 2 k (mate 2 k c)) (got 1 k c (X 1 k (mate 1 k c)) (got 0 k c (X 0 k (mate 0 k c)) f))

theorem meets_start3 (c : Dev nD) (k : Fin 24) (f : OutC F) (hX : ∀ p, sent p k c f = X p k c) (Q : PUnit → sProp 𝕄) :
    iprop(recs X K ∗ levAts L lv ∗ AllA c k.val ∗ outPts c f ∗ debt c (owedV c k.val)
        ∗ ((AllB c k.val ∗ outPts c f ∗ debt c (owedV c (k.val + 1))) -∗ Q ⟨⟩)) ⊢ Meets c (start3 k c) Q := by
  have ha := fun p n => (above_owedP c p n).mono (Nat.zero_le (1 + n))
  have e1 : owedV c k.val = (owedP c 0 (k.val + 1) + owedP c 1 k.val + owedP c 2 k.val) + tallyAt (rCell (mate 0 k c) 0 k) () (nB 0 k) := by
    unfold owedV; rw [owedP_eq c 0 k]; ac_rfl
  have e2 : owedP c 0 (k.val + 1) + owedP c 1 k.val + owedP c 2 k.val
      = (owedP c 0 (k.val + 1) + owedP c 1 (k.val + 1) + owedP c 2 k.val) + tallyAt (rCell (mate 1 k c) 1 k) () (nB 1 k) := by
    rw [owedP_eq c 1 k]; ac_rfl
  have e3 : owedP c 0 (k.val + 1) + owedP c 1 (k.val + 1) + owedP c 2 k.val = owedV c (k.val + 1) + tallyAt (rCell (mate 2 k c) 2 k) () (nB 2 k) := by
    unfold owedV; rw [owedP_eq c 2 k]; ac_rfl
  unfold start3 AllA AllB
  simp only [Meets, wp_bind]
  iintro ⟨#HR, #Hlev, ⟨H0, H1, H2⟩, Hout, HO, HQ⟩
  iapply (meets_start X K c 0 k f (hX 0) _ e1 (((ha 0 _).add (ha 1 _)).add (ha 2 _)))
  isplitr; · iexact HR
  isplitr; · iexact Hlev
  isplitl [H0]; · iexact H0
  isplitl [Hout]; · iexact Hout
  isplitl [HO]; · iexact HO
  iintro ⟨H0, Hout, HO⟩
  iapply (meets_start X K c 1 k f (hX 1) _ e2 (((ha 0 _).add (ha 1 _)).add (ha 2 _)))
  isplitr; · iexact HR
  isplitr; · iexact Hlev
  isplitl [H1]; · iexact H1
  isplitl [Hout]; · iexact Hout
  isplitl [HO]; · iexact HO
  iintro ⟨H1, Hout, HO⟩
  iapply (meets_start X K c 2 k f (hX 2) _ e3 (((ha 0 _).add (ha 1 _)).add (ha 2 _)))
  isplitr; · iexact HR
  isplitr; · iexact Hlev
  isplitl [H2]; · iexact H2
  isplitl [Hout]; · iexact Hout
  isplitl [HO]; · iexact HO
  iintro ⟨H2, Hout, HO⟩
  iapply HQ
  isplitl [H0 H1 H2]
  · isplitl [H0]; · iexact H0
    isplitl [H1]; · iexact H1
    iexact H2
  isplitl [Hout]; · iexact Hout
  iexact HO

theorem meets_finish3 (c : Dev nD) (k : Fin 24) (f : OutC F) (Q : PUnit → sProp 𝕄) :
    iprop(recs X K ∗ levAts L lv ∗ AllB c k.val ∗ outPts c f ∗ debt c (owedV c (k.val + 1))
        ∗ ((AllA c (k.val + 1) ∗ outPts c (got3 X k c f) ∗ debt c (owedV c (k.val + 1))) -∗ Q ⟨⟩)) ⊢ Meets c (finish3 k c) Q := by
  have hA : Above (2 + k.val) (owedV c (k.val + 1)) := (above_owedV c (k.val + 1)).mono (by omega)
  unfold finish3 AllA AllB got3
  simp only [Meets, wp_bind]
  iintro ⟨#HR, #Hlev, ⟨H0, H1, H2⟩, Hout, HO, HQ⟩
  iapply (meets_finish X K c 0 k f hA)
  isplitr; · iexact HR
  isplitr; · iexact Hlev
  isplitl [H0]; · iexact H0
  isplitl [Hout]; · iexact Hout
  isplitl [HO]; · iexact HO
  iintro ⟨H0, Hout, HO⟩
  iapply (meets_finish X K c 1 k _ hA)
  isplitr; · iexact HR
  isplitr; · iexact Hlev
  isplitl [H1]; · iexact H1
  isplitl [Hout]; · iexact Hout
  isplitl [HO]; · iexact HO
  iintro ⟨H1, Hout, HO⟩
  iapply (meets_finish X K c 2 k _ hA)
  isplitr; · iexact HR
  isplitr; · iexact Hlev
  isplitl [H2]; · iexact H2
  isplitl [Hout]; · iexact Hout
  isplitl [HO]; · iexact HO
  iintro ⟨H2, Hout, HO⟩
  iapply HQ
  isplitl [H0 H1 H2]
  · isplitl [H0]; · iexact H0
    isplitl [H1]; · iexact H1
    iexact H2
  isplitl [Hout]; · iexact Hout
  iexact HO

theorem meets_swap3 (c : Dev nD) (k k' : Fin 24) (hk : k'.val = k.val + 1) (f : OutC F) (hX : ∀ p, sent p k' c (got3 X k c f) = X p k' c) (Q : PUnit → sProp 𝕄) :
    iprop(recs X K ∗ levAts L lv ∗ AllB c k.val ∗ outPts c f ∗ debt c (owedV c (k.val + 1))
        ∗ ((AllB c (k.val + 1) ∗ outPts c (got3 X k c f) ∗ debt c (owedV c (k.val + 2))) -∗ Q ⟨⟩)) ⊢ Meets c (swap3 k k' c) Q := by
  unfold swap3
  simp only [Meets, wp_bind]
  iintro ⟨#HR, #Hlev, HB, Hout, HO, HQ⟩
  iapply (meets_finish3 X K c k f)
  isplitr; · iexact HR
  isplitr; · iexact Hlev
  isplitl [HB]; · iexact HB
  isplitl [Hout]; · iexact Hout
  isplitl [HO]; · iexact HO
  iintro ⟨HA, Hout, HO⟩
  rw [show k.val + 2 = k'.val + 1 by omega, show k.val + 1 = k'.val by omega]
  iapply (meets_start3 X K c k' _ hX)
  isplitr; · iexact HR
  isplitr; · iexact Hlev
  isplitl [HA]; · iexact HA
  isplitl [Hout]; · iexact Hout
  isplitl [HO]; · iexact HO
  iexact HQ

theorem meets_full3 (c : Dev nD) (k : Fin 24) (f : OutC F) (hX : ∀ p, sent p k c f = X p k c) (Q : PUnit → sProp 𝕄) :
    iprop(recs X K ∗ levAts L lv ∗ AllA c k.val ∗ outPts c f ∗ debt c (owedV c k.val)
        ∗ ((AllA c (k.val + 1) ∗ outPts c (got3 X k c f) ∗ debt c (owedV c (k.val + 1))) -∗ Q ⟨⟩)) ⊢ Meets c (full3 k c) Q := by
  unfold full3
  simp only [Meets, wp_bind]
  iintro ⟨#HR, #Hlev, HA, Hout, HO, HQ⟩
  iapply (meets_start3 X K c k f hX)
  isplitr; · iexact HR
  isplitr; · iexact Hlev
  isplitl [HA]; · iexact HA
  isplitl [Hout]; · iexact Hout
  isplitl [HO]; · iexact HO
  iintro ⟨HB, Hout, HO⟩
  iapply (meets_finish3 X K c k f)
  isplitr; · iexact HR
  isplitr; · iexact Hlev
  isplitl [HB]; · iexact HB
  isplitl [Hout]; · iexact Hout
  isplitl [HO]; · iexact HO
  iexact HQ

/-! ## The end -/

/-- What a part is left with. -/
def PartZ (c : Dev nD) (p : Fin 3) : sProp 𝕄 :=
  iprop((freeSlot (F := F) c p 0 ∗ freeSlot (F := F) c p 1) ∗ bigSep Finset.univ (sDone (F := F) c p) ∗ bigSep Finset.univ (rDone (F := F) c p)
    ∗ bigSep ({0, 1, 2, 3, 4, 5} : Finset ℕ) (reg (F := F) c p))
def AllZ (c : Dev nD) : sProp 𝕄 := iprop(PartZ (F := F) c 0 ∗ PartZ (F := F) c 1 ∗ PartZ (F := F) c 2)

theorem meets_drain (c : Dev nD) (p : Fin 3) (Q : PUnit → sProp 𝕄) :
    iprop(recs X K ∗ levAts L lv ∗ PartA c p 24 ∗ debt c 0 ∗ ((PartZ c p ∗ debt c 0) -∗ Q ⟨⟩)) ⊢ Meets c (drainP p) Q := by
  have h2 : bigSep Finset.univ (sDone (F := F) c p) = iprop(sDone c p 23 ∗ sDone c p 22 ∗ bigSep (ltS 22) (sDone c p)) := by
    rw [show (Finset.univ : Finset (Fin 24)) = insert 23 (insert 22 (ltS 22)) by decide +kernel]
    refine (bigSep_insert (by decide +kernel)).trans ?_
    exact congrArg _ (bigSep_insert (by decide +kernel))
  unfold drainP PartZ PartA
  simp only [Meets, wp_bind]
  rw [own_last, ltS_last, geS_last, h2]
  have e0 : pend (F := F) c p 24 = flying c p 22 := rfl
  have e1 : pend (F := F) c p (24 + 1) = flying c p 23 := rfl
  rw [e0, e1]
  iintro ⟨#HR, #Hlev, ⟨⟨-, H0, H1, Hs⟩, ⟨-, Hr⟩, Ho, -⟩, HO, HQ⟩
  iapply (meets_waitSend X K c p 22 (Above.zero 0))
  isplitr; · iexact HR
  isplitr; · iexact Hlev
  isplitl [H0]; · iexact H0
  isplitl [HO]; · iexact HO
  iintro ⟨H0, Hs0, HO⟩
  iapply (meets_waitSend X K c p 23 (Above.zero 0))
  isplitr; · iexact HR
  isplitr; · iexact Hlev
  isplitl [H1]; · iexact H1
  isplitl [HO]; · iexact HO
  iintro ⟨H1, Hs1, HO⟩
  iapply HQ
  isplitr [HO]
  rotate_left
  · iexact HO
  isplitl [H0 H1]
  · isplitl [H0]; · iexact H0
    iexact H1
  isplitl [Hs Hs0 Hs1]
  · isplitl [Hs1]; · iexact Hs1
    isplitl [Hs0]; · iexact Hs0
    iexact Hs
  isplitl [Hr]; · iexact Hr
  iexact Ho

/-- The last wave's rounds, one after another. -/
def tailV (c : Dev nD) (f : OutC F) : OutC F :=
  got3 X 23 c (got3 X 22 c (got3 X 21 c (got3 X 20 c (got3 X 19 c (got3 X 18 c f)))))

theorem meets_tail (c : Dev nD) (f : OutC F) (h18 : ∀ p, sent p 18 c f = X p 18 c)
    (h19 : ∀ p, sent p 19 c (got3 X 18 c f) = X p 19 c)
    (h20 : ∀ p, sent p 20 c (got3 X 19 c (got3 X 18 c f)) = X p 20 c)
    (h21 : ∀ p, sent p 21 c (got3 X 20 c (got3 X 19 c (got3 X 18 c f))) = X p 21 c)
    (h22 : ∀ p, sent p 22 c (got3 X 21 c (got3 X 20 c (got3 X 19 c (got3 X 18 c f)))) = X p 22 c)
    (h23 : ∀ p, sent p 23 c (got3 X 22 c (got3 X 21 c (got3 X 20 c (got3 X 19 c (got3 X 18 c f))))) = X p 23 c) (Q : PUnit → sProp 𝕄) :
    iprop(recs X K ∗ levAts L lv ∗ AllA c 18 ∗ outPts c f ∗ debt c (owedV c 18)
        ∗ ((AllZ c ∗ outPts c (tailV X c f) ∗ debt c 0) -∗ Q ⟨⟩)) ⊢ Meets c (tailP c) Q := by
  unfold tailP tailV
  simp only [Meets, wp_bind]
  iintro ⟨#HR, #Hlev, HA, Hout, HO, HQ⟩
  iapply (meets_full3 X K c 18 f h18)
  isplitr; · iexact HR
  isplitr; · iexact Hlev
  isplitl [HA]; · iexact HA
  isplitl [Hout]; · iexact Hout
  isplitl [HO]; · iexact HO
  iintro ⟨HA, Hout, HO⟩
  iapply (meets_full3 X K c 19 _ h19)
  isplitr; · iexact HR
  isplitr; · iexact Hlev
  isplitl [HA]; · iexact HA
  isplitl [Hout]; · iexact Hout
  isplitl [HO]; · iexact HO
  iintro ⟨HA, Hout, HO⟩
  iapply (meets_full3 X K c 20 _ h20)
  isplitr; · iexact HR
  isplitr; · iexact Hlev
  isplitl [HA]; · iexact HA
  isplitl [Hout]; · iexact Hout
  isplitl [HO]; · iexact HO
  iintro ⟨HA, Hout, HO⟩
  iapply (meets_full3 X K c 21 _ h21)
  isplitr; · iexact HR
  isplitr; · iexact Hlev
  isplitl [HA]; · iexact HA
  isplitl [Hout]; · iexact Hout
  isplitl [HO]; · iexact HO
  iintro ⟨HA, Hout, HO⟩
  iapply (meets_full3 X K c 22 _ h22)
  isplitr; · iexact HR
  isplitr; · iexact Hlev
  isplitl [HA]; · iexact HA
  isplitl [Hout]; · iexact Hout
  isplitl [HO]; · iexact HO
  iintro ⟨HA, Hout, HO⟩
  iapply (meets_full3 X K c 23 _ h23)
  isplitr; · iexact HR
  isplitr; · iexact Hlev
  isplitl [HA]; · iexact HA
  isplitl [Hout]; · iexact Hout
  isplitl [HO]; · iexact HO
  iintro ⟨HA, Hout, HO⟩
  have e24 : owedV c ((23 : Fin 24).val + 1) = 0 := owedV_last c
  have e24' : AllA (F := F) c ((23 : Fin 24).val + 1) = iprop(PartA (F := F) c 0 24 ∗ PartA (F := F) c 1 24 ∗ PartA (F := F) c 2 24) := rfl
  ihave HO := (Entails.of_eq (congrArg (debt (F := F) c) e24)) $$ HO
  ihave HA := (Entails.of_eq e24') $$ HA
  icases HA with ⟨H0, H1, H2⟩
  iapply (meets_drain X K c 0)
  isplitr; · iexact HR
  isplitr; · iexact Hlev
  isplitl [H0]; · iexact H0
  isplitl [HO]; · iexact HO
  iintro ⟨H0, HO⟩
  iapply (meets_drain X K c 1)
  isplitr; · iexact HR
  isplitr; · iexact Hlev
  isplitl [H1]; · iexact H1
  isplitl [HO]; · iexact HO
  iintro ⟨H1, HO⟩
  iapply (meets_drain X K c 2)
  isplitr; · iexact HR
  isplitr; · iexact Hlev
  isplitl [H2]; · iexact H2
  isplitl [HO]; · iexact HO
  iintro ⟨H2, HO⟩
  iapply HQ
  unfold AllZ
  isplitl [H0 H1 H2]
  · isplitl [H0]; · iexact H0
    isplitl [H1]; · iexact H1
    iexact H2
  isplitl [Hout]; · iexact Hout
  iexact HO

end Cert.CubeProof

end
-- ==== Proof.Contents.lean ====
module

public import proofs.«01_k».proof.Proof.Parts

/-! # The rows, point by point

`G m t c` is what device `c`'s result rows hold once `t` grid points have run, and `T m n c` after `n` of the last wave's
rounds. Rows no point has yet written are arbitrary; so a device's staging buffer is held to these only on the rows written. -/

@[expose] public section

noncomputable section

namespace Cert.CubeProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem cfg0_N : cfg0.N = 32 := N_0

/-! ## The product at a point -/

/-- The rows of point `t`. -/
theorem inbOut (t : Fin cfg0.N) : ∀ a, (![512 * (t.val / 8), 0] : Fin 2 → ℕ) a + S512x2048.size a ≤ S2048x2048.size a := by
  have h : ∀ n : Fin 32, ∀ a, (![512 * (n.val / 8), 0] : Fin 2 → ℕ) a + S512x2048.size a ≤ S2048x2048.size a := by decide
  exact h ⟨t.val, cfg0_N ▸ t.isLt⟩
abbrev rOut (t : Fin cfg0.N) : Rect S2048x2048 := Rect.unit (s := S2048x2048) ![512 * (t.val / 8), 0] S512x2048.size (inbOut t)

/-- The blocks at point `t`. -/
abbrev xB (c : Dev nD) (t : Fin cfg0.N) : Vec F S512x2048 .bf16 := iblk m c 0 t
abbrev gB (c : Dev nD) (t : Fin cfg0.N) : Vec F S2048x512 .bf16 := iblk m c 1 t
abbrev uB (c : Dev nD) (t : Fin cfg0.N) : Vec F S2048x512 .bf16 := iblk m c 2 t
abbrev dB (c : Dev nD) (t : Fin cfg0.N) : Vec F S512x2048 .bf16 := iblk m c 3 t

/-- The rows after point `t`'s product, from `f`. -/
def comp (c : Dev nD) (t : Fin cfg0.N) (f : OutC F) : OutC F :=
  (outM.access (rOut t)).write (Elt F) f
    (if t.val % 8 = 0 then k0_pay133 (xB m c t) (gB m c t) (uB m c t) (dB m c t)
      else k0_pay134 (xB m c t) (gB m c t) (uB m c t) (dB m c t) (outM.view.readAt (Elt F) (rOut t).toLoadRect f)) Finset.univ

/-! ## The rounds -/

/-- The rows `f` of `c` after round `k`, when the rows of the devices at its start are `Z`. -/
def gotM (k : Fin 24) (Z : Dev nD → OutC F) (c : Dev nD) (f : OutC F) : OutC F :=
  got 2 k c (sent 2 k (mate 2 k c) (Z (mate 2 k c))) (got 1 k c (sent 1 k (mate 1 k c) (Z (mate 1 k c)))
    (got 0 k c (sent 0 k (mate 0 k c) (Z (mate 0 k c))) f))

/-- Before the last wave's rounds, point `t` ends round `6 (t / 8 - 1) + t % 8 - 1`, if it ends one. -/
def ends (t : ℕ) : Prop := 8 ≤ t ∧ 1 ≤ t % 8 ∧ t % 8 ≤ 6
instance (t : ℕ) : Decidable (ends t) := inferInstanceAs (Decidable (_ ∧ _))
abbrev endK (t : ℕ) : Fin 24 := Fin.ofNat 24 (6 * (t / 8 - 1) + (t % 8 - 1))

def G : ℕ → Dev nD → OutC F
  | 0 => fun c => m ((c : Thread nD τ).loc cc0_stg4_0)
  | t + 1 => fun c =>
    if h : t < cfg0.N then
      if ends t then gotM (endK t) (G t) c (comp m c ⟨t, h⟩ (G t c)) else comp m c ⟨t, h⟩ (G t c)
    else G t c

def T : ℕ → Dev nD → OutC F
  | 0 => G m 32
  | n + 1 => fun c => gotM (Fin.ofNat 24 (18 + n)) (T n) c (T n c)

/-- The rows of the devices at the start of round `k`. -/
def atStart (k : Fin 24) : Dev nD → OutC F := if k.val < 18 then G m (8 * (k.val / 6 + 1) + k.val % 6 + 1) else T m (k.val - 18)

/-- What is sent. -/
def msgs : Msgs F := fun p k c => sent p k c (atStart m k c)

theorem got3_msgs (k : Fin 24) (c : Dev nD) (f : OutC F) : got3 (msgs m) k c f = gotM k (atStart m k) c f := rfl

/-- The result. -/
def final (c : Dev nD) : OutC F := T m 6 c

/-! ## Agreement on the first rows -/

def Agree (n : ℕ) (f g : OutC F) : Prop := ∀ i : S2048x2048.Idx, (i 0).val < n → f i = g i

theorem out_set (r : Rect S2048x2048) : (outM.access r).set = r.set := by
  unfold Memref.access; rw [View.set_slice]; exact Finset.map_refl

theorem agree_write {n : ℕ} (r : Rect S2048x2048) (w : r.shape.Idx → Elt F .f32) (f g : OutC F)
    (h : ∀ i : S2048x2048.Idx, (i 0).val < n → i ∉ r.set → f i = g i) :
    Agree n ((outM.access r).write (Elt F) f w Finset.univ) ((outM.access r).write (Elt F) g w Finset.univ) := by
  intro i hi
  by_cases hr : i ∈ r.set
  · obtain ⟨x, -, rfl⟩ := Finset.mem_map.mp ((Rect.map_emb_univ r).symm ▸ hr)
    exact (View.read_slice_write_emb (v := outM.view) r f w (Finset.mem_univ x)).trans (View.read_slice_write_emb (v := outM.view) r g w (Finset.mem_univ x)).symm
  · have hr' : i ∉ (outM.access r).setOn Finset.univ := fun hm => hr ((out_set r) ▸ hm)
    rw [View.write_of_not_mem _ _ _ hr', View.write_of_not_mem _ _ _ hr']
    exact h i hi hr

theorem agree_read {n : ℕ} {f g : OutC F} (h : Agree n f g) (r : Rect S2048x2048) (hr : ∀ i ∈ r.set, (i 0).val < n) :
    outM.view.readAt (Elt F) r.toLoadRect f = outM.view.readAt (Elt F) r.toLoadRect g := by
  refine View.readAt_congr fun i hi => h i (hr i ?_)
  have : outM.view.setOn r.set = r.set := Finset.map_refl
  exact this ▸ hi

theorem sendRow_le : ∀ (p : Fin 3) (k : Fin 24) (c : Dev nD), sendRow p k c + sz k ≤ 512 * (k.val / 6 + 1) := by decide +kernel
theorem consRow_le (p : Fin 3) (k : Fin 24) (c : Dev nD) : consRow p k c + sz k ≤ 512 * (k.val / 6 + 1) := by
  rw [← consRow_mate]; exact sendRow_le p k _

theorem mem_rSo {p : Fin 3} {k : Fin 24} {c : Dev nD} {i : S2048x2048.Idx} :
    i ∈ (rSo p k c).set ↔ (sendRow p k c ≤ (i 0).val ∧ (i 0).val < sendRow p k c + sz k) ∧ (col0 p ≤ (i 1).val ∧ (i 1).val < col0 p + colw p) := by
  rw [Rect.mem_set_unit, soffT_eq]; exact Fin.forall_fin_two
theorem mem_rCo {p : Fin 3} {k : Fin 24} {c : Dev nD} {i : S2048x2048.Idx} :
    i ∈ (rCo p k c).set ↔ (consRow p k c ≤ (i 0).val ∧ (i 0).val < consRow p k c + sz k) ∧ (col0 p ≤ (i 1).val ∧ (i 1).val < col0 p + colw p) := by
  rw [Rect.mem_set_unit, coffT_eq]; exact Fin.forall_fin_two

theorem agree_sent {n : ℕ} {f g : OutC F} (h : Agree n f g) (p : Fin 3) (k : Fin 24) (c : Dev nD) (hn : 512 * (k.val / 6 + 1) ≤ n) :
    sent p k c f = sent p k c g := by
  unfold sent
  rw [agree_read h (rSo p k c) fun i hi => by have := sendRow_le p k c; have := (mem_rSo.mp hi).1.2; omega]

theorem agree_got {n : ℕ} {f g : OutC F} (h : Agree n f g) (p : Fin 3) (k : Fin 24) (c : Dev nD) (hn : 512 * (k.val / 6 + 1) ≤ n) (v : Vec F (blkS p k) .bf16) :
    Agree n (got p k c v f) (got p k c v g) := by
  unfold got
  rw [agree_read h (rCo p k c) fun i hi => by have := consRow_le p k c; have := (mem_rCo.mp hi).1.2; omega]
  exact agree_write _ _ _ _ fun i hi _ => h i hi

theorem agree_gotM {n : ℕ} {f g : OutC F} (h : Agree n f g) (k : Fin 24) (c : Dev nD) (hn : 512 * (k.val / 6 + 1) ≤ n) (Z : Dev nD → OutC F) :
    Agree n (gotM k Z c f) (gotM k Z c g) :=
  agree_got (agree_got (agree_got h 0 k c hn _) 1 k c hn _) 2 k c hn _

/-- The rows written before point `t`. -/
def lim (t : ℕ) : ℕ := 512 * ((t + 7) / 8)

theorem mem_rOut {t : Fin cfg0.N} {i : S2048x2048.Idx} : i ∈ (rOut t).set ↔ 512 * (t.val / 8) ≤ (i 0).val ∧ (i 0).val < 512 * (t.val / 8) + 512 := by
  rw [Rect.mem_set_unit]
  refine Fin.forall_fin_two.trans ⟨fun h => h.1, fun h => ⟨h, Nat.zero_le _, ?_⟩⟩
  show (i 1).val < 0 + 2048
  have : (i 1).val < 2048 := (i 1).isLt
  omega

theorem agree_comp (c : Dev nD) (t : Fin cfg0.N) {f g : OutC F} (h : Agree (lim t.val) f g) : Agree (lim (t.val + 1)) (comp m c t f) (comp m c t g) := by
  have key : ∀ i : S2048x2048.Idx, (i 0).val < lim (t.val + 1) → i ∉ (rOut t).set → f i = g i := fun i hi hr => by
    refine h i ?_
    rw [mem_rOut] at hr
    unfold lim at hi ⊢
    omega
  unfold comp
  by_cases ht : t.val % 8 = 0
  · rw [if_pos ht, if_pos ht]; exact agree_write _ _ _ _ key
  · rw [if_neg ht, if_neg ht, agree_read h (rOut t) fun i hi => by rw [mem_rOut] at hi; unfold lim; omega]
    exact agree_write _ _ _ _ key

theorem agree_full {f g : OutC F} (h : Agree 2048 f g) : f = g := funext fun i => h i (i 0).isLt

/-! ## The recursion, read -/

theorem G_succ (c : Dev nD) (t : Fin cfg0.N) (h : ¬ ends t.val) : G m (t.val + 1) c = comp m c t (G m t.val c) := by
  rw [G]; exact (dif_pos t.isLt).trans (if_neg h)
theorem G_succ_ends (c : Dev nD) (t : Fin cfg0.N) (h : ends t.val) : G m (t.val + 1) c = gotM (endK t.val) (G m t.val) c (comp m c t (G m t.val c)) := by
  rw [G]; exact (dif_pos t.isLt).trans (if_pos h)
theorem atStart_lt (k : Fin 24) (hk : k.val < 18) : atStart m k = G m (8 * (k.val / 6 + 1) + k.val % 6 + 1) := if_pos hk
theorem atStart_ge (k : Fin 24) (hk : ¬ k.val < 18) : atStart m k = T m (k.val - 18) := if_neg hk

end Cert.CubeProof

end
-- ==== Proof.Resolve.lean ====
module

public import proofs.«01_k».proof.Proof.Contents

/-! # What the body does at each grid point -/

@[expose] public section

noncomputable section

namespace Cert.CubeProof

open Cert.KernelIdeal Cert.KernelIdeal.Gen
open Idealize.ShloMosaic Idealize.ShloMosaic.TcCoe Idealize.SL.Sem

variable {F : FTy → Type} [FloatOps F]

theorem cond1_iff : ∀ t : Fin grid0.N, k0_cond1 (grid0.coords t) = 1#1 ↔ t.val = 0 := by decide +kernel
theorem cond2_iff : ∀ t : Fin grid0.N, k0_cond2 (grid0.coords t) = 1#1 ↔ t.val % 8 = 0 := by decide +kernel
theorem cond3_iff : ∀ t : Fin grid0.N, k0_cond3 (grid0.coords t) = 1#1 ↔ ¬ t.val % 8 = 0 := by decide +kernel
theorem cond4_iff : ∀ t : Fin grid0.N, k0_cond4 (grid0.coords t) = 1#1 ↔ t.val = 8 := by decide +kernel
theorem conds_iff : ∀ t : Fin grid0.N,
    ((k0_cond5 (grid0.coords t) = 1#1 ↔ t.val = 9) ∧ (k0_cond6 (grid0.coords t) = 1#1 ↔ t.val = 10) ∧ (k0_cond7 (grid0.coords t) = 1#1 ↔ t.val = 11)
      ∧ (k0_cond8 (grid0.coords t) = 1#1 ↔ t.val = 12) ∧ (k0_cond9 (grid0.coords t) = 1#1 ↔ t.val = 13) ∧ (k0_cond10 (grid0.coords t) = 1#1 ↔ t.val = 14))
    ∧ ((k0_cond11 (grid0.coords t) = 1#1 ↔ t.val = 16) ∧ (k0_cond12 (grid0.coords t) = 1#1 ↔ t.val = 17) ∧ (k0_cond13 (grid0.coords t) = 1#1 ↔ t.val = 18)
      ∧ (k0_cond14 (grid0.coords t) = 1#1 ↔ t.val = 19) ∧ (k0_cond15 (grid0.coords t) = 1#1 ↔ t.val = 20) ∧ (k0_cond16 (grid0.coords t) = 1#1 ↔ t.val = 21)
      ∧ (k0_cond17 (grid0.coords t) = 1#1 ↔ t.val = 22))
    ∧ ((k0_cond18 (grid0.coords t) = 1#1 ↔ t.val = 24) ∧ (k0_cond19 (grid0.coords t) = 1#1 ↔ t.val = 25) ∧ (k0_cond20 (grid0.coords t) = 1#1 ↔ t.val = 26)
      ∧ (k0_cond21 (grid0.coords t) = 1#1 ↔ t.val = 27) ∧ (k0_cond22 (grid0.coords t) = 1#1 ↔ t.val = 28) ∧ (k0_cond23 (grid0.coords t) = 1#1 ↔ t.val = 29)
      ∧ (k0_cond24 (grid0.coords t) = 1#1 ↔ t.val = 30))
    ∧ (k0_cond25 (grid0.coords t) = 1#1 ↔ t.val = 31) := by decide +kernel

/-- The rounds at point `t`. -/
def roundP (t : ℕ) (c : Dev nD) : KProg F :=
  if t < 8 then pure ⟨⟩
  else if t = 31 then tailP c
  else if t % 8 = 0 then start3 (Fin.ofNat 24 (6 * (t / 8 - 1))) c
  else if t % 8 ≤ 5 then swap3 (endK t) (Fin.ofNat 24 (6 * (t / 8 - 1) + t % 8)) c
  else if t % 8 = 6 then finish3 (endK t) c
  else pure ⟨⟩

/-- The barrier, at the first point. -/
def barQ (t : Fin grid0.N) (c : Dev nD) : KProg F :=
  if h : t.val = 0 then barP (grid0.coords t) c ((cond1_iff t).mpr h) else pure ⟨⟩
/-- The product at point `t`. -/
def prodQ (t : Fin grid0.N) (m2 : Memref sig .tc .vmem S512x2048 .bf16) (m3 m4 : Memref sig .tc .vmem S2048x512 .bf16)
    (m5 : Memref sig .tc .vmem S512x2048 .bf16) : KProg F := do
  let x : Vec F S512x2048 .bf16 ← Prog.lift (.load m2 (Rect.unit (s := S512x2048) ![0, 0] S512x2048.size inb_S512x2048_S512x2048_0_0).toLoadRect (View.loadsAt_vmem h_S512x2048))
  let g : Vec F S2048x512 .bf16 ← Prog.lift (.load m3 (Rect.unit (s := S2048x512) ![0, 0] S2048x512.size inb_S2048x512_S2048x512_0_0).toLoadRect (View.loadsAt_vmem h_S2048x512))
  let u : Vec F S2048x512 .bf16 ← Prog.lift (.load m4 (Rect.unit (s := S2048x512) ![0, 0] S2048x512.size inb_S2048x512_S2048x512_0_0).toLoadRect (View.loadsAt_vmem h_S2048x512))
  let d : Vec F S512x2048 .bf16 ← Prog.lift (.load m5 (Rect.unit (s := S512x2048) ![0, 0] S512x2048.size inb_S512x2048_S512x2048_0_0).toLoadRect (View.loadsAt_vmem h_S512x2048))
  if h : t.val % 8 = 0 then firstP (grid0.coords t) x g u d ((cond2_iff t).mpr h)
  else laterP (grid0.coords t) x g u d ((cond3_iff t).mpr h)

section
variable (t : Fin grid0.N) (c : Dev nD) (m2 : Memref sig .tc .vmem S512x2048 .bf16) (m3 m4 : Memref sig .tc .vmem S2048x512 .bf16)
  (m5 : Memref sig .tc .vmem S512x2048 .bf16)

theorem group0_eq {β : Type} (r : β) (k : β → KProg F) :
    (group0 (grid0.coords t) m2 m3 m4 m5 c r >>= k)
      = (barQ t c >>= fun _ => prodQ t m2 m3 m4 m5 >>= fun _ => (if t.val = 8 then start3 0 c else pure ⟨⟩) >>= fun _ => k r) := by
  have e1 := cond1_iff t
  have e2 := cond2_iff t
  have e3 := cond3_iff t
  have e4 := cond4_iff t
  unfold group0 barQ prodQ
  by_cases h0 : t.val = 0
  · have h8 : t.val % 8 = 0 := by omega
    have h4 : ¬ t.val = 8 := by omega
    simp only [dif_pos (e1.mpr h0), dif_pos (e2.mpr h8), dif_neg (fun h => e3.mp h h8), dif_neg (fun h => h4 (e4.mp h)), dif_pos h0, dif_pos h8, if_neg h4, bind_assoc, pure_bind]
  · by_cases h8 : t.val % 8 = 0
    · by_cases h4 : t.val = 8
      · simp only [dif_neg (fun h => h0 (e1.mp h)), dif_pos (e2.mpr h8), dif_neg (fun h => e3.mp h h8), dif_pos (e4.mpr h4), dif_neg h0, dif_pos h8, if_pos h4, bind_assoc, pure_bind]
      · simp only [dif_neg (fun h => h0 (e1.mp h)), dif_pos (e2.mpr h8), dif_neg (fun h => e3.mp h h8), dif_neg (fun h => h4 (e4.mp h)), dif_neg h0, dif_pos h8, if_neg h4, bind_assoc, pure_bind]
    · have h4 : ¬ t.val = 8 := by omega
      simp only [dif_neg (fun h => h0 (e1.mp h)), dif_neg (fun h => h8 (e2.mp h)), dif_pos (e3.mpr h8), dif_neg (fun h => h4 (e4.mp h)), dif_neg h0, dif_neg h8, if_neg h4, bind_assoc, pure_bind]

set_option maxHeartbeats 1600000 in
theorem tail_eq {β₁ β₂ β₃ β₄ : Type} (r0 : β₁) (r1 : β₁ → β₂) (r2 : β₂ → β₃) (r3 : β₃ → β₄) :
    ((if t.val = 8 then start3 0 c else pure ⟨⟩) >>= fun _ => group1 (grid0.coords t) c (r1 r0) >>= fun w1 => group2 (grid0.coords t) c (r2 w1) >>= fun w2 =>
      group3 (grid0.coords t) c (r3 w2) >>= fun _ => group4 (grid0.coords t) c) = (roundP t.val c : KProg F) := by
  have key : ∀ u : Fin 32, t.val = u.val → ((if t.val = 8 then start3 0 c else pure ⟨⟩) >>= fun _ => group1 (grid0.coords t) c (r1 r0) >>= fun w1 =>
      group2 (grid0.coords t) c (r2 w1) >>= fun w2 => group3 (grid0.coords t) c (r3 w2) >>= fun _ => group4 (grid0.coords t) c) = (roundP t.val c : KProg F) := by
    obtain ⟨⟨e5, e6, e7, e8, e9, e10⟩, ⟨e11, e12, e13, e14, e15, e16, e17⟩, ⟨e18, e19, e20, e21, e22, e23, e24⟩, e25⟩ := conds_iff t
    intro u hu
    rw [hu] at e5 e6 e7 e8 e9 e10 e11 e12 e13 e14 e15 e16 e17 e18 e19 e20 e21 e22 e23 e24 e25 ⊢
    unfold group1 group2 group3 group4
    fin_cases u <;>
      simp +decide only [e5, e6, e7, e8, e9, e10, e11, e12, e13, e14, e15, e16, e17, e18, e19, e20, e21, e22, e23, e24, e25, dite_true, dite_false, if_true, if_false,
        bind_assoc, pure_bind, bind_pure] <;> rfl
  exact key ⟨t.val, t.isLt⟩ rfl

theorem body_split {r0 : Dev nD → BitVec 32} {r1 : Dev nD → BitVec 32 → (_ : BitVec 32) ×' BitVec 32}
    {r2 : Dev nD → ((_ : BitVec 32) ×' BitVec 32) → (_ : BitVec 1) ×' BitVec 1} {r3 : Dev nD → ((_ : BitVec 1) ×' BitVec 1) → BitVec 32} :
    (group0 (grid0.coords t) m2 m3 m4 m5 c (r0 c) >>= fun w0 => group1 (grid0.coords t) c (r1 c w0) >>= fun w1 =>
        group2 (grid0.coords t) c (r2 c w1) >>= fun w2 => group3 (grid0.coords t) c (r3 c w2) >>= fun _ => group4 (grid0.coords t) c)
      = ((barQ t c >>= fun _ => prodQ t m2 m3 m4 m5 >>= fun _ => roundP t.val c) : KProg F) := by
  rw [group0_eq]
  simp only [tail_eq t c (r0 c) (r1 c) (r2 c) (r3 c)]

end

end Cert.CubeProof

end
-- ==== Proof.Point.lean ====
module

public import proofs.«01_k».proof.Proof.Resolve
public import Idealize.ShloMosaic.Lib.VecWindow

/-! # A grid point -/

@[expose] public section

noncomputable section

namespace Cert.CubeProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The barrier -/

theorem dev1_eq : ∀ c : Dev nD, k0_dev1 c = (par 0 c).val := by decide +kernel
theorem dev2_eq : ∀ c : Dev nD, k0_dev2 c = (par 1 c).val := by decide +kernel
theorem dev3_eq : ∀ c : Dev nD, k0_dev3 c = (par 2 c).val := by decide +kernel

/-- A part's holdings at launch. -/
def PartI (c : Dev nD) (p : Fin 3) : sProp 𝕄 :=
  iprop((bigSep Finset.univ (sTodo (F := F) c p) ∗ freeSlot (F := F) c p 0 ∗ freeSlot (F := F) c p 1)
    ∗ bigSep Finset.univ (rTodo (F := F) c p) ∗ bigSep (Finset.univ : Finset (Fin 6)) fun j => reg (F := F) c p j.val)
def AllI (c : Dev nD) : sProp 𝕄 := iprop(PartI (F := F) c 0 ∗ PartI (F := F) c 1 ∗ PartI (F := F) c 2)
/-- What the barrier takes. -/
def barI (c : Dev nD) : sProp 𝕄 :=
  iprop(atPos (ER (F := F)) (barCell c) 0 ∅ 0 ∗ cred (tallyAt (barCell c) () 3)
    ∗ dutyTok (ER (F := F)) (barCell (par 0 c)) 0 0 ∗ dutyTok (ER (F := F)) (barCell (par 1 c)) 0 1 ∗ dutyTok (ER (F := F)) (barCell (par 2 c)) 0 2)
def owedBar (c : Dev nD) : CellTallies nD τ sig Unit :=
  tallyAt (barCell (par 0 c)) () 1 + tallyAt (barCell (par 1 c)) () 1 + tallyAt (barCell (par 2 c)) () 1

omit [FloatOps F] in
theorem bigSep_six (P : Fin 6 → sProp 𝕄) : bigSep Finset.univ P = iprop(P 0 ∗ P 1 ∗ P 2 ∗ P 3 ∗ P 4 ∗ P 5) := by
  rw [bigSep_univ_eq_bigSepL [0, 1, 2, 3, 4, 5] (by decide) (by decide)]; rfl
omit [FloatOps F] in
theorem bigSep_three (P : Fin 3 → sProp 𝕄) : bigSep Finset.univ P = iprop(P 0 ∗ P 1 ∗ P 2) := by
  rw [bigSep_univ_eq_bigSepL [0, 1, 2] (by decide) (by decide)]; rfl
omit [FloatOps F] in
theorem bigSep_trip (a b c : ℕ) (hab : a ≠ b) (hac : a ≠ c) (hbc : b ≠ c) (P : ℕ → sProp 𝕄) : bigSep ({a, b, c} : Finset ℕ) P = iprop(P a ∗ P b ∗ P c) := by
  refine (bigSep_insert (by simp [hab, hac])).trans (congrArg _ ?_)
  refine (bigSep_insert (by simp [hbc])).trans (congrArg _ bigSep_singleton)

/-- A part's holdings with the neighbours' regions, from those without. -/
theorem partA_zero (c : Dev nD) (p : Fin 3) :
    iprop((bigSep Finset.univ (sTodo (F := F) c p) ∗ freeSlot (F := F) c p 0 ∗ freeSlot (F := F) c p 1)
      ∗ bigSep Finset.univ (rTodo (F := F) c p) ∗ (reg (F := F) c p 3 ∗ reg (F := F) c p 4 ∗ reg (F := F) c p 5)
      ∗ right (F := F) c p 0 ∗ right (F := F) c p 1 ∗ right (F := F) c p 2) ⊢ PartA (F := F) c p 0 := by
  unfold PartA
  rw [geS_zero, show (0 - 2 : ℕ) = 0 from rfl, ltS_zero, bigSep_empty, bigSep_empty, show pend (F := F) c p 0 = freeSlot c p 0 from rfl, show pend (F := F) c p (0 + 1) = freeSlot c p 1 from rfl, show own 0 = {3, 4, 5} from rfl, show rts 0 = {0, 1, 2} from rfl,
    bigSep_trip 3 4 5 (by decide) (by decide) (by decide), bigSep_trip 0 1 2 (by decide) (by decide) (by decide)]
  iintro ⟨⟨H1, H2, H3⟩, H4, H5, H6⟩
  isplitl [H1 H2 H3]
  · isplitl [H1]; · iexact H1
    isplitl [H2]; · iexact H2
    isplitl [H3]; · iexact H3
    iempintro
  isplitl [H4]
  · isplitl [H4]; · iexact H4
    iempintro
  isplitl [H5]; · iexact H5
  iexact H6

variable (X : Msgs F) (K : Dev nD × CI → ℕ)

theorem above_bar (c : Dev nD) : Above 0 (owedBar c) :=
  ((Above.tally _ _ _ (by rw [lv_bar]; decide)).add (Above.tally _ _ _ (by rw [lv_bar]; decide))).add (Above.tally _ _ _ (by rw [lv_bar]; decide))

theorem barPay_give (c : Dev nD) (a : Fin 3) :
    iprop(reg (F := F) c 0 (jOf 0 a) ∗ reg (F := F) c 1 (jOf 1 a) ∗ reg (F := F) c 2 (jOf 2 a)) ⊢ barPay (F := F) (par a c) a := by
  unfold barPay; rw [bigSep_three, par_par]
theorem barPay_take (c : Dev nD) (a : Fin 3) :
    barPay (F := F) c a ⊢ iprop(right (F := F) c 0 (jOf 0 a) ∗ right (F := F) c 1 (jOf 1 a) ∗ right (F := F) c 2 (jOf 2 a)) := by
  unfold barPay right; rw [bigSep_three, axJ_jOf, axJ_jOf, axJ_jOf]

/-- One of the barrier's signals. -/
theorem wp_bar (c n : Dev nD) (a : Fin 3) (hn : n = par a c) (O₀ O : CellTallies nD τ sig Unit)
    (hO : O₀ = O + tallyAt (barCell (par a c)) () 1) (W) {k : PUnit → KProg F} (Q : PUnit → sProp 𝕄) :
    iprop(recs X K ∗ owes (c : Thread nD τ) O₀ W ∗ dutyTok (ER (F := F)) (barCell (par a c)) 0 a ∗ barPay (par a c) a
        ∗ (owes (c : Thread nD τ) O W -∗ Meets c (k ⟨⟩) Q))
      ⊢ Meets c (.op (.semSignal (n : Thread nD τ) barS 1) k) Q := by
  subst hn
  unfold Meets
  iintro ⟨#HR, HO, Ht, Hp, HQ⟩
  ihave #HI := (recs_at X K (par a c, none)) $$ HR
  icases HI with ⟨#HI, #Hr⟩
  iapply (Rounds.wp_signal 𝒱₀ ER (Rd X) (c : Thread nD τ) none (dst := (par a c : Thread nD τ)) (κ := K (par a c, none))
      (d := a) (by rw [duties_bar]; exact Finset.mem_univ _) (amount_bar X (par a c) a) () O hO) $$ [HO Ht Hp]
  · isplitr; · iexact HI
    isplitl [HO]; · iexact HO
    isplitl [Ht]; · iexact Ht
    isplitl [Hp]; · rw [payload_bar]; iexact Hp
    iexact Hr
  iintro HO
  iapply HQ; iexact HO

theorem meets_bar (i : grid0.Coords) (c : Dev nD) (h : k0_cond1 i = 1#1) (Q : PUnit → sProp 𝕄) :
    iprop(recs X K ∗ levAts L lv ∗ barI c ∗ AllI c ∗ debt c (owedV c 0 + owedBar c)
        ∗ ((semVal (barCell c) 0 ∗ AllA c 0 ∗ debt c (owedV c 0)) -∗ Q ⟨⟩)) ⊢ Meets c (barP i c h) Q := by
  have h1 : (⟨k0_dev1 c, k0_dev1_lt i c h⟩ : Dev nD) = par 0 c := Fin.ext (dev1_eq c)
  have h2 : (⟨k0_dev2 c, k0_dev2_lt i c h⟩ : Dev nD) = par 1 c := Fin.ext (dev2_eq c)
  have h3 : (⟨k0_dev3 c, k0_dev3_lt i c h⟩ : Dev nD) = par 2 c := Fin.ext (dev3_eq c)
  unfold barP barI AllI PartI debt owedBar
  simp only [semSignalWord, semWaitWord, Prog.lift, Prog.bind_op, Prog.bind_ret]
  rw [bigSep_six, bigSep_six, bigSep_six]
  iintro ⟨#HR, #Hlev, ⟨Hat, Hcr, Ht0, Ht1, Ht2⟩, ⟨⟨S0, R0, G00, G01, G02, G03⟩, ⟨S1, R1, G10, G11, G12, G13⟩, S2, R2, G20, G21, G22, G23⟩, ⟨%W, HO⟩, HQ⟩
  iapply (wp_bar X K c _ 0 h1 (owedV c 0 + (tallyAt (barCell (par 0 c)) () 1 + tallyAt (barCell (par 1 c)) () 1 + tallyAt (barCell (par 2 c)) () 1)) (owedV c 0 + tallyAt (barCell (par 1 c)) () 1 + tallyAt (barCell (par 2 c)) () 1) (by ac_rfl) W)
  isplitr; · iexact HR
  isplitl [HO]; · iexact HO
  isplitl [Ht0]; · iexact Ht0
  isplitl [G00 G12 G21]
  · iapply (barPay_give c 0)
    isplitl [G00]; · iexact G00
    isplitl [G12]; · iexact G12
    iexact G21
  iintro HO
  iapply (wp_bar X K c _ 1 h2 (owedV c 0 + tallyAt (barCell (par 1 c)) () 1 + tallyAt (barCell (par 2 c)) () 1) (owedV c 0 + tallyAt (barCell (par 2 c)) () 1) (by ac_rfl) W)
  isplitr; · iexact HR
  isplitl [HO]; · iexact HO
  isplitl [Ht1]; · iexact Ht1
  isplitl [G01 G10 G22]
  · iapply (barPay_give c 1)
    isplitl [G01]; · iexact G01
    isplitl [G10]; · iexact G10
    iexact G22
  iintro HO
  iapply (wp_bar X K c _ 2 h3 (owedV c 0 + tallyAt (barCell (par 2 c)) () 1) (owedV c 0) rfl W)
  isplitr; · iexact HR
  isplitl [HO]; · iexact HO
  isplitl [Ht2]; · iexact Ht2
  isplitl [G02 G11 G20]
  · iapply (barPay_give c 2)
    isplitl [G02]; · iexact G02
    isplitl [G11]; · iexact G11
    iexact G20
  iintro HO
  ihave #HI := (recs_at X K (c, none)) $$ HR
  icases HI with ⟨#HI, -⟩
  unfold Meets
  iapply (Rounds.wp_wait_rest_token 𝒱₀ ER (Rd X) (c : Thread nD τ) none (κ := K (c, none))
      (wpE_semWait_eq 𝒱₀ (c : Thread nD τ) none Set.univ) (Set.mem_univ _) () (O := owedV c 0) (W := W) (R := 0) (m := 0) (T := ∅)
      (by rw [expect_bar]; rfl)) $$ [Hcr HO Hat]
  · isplitr; · iexact HI
    isplitl [Hcr]; · iexact Hcr
    isplitl [HO]; · iexact HO
    isplitr; · iapply (mayWait_of_above c _ (lv_bar c) (above_owedV c 0)); iexact Hlev
    iexact Hat
  iintro ⟨HO, Hat, -, Hpay⟩
  ihave Hp := (Entails.of_eq ((rest_bar X c).trans (bigSep_three _))) $$ Hpay
  imod (Rounds.cell_close ER (Rd X) (Set.mem_univ (K (c, none))) (fun h => h) (R := 0 + 1) (duties_later X (barCell c))) $$ [Hat] with Hz
  · isplitr; · iexact HI
    iexact Hat
  icases Hp with ⟨P0, P1, P2⟩
  ihave P0 := (barPay_take c 0) $$ P0
  ihave P1 := (barPay_take c 1) $$ P1
  ihave P2 := (barPay_take c 2) $$ P2
  icases P0 with ⟨X00, X12, X21⟩
  icases P1 with ⟨X01, X10, X22⟩
  icases P2 with ⟨X02, X11, X20⟩
  rw [wp_ret]; imodintro
  iapply HQ
  isplitl [Hz]; · iexact Hz
  isplitr [HO]
  rotate_left
  · iexists _; iexact HO
  unfold AllA
  isplitl [S0 R0 G03 X00 X01 X02]
  · iapply (partA_zero c 0)
    isplitl [S0]; · iexact S0
    isplitl [R0]; · iexact R0
    isplitl [G03]; · iexact G03
    isplitl [X00]; · iexact X00
    isplitl [X01]; · iexact X01
    iexact X02
  isplitl [S1 R1 G13 X10 X11 X12]
  · iapply (partA_zero c 1)
    isplitl [S1]; · iexact S1
    isplitl [R1]; · iexact R1
    isplitl [G13]; · iexact G13
    isplitl [X10]; · iexact X10
    isplitl [X11]; · iexact X11
    iexact X12
  iapply (partA_zero c 2)
  isplitl [S2]; · iexact S2
  isplitl [R2]; · iexact R2
  isplitl [G23]; · iexact G23
  isplitl [X20]; · iexact X20
  isplitl [X21]; · iexact X21
  iexact X22

/-! ## The product -/

variable (m : (ℓ : Loc nD τ sig) → Buf (Elt F) ℓ)

theorem offOut : ∀ t : Fin grid0.N, k0_off1 (grid0.coords t) = ![512 * (t.val / 8), 0] ∧ k0_off2 (grid0.coords t) = ![512 * (t.val / 8), 0] := by decide +kernel

theorem write_at (off off' : Fin 2 → ℕ) (h : off = off') (inb : ∀ a, off a + S512x2048.size a ≤ S2048x2048.size a)
    (inb' : ∀ a, off' a + S512x2048.size a ≤ S2048x2048.size a) (f : OutC F) (w : Vec F S512x2048 .f32) :
    (outM.access (Rect.unit (s := S2048x2048) off S512x2048.size inb)).write (Elt F) f w Finset.univ
      = (outM.access (Rect.unit (s := S2048x2048) off' S512x2048.size inb')).write (Elt F) f w Finset.univ := by subst h; rfl
theorem read_at (off off' : Fin 2 → ℕ) (h : off = off') (inb : ∀ a, off a + S512x2048.size a ≤ S2048x2048.size a)
    (inb' : ∀ a, off' a + S512x2048.size a ≤ S2048x2048.size a) (f : OutC F) :
    outM.view.readAt (Elt F) (Rect.unit (s := S2048x2048) off S512x2048.size inb).toLoadRect f
      = (outM.view.readAt (Elt F) (Rect.unit (s := S2048x2048) off' S512x2048.size inb').toLoadRect f : Vec F S512x2048 .f32) := by subst h; rfl

/-- A load of a whole memref. -/
theorem wp_load_owns {s : Shape} {e : EltTy} (c : Dev nD) (M : Memref sig .tc .vmem s e) (Y : s.Idx → Elt F e) {off : Fin s.rank → ℕ}
    (inb : ∀ a, off a + s.size a ≤ s.size a) (hl) {k : (s.Idx → Elt F e) → KProg F} (Q : PUnit → sProp 𝕄) :
    iprop(owns (c : Thread nD τ) M fullShare Y ∗ (owns (c : Thread nD τ) M fullShare Y -∗ Meets c (k Y) Q))
      ⊢ Meets c (.op (.load M (Rect.unit (s := s) off s.size inb).toLoadRect hl) k) Q := by
  unfold Meets owns
  iintro ⟨⟨%f, %hf, Hf⟩, HQ⟩
  iapply (wp_load 𝒱₀ (c : Thread nD τ) none Set.univ (m := M) (S := M.view.set) (q := fullShare) (f := f) (Finset.map_subset_map.mpr (Finset.subset_univ _))) $$ Hf; iintro Hf
  rw [View.readAt_full, hf]
  iapply HQ
  iexists f
  isplitr; · ipureintro; exact hf
  iexact Hf

theorem meets_prod (t : Fin cfg0.N) (c : Dev nD) (m2 : Memref sig .tc .vmem S512x2048 .bf16) (m3 m4 : Memref sig .tc .vmem S2048x512 .bf16)
    (m5 : Memref sig .tc .vmem S512x2048 .bf16) (f : OutC F) (Q : PUnit → sProp 𝕄) :
    iprop(owns (c : Thread nD τ) m2 fullShare (xB m c t) ∗ owns (c : Thread nD τ) m3 fullShare (gB m c t) ∗ owns (c : Thread nD τ) m4 fullShare (uB m c t)
        ∗ owns (c : Thread nD τ) m5 fullShare (dB m c t) ∗ outPts c f
        ∗ ((owns (c : Thread nD τ) m2 fullShare (xB m c t) ∗ owns (c : Thread nD τ) m3 fullShare (gB m c t) ∗ owns (c : Thread nD τ) m4 fullShare (uB m c t)
          ∗ owns (c : Thread nD τ) m5 fullShare (dB m c t) ∗ outPts c (comp m c t f)) -∗ Q ⟨⟩))
      ⊢ Meets c (prodQ t m2 m3 m4 m5) Q := by
  obtain ⟨e1, e2⟩ := offOut t
  unfold prodQ
  simp only [Prog.lift, Prog.bind_op, Prog.bind_ret]
  iintro ⟨H2, H3, H4, H5, Ho, HQ⟩
  iapply (wp_load_owns c m2 (xB m c t)); isplitl [H2]; · iexact H2
  iintro H2
  iapply (wp_load_owns c m3 (gB m c t)); isplitl [H3]; · iexact H3
  iintro H3
  iapply (wp_load_owns c m4 (uB m c t)); isplitl [H4]; · iexact H4
  iintro H4
  iapply (wp_load_owns c m5 (dB m c t)); isplitl [H5]; · iexact H5
  iintro H5
  unfold outPts Meets
  by_cases h : t.val % 8 = 0
  · simp only [dif_pos h, firstP, Prog.lift, Prog.bind_op, Prog.bind_ret]
    iapply (wp_load 𝒱₀ (c : Thread nD τ) none Set.univ (m := outM) (Finset.subset_univ _)) $$ Ho; iintro Ho
    iapply (wp_store 𝒱₀ (c : Thread nD τ) none Set.univ (m := outM) (r := Rect.unit (s := S2048x2048) (k0_off1 (grid0.coords t)) S512x2048.size (k0_off1_inb _ ((cond2_iff t).mpr h)))
      (Mk := Finset.univ) (Finset.subset_univ _)) $$ Ho; iintro Ho
    rw [wp_ret, write_at _ _ e1 _ (inbOut t)]; imodintro
    iapply HQ
    isplitl [H2]; · iexact H2
    isplitl [H3]; · iexact H3
    isplitl [H4]; · iexact H4
    isplitl [H5]; · iexact H5
    unfold comp; rw [if_pos h]
    iexact Ho
  · simp only [dif_neg h, laterP, Prog.lift, Prog.bind_op, Prog.bind_ret]
    iapply (wp_load 𝒱₀ (c : Thread nD τ) none Set.univ (m := outM) (Finset.subset_univ _)) $$ Ho; iintro Ho
    iapply (wp_load 𝒱₀ (c : Thread nD τ) none Set.univ (m := outM) (Finset.subset_univ _)) $$ Ho; iintro Ho
    iapply (wp_store 𝒱₀ (c : Thread nD τ) none Set.univ (m := outM) (r := Rect.unit (s := S2048x2048) (k0_off2 (grid0.coords t)) S512x2048.size (k0_off2_inb _ ((cond3_iff t).mpr h)))
      (Mk := Finset.univ) (Finset.subset_univ _)) $$ Ho; iintro Ho
    rw [wp_ret, write_at _ _ e2 _ (inbOut t), read_at _ _ e2 _ (inbOut t)]; imodintro
    iapply HQ
    isplitl [H2]; · iexact H2
    isplitl [H3]; · iexact H3
    isplitl [H4]; · iexact H4
    isplitl [H5]; · iexact H5
    unfold comp; rw [if_neg h]
    iexact Ho

end Cert.CubeProof

end
-- ==== Proof.Obligation.lean ====
module

public import proofs.«01_k».proof.Proof.Point
public import Idealize.ShloMosaic.Lib.Pipeline.DatRel

/-! # The body meets its obligation at every grid point -/

@[expose] public section

noncomputable section

namespace Cert.CubeProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ UU ℕ

/-! ## The phases -/

/-- Where a device is before point `t`, the barrier over: before round `n` (`false`), with round `n`'s block on its
    way (`true`), or at the end. -/
def ph (t : ℕ) : Option (Bool × ℕ) :=
  if t < 9 then some (false, 0) else if t = 32 then none
  else if (t - 9) % 8 < 6 then some (true, 6 * ((t - 9) / 8) + (t - 9) % 8) else some (false, 6 * ((t - 9) / 8) + 6)
/-- The first round whose blocks it still owes. -/
def od (t : ℕ) : ℕ := if t < 9 then 0 else if t = 32 then 24 else 6 * ((t - 9) / 8) + min ((t - 9) % 8 + 1) 6

def held' (c : Dev nD) : Option (Bool × ℕ) → sProp 𝕄
  | none => AllZ (F := F) c
  | some (true, n) => AllB (F := F) c n
  | some (false, n) => AllA (F := F) c n

theorem held_A (c : Dev nD) (n : ℕ) : held' (F := F) c (some (false, n)) = AllA c n := rfl
theorem held_B (c : Dev nD) (n : ℕ) : held' (F := F) c (some (true, n)) = AllB c n := rfl

theorem at_start : ∀ t : Fin 32, 8 ≤ t.val → t.val % 8 = 0 →
    ph t.val = some (false, (Fin.ofNat 24 (6 * (t.val / 8 - 1))).val) ∧ od t.val = (Fin.ofNat 24 (6 * (t.val / 8 - 1))).val
    ∧ ph (t.val + 1) = some (true, (Fin.ofNat 24 (6 * (t.val / 8 - 1))).val) ∧ od (t.val + 1) = (Fin.ofNat 24 (6 * (t.val / 8 - 1))).val + 1
    ∧ 512 * ((Fin.ofNat 24 (6 * (t.val / 8 - 1))).val / 6 + 1) ≤ lim (t.val + 1) ∧ (Fin.ofNat 24 (6 * (t.val / 8 - 1))).val < 18
    ∧ 8 * ((Fin.ofNat 24 (6 * (t.val / 8 - 1))).val / 6 + 1) + (Fin.ofNat 24 (6 * (t.val / 8 - 1))).val % 6 + 1 = t.val + 1 := by decide +kernel
theorem at_mid : ∀ t : Fin 32, ends t.val →
    ph t.val = some (true, (endK t.val).val) ∧ od t.val = (endK t.val).val + 1
    ∧ 512 * ((endK t.val).val / 6 + 1) ≤ lim (t.val + 1) ∧ (endK t.val).val < 18
    ∧ 8 * ((endK t.val).val / 6 + 1) + (endK t.val).val % 6 + 1 = t.val := by decide +kernel
theorem at_swap : ∀ t : Fin 32, ends t.val → t.val % 8 ≤ 5 →
    ph (t.val + 1) = some (true, (endK t.val).val + 1) ∧ od (t.val + 1) = (endK t.val).val + 2
    ∧ (Fin.ofNat 24 (6 * (t.val / 8 - 1) + t.val % 8)).val = (endK t.val).val + 1
    ∧ 512 * ((Fin.ofNat 24 (6 * (t.val / 8 - 1) + t.val % 8)).val / 6 + 1) ≤ lim (t.val + 1) ∧ (Fin.ofNat 24 (6 * (t.val / 8 - 1) + t.val % 8)).val < 18
    ∧ 8 * ((Fin.ofNat 24 (6 * (t.val / 8 - 1) + t.val % 8)).val / 6 + 1) + (Fin.ofNat 24 (6 * (t.val / 8 - 1) + t.val % 8)).val % 6 + 1 = t.val + 1 := by decide +kernel
theorem at_finish : ∀ t : Fin 32, ends t.val → ¬ t.val % 8 ≤ 5 →
    ph (t.val + 1) = some (false, (endK t.val).val + 1) ∧ od (t.val + 1) = (endK t.val).val + 1 ∧ t.val % 8 = 6 := by decide +kernel
theorem at_idle : ∀ t : Fin 32, ¬ ends t.val → (t.val < 8 ∨ t.val % 8 ≠ 0) → t.val ≠ 31 → ph (t.val + 1) = ph t.val ∧ od (t.val + 1) = od t.val := by decide +kernel

variable (m : (ℓ : Loc nD τ sig) → Buf (Elt F) ℓ)

/-- The rows after point `t`. -/
def rowsAfter (t : ℕ) : Dev nD → OutC F := if t = 31 then final m else G m (t + 1)

/-! ## The rounds at a point -/

variable (K : Dev nD × CI → ℕ)

theorem atStart_of {k : Fin 24} {n : ℕ} (hk : k.val < 18) (h : 8 * (k.val / 6 + 1) + k.val % 6 + 1 = n) : atStart m k = G m n := by
  rw [atStart_lt m k hk, h]

theorem T_zero : T m 0 = G m 32 := by rw [T]

/-- Agreement is kept through the last wave's rounds. -/
theorem tail_step (c : Dev nD) (n : ℕ) (k : Fin 24) (hk : k.val = 18 + n) {f : OutC F} (h : Agree 2048 f (T m n c)) :
    (∀ p, sent p k c f = msgs m p k c) ∧ Agree 2048 (got3 (msgs m) k c f) (T m (n + 1) c) := by
  have hT : atStart m k = T m n := by
    rw [atStart_ge m _ (by rw [hk]; omega), hk, Nat.add_sub_cancel_left]
  have hl : 512 * (k.val / 6 + 1) ≤ 2048 := by have := k.isLt; omega
  have hk' : Fin.ofNat 24 (18 + n) = k := Fin.ext (by have := k.isLt; rw [← hk]; exact Nat.mod_eq_of_lt this)
  refine ⟨fun p => ?_, ?_⟩
  · unfold msgs; rw [hT]; exact agree_sent h p _ c hl
  · rw [got3_msgs, hT, T, hk']; exact agree_gotM h _ c hl _

/-- The last wave's rounds, one after the other. -/
theorem tail_steps (c : Dev nD) {f : OutC F} (h : Agree 2048 f (T m 0 c)) :
    (∀ p, sent p 18 c f = msgs m p 18 c) ∧ (∀ p, sent p 19 c (got3 (msgs m) 18 c f) = msgs m p 19 c)
      ∧ (∀ p, sent p 20 c (got3 (msgs m) 19 c (got3 (msgs m) 18 c f)) = msgs m p 20 c)
      ∧ (∀ p, sent p 21 c (got3 (msgs m) 20 c (got3 (msgs m) 19 c (got3 (msgs m) 18 c f))) = msgs m p 21 c)
      ∧ (∀ p, sent p 22 c (got3 (msgs m) 21 c (got3 (msgs m) 20 c (got3 (msgs m) 19 c (got3 (msgs m) 18 c f)))) = msgs m p 22 c)
      ∧ (∀ p, sent p 23 c (got3 (msgs m) 22 c (got3 (msgs m) 21 c (got3 (msgs m) 20 c (got3 (msgs m) 19 c (got3 (msgs m) 18 c f))))) = msgs m p 23 c)
      ∧ Agree 2048 (tailV (msgs m) c f) (final m c) := by
  obtain ⟨s0, a1⟩ := tail_step m c 0 18 rfl h
  obtain ⟨s1, a2⟩ := tail_step m c 1 19 rfl a1
  obtain ⟨s2, a3⟩ := tail_step m c 2 20 rfl a2
  obtain ⟨s3, a4⟩ := tail_step m c 3 21 rfl a3
  obtain ⟨s4, a5⟩ := tail_step m c 4 22 rfl a4
  obtain ⟨s5, a6⟩ := tail_step m c 5 23 rfl a5
  exact ⟨s0, s1, s2, s3, s4, s5, by unfold tailV final; exact a6⟩

theorem meets_round (t : Fin cfg0.N) (c : Dev nD) (f : OutC F) (hf : Agree (lim (t.val + 1)) f (comp m c t (G m t.val c))) (Q : PUnit → sProp 𝕄) :
    iprop(recs (msgs m) K ∗ levAts L lv ∗ held' c (ph t.val) ∗ outPts c f ∗ debt c (owedV c (od t.val))
        ∗ ((∃ f', ⌜Agree (lim (t.val + 1)) f' (rowsAfter m t.val c)⌝ ∗ outPts c f' ∗ held' c (ph (t.val + 1)) ∗ debt c (owedV c (od (t.val + 1)))) -∗ Q ⟨⟩))
      ⊢ Meets c (roundP t.val c) Q := by
  have ht : t.val < 32 := cfg0_N ▸ t.isLt
  by_cases h31 : t.val = 31
  · have e : roundP (F := F) t.val c = tailP c := by rw [h31]; rfl
    have e32 : t.val + 1 = 32 := by rw [h31]
    have hY : comp m c t (G m t.val c) = T m 0 c := by
      rw [← G_succ m c t (by rw [h31]; decide), e32, T_zero]
    have e1 : held' (F := F) c (ph t.val) = AllA c 18 := by rw [h31]; rfl
    have e2 : held' (F := F) c (ph (t.val + 1)) = AllZ c := by rw [h31]; rfl
    have e3 : owedV c (od t.val) = owedV c 18 := by rw [h31]; rfl
    have e4 : owedV c (od (t.val + 1)) = 0 := by rw [h31]; exact owedV_last c
    have e5 : lim (t.val + 1) = 2048 := by rw [h31]; rfl
    have a0 : Agree 2048 f (T m 0 c) := by rw [hY, e5] at hf; exact hf
    have e6 : rowsAfter m t.val c = final m c := by unfold rowsAfter; rw [if_pos h31]
    rw [e, e1, e2, e3, e4, e5, e6]
    obtain ⟨s0, s1, s2, s3, s4, s5, hA⟩ := tail_steps m c a0
    iintro ⟨#HR, #Hlev, HA, Hout, HO, HQ⟩
    iapply (meets_tail (msgs m) K c f s0 s1 s2 s3 s4 s5)
    isplitr; · iexact HR
    isplitr; · iexact Hlev
    isplitl [HA]; · iexact HA
    isplitl [Hout]; · iexact Hout
    isplitl [HO]; · iexact HO
    iintro ⟨HZ, Hout, HO⟩
    iapply HQ
    iexists _
    isplitr; · ipureintro; exact hA
    isplitl [Hout]; · iexact Hout
    isplitl [HZ]; · iexact HZ
    iexact HO
  have eR : rowsAfter m t.val c = G m (t.val + 1) c := by unfold rowsAfter; rw [if_neg h31]
  rw [eR]
  by_cases he : ends t.val
  · obtain ⟨p1, o1, l1, k1, n1⟩ := at_mid ⟨t.val, ht⟩ he
    dsimp only at p1 o1 l1 k1 n1
    have hS : atStart m (endK t.val) = G m t.val := atStart_of m k1 n1
    have hA : Agree (lim (t.val + 1)) (got3 (msgs m) (endK t.val) c f) (G m (t.val + 1) c) := by
      rw [got3_msgs, hS, G_succ_ends m c t he]; exact agree_gotM hf _ c l1 _
    by_cases h5 : t.val % 8 ≤ 5
    · obtain ⟨p2, o2, k2, l2, k3, n2⟩ := at_swap ⟨t.val, ht⟩ he h5
      dsimp only at p2 o2 k2 l2 k3 n2
      have e : roundP (F := F) t.val c = swap3 (endK t.val) (Fin.ofNat 24 (6 * (t.val / 8 - 1) + t.val % 8)) c := by
        obtain ⟨h1, h2, h3⟩ := he
        unfold roundP; rw [if_neg (by omega), if_neg h31, if_neg (by omega), if_pos h5]
      have hX : ∀ p, sent p (Fin.ofNat 24 (6 * (t.val / 8 - 1) + t.val % 8)) c (got3 (msgs m) (endK t.val) c f) = msgs m p (Fin.ofNat 24 (6 * (t.val / 8 - 1) + t.val % 8)) c := fun p => by
        unfold msgs; rw [atStart_of m k3 n2]; exact agree_sent hA p _ c l2
      rw [e, p1, p2, o1, o2, held_B, held_B]
      iintro ⟨#HR, #Hlev, HA, Hout, HO, HQ⟩
      iapply (meets_swap3 (msgs m) K c (endK t.val) _ k2 f hX)
      isplitr; · iexact HR
      isplitr; · iexact Hlev
      isplitl [HA]; · iexact HA
      isplitl [Hout]; · iexact Hout
      isplitl [HO]; · iexact HO
      iintro ⟨HZ, Hout, HO⟩
      iapply HQ
      iexists _
      isplitr; · ipureintro; exact hA
      isplitl [Hout]; · iexact Hout
      isplitl [HZ]; · iexact HZ
      iexact HO
    · obtain ⟨p2, o2, h6⟩ := at_finish ⟨t.val, ht⟩ he h5
      dsimp only at p2 o2 h6
      have e : roundP (F := F) t.val c = finish3 (endK t.val) c := by
        obtain ⟨h1, h2, h3⟩ := he
        unfold roundP; rw [if_neg (by omega), if_neg h31, if_neg (by omega), if_neg h5, if_pos h6]
      rw [e, p1, p2, o1, o2, held_B, held_A]
      iintro ⟨#HR, #Hlev, HA, Hout, HO, HQ⟩
      iapply (meets_finish3 (msgs m) K c (endK t.val) f)
      isplitr; · iexact HR
      isplitr; · iexact Hlev
      isplitl [HA]; · iexact HA
      isplitl [Hout]; · iexact Hout
      isplitl [HO]; · iexact HO
      iintro ⟨HZ, Hout, HO⟩
      iapply HQ
      iexists _
      isplitr; · ipureintro; exact hA
      isplitl [Hout]; · iexact Hout
      isplitl [HZ]; · iexact HZ
      iexact HO
  have hA : Agree (lim (t.val + 1)) f (G m (t.val + 1) c) := by rw [G_succ m c t he]; exact hf
  by_cases h0 : t.val < 8 ∨ t.val % 8 ≠ 0
  · obtain ⟨p1, o1⟩ := at_idle ⟨t.val, ht⟩ he h0 h31
    dsimp only at p1 o1
    have e : roundP (F := F) t.val c = pure ⟨⟩ := by
      unfold roundP
      unfold ends at he
      by_cases h8 : t.val < 8
      · rw [if_pos h8]
      · rw [if_neg h8, if_neg h31, if_neg (by omega), if_neg (by omega), if_neg (by omega)]
    rw [e, p1, o1, Prog.pure_eq_ret, Meets, wp_ret]
    iintro ⟨#HR, #Hlev, HA, Hout, HO, HQ⟩
    imodintro
    iapply HQ
    iexists _
    isplitr; · ipureintro; exact hA
    isplitl [Hout]; · iexact Hout
    isplitl [HA]; · iexact HA
    iexact HO
  · have h8 : 8 ≤ t.val ∧ t.val % 8 = 0 := by omega
    obtain ⟨p1, o1, p2, o2, l1, k1, n1⟩ := at_start ⟨t.val, ht⟩ h8.1 h8.2
    dsimp only at p1 o1 p2 o2 l1 k1 n1
    have e : roundP (F := F) t.val c = start3 (Fin.ofNat 24 (6 * (t.val / 8 - 1))) c := by
      unfold roundP; rw [if_neg (by omega), if_neg h31, if_pos h8.2]
    have hX : ∀ p, sent p (Fin.ofNat 24 (6 * (t.val / 8 - 1))) c f = msgs m p (Fin.ofNat 24 (6 * (t.val / 8 - 1))) c := fun p => by
      unfold msgs; rw [atStart_of m k1 n1]; exact agree_sent hA p _ c l1
    rw [e, p1, p2, o1, o2, held_A, held_B]
    iintro ⟨#HR, #Hlev, HA, Hout, HO, HQ⟩
    iapply (meets_start3 (msgs m) K c _ f hX)
    isplitr; · iexact HR
    isplitr; · iexact Hlev
    isplitl [HA]; · iexact HA
    isplitl [Hout]; · iexact Hout
    isplitl [HO]; · iexact HO
    iintro ⟨HZ, Hout, HO⟩
    iapply HQ
    iexists _
    isplitr; · ipureintro; exact hA
    isplitl [Hout]; · iexact Hout
    isplitl [HZ]; · iexact HZ
    iexact HO

/-! ## The data -/

/-- What a device holds before point `t`. -/
def phase (c : Dev nD) (t : ℕ) : sProp 𝕄 :=
  if t = 0 then iprop(barI (F := F) c ∗ AllI (F := F) c) else iprop(semVal (barCell c) 0 ∗ held' (F := F) c (ph t))
def owedAt (c : Dev nD) (t : ℕ) : CellTallies nD τ sig Unit := if t = 0 then owedV c 0 + owedBar c else owedV c (od t)

def dats (_ : Fin 1) (c : Dev nD) : Dat τ (Elt F) Unit ℕ UU ℕ cfg0 c where
  A w := V m c (Pipeline.arrRef spec0 w)
  after w t := match w with
    | ⟨0, _⟩ => xB m c t
    | ⟨1, _⟩ => gB m c t
    | ⟨2, _⟩ => uB m c t
    | ⟨3, _⟩ => dB m c t
    | ⟨4, _⟩ => rowsAfter m t.val c
  Φ t := iprop(∃ K, recs (msgs m) K ∗ levAts L lv ∗ phase (F := F) c t.val)
  q _ := fullShare
  owed t := owedAt c t.val

/-- The result's window is held to its first rows only. -/
def fgt : Fin cfg0.W → Bool := ![false, false, false, false, true]
def Rl (c : Dev nD) : (w : Fin cfg0.W) → Fin cfg0.N → ((cfg0.win w).block.Idx → Elt F (cfg0.win w).elt) → Prop
  | ⟨4, _⟩ => fun t Y => Agree (lim (t.val + 1)) Y (rowsAfter m t.val c)
  | _ => fun _ _ => True

variable (c : Dev nD)

theorem before_0 (t : Fin cfg0.N) (d) : (dats m 0 c).before 0 t d = xB m c t :=
  ((dats m 0 c).before_in_eq_fetched 0 rfl (fun _ => rfl) (fun _ _ _ => rfl) (fun _ => rfl) t d).trans rfl
theorem before_1 (t : Fin cfg0.N) (d) : (dats m 0 c).before 1 t d = gB m c t :=
  ((dats m 0 c).before_in_eq_fetched 1 rfl (fun _ => rfl) (fun _ _ _ => rfl) (fun _ => rfl) t d).trans rfl
theorem before_2 (t : Fin cfg0.N) (d) : (dats m 0 c).before 2 t d = uB m c t :=
  ((dats m 0 c).before_in_eq_fetched 2 rfl (fun _ => rfl) (fun _ _ _ => rfl) (fun _ => rfl) t d).trans rfl
theorem before_3 (t : Fin cfg0.N) (d) : (dats m 0 c).before 3 t d = dB m c t :=
  ((dats m 0 c).before_in_eq_fetched 3 rfl (fun _ => rfl) (fun _ _ _ => rfl) (fun _ => rfl) t d).trans rfl

theorem fetch_4 (t : Fin cfg0.N) : (cfg0.win 4).fetch t = false := rfl

/-- The rows as the body finds them. -/
theorem finds_4 (t : Fin cfg0.N) (Y : OutC F) (h : ((dats m 0 c).toRRel fgt (Rl m c)).Finds 4 t Y) : Agree (lim t.val) Y (G m t.val c) := by
  have ht : t.val < 32 := cfg0_N ▸ t.isLt
  by_cases h0 : t.val = 0
  · intro i hi
    exact absurd hi (by rw [h0]; exact Nat.not_lt_zero _)
  · rcases (Pipeline.RDat.finds_of_pos _ (fetch_4 t) h0 Y).mp h with hf | hl
    · have := (flush0_4 _).mp hf
      dsimp only at this
      omega
    · have hR := (dats m 0 c).toRRel_leaves (fgt := fgt) (Rl := Rl m c) rfl hl
      have hR' : Agree (lim (t.val - 1 + 1)) Y (rowsAfter m (t.val - 1) c) := hR
      rw [show t.val - 1 + 1 = t.val by omega] at hR'
      unfold rowsAfter at hR'
      rw [if_neg (by omega), show t.val - 1 + 1 = t.val by omega] at hR'
      exact hR'

/-! ## The body -/

theorem slot_4 (t : Fin cfg0.N) : (cfg0.win 4).stage (cfg0.slots t 4) = outM := by
  show stage0_4 (cfg0.slots t 4 : Fin 1) = outM
  rw [Subsingleton.elim (cfg0.slots t 4 : Fin 1) 0]

theorem body_at (t : Fin cfg0.N) : ∃ (r0 : Dev nD → BitVec 32) (r1 : Dev nD → BitVec 32 → (_ : BitVec 32) ×' BitVec 32)
    (r2 : Dev nD → ((_ : BitVec 32) ×' BitVec 32) → (_ : BitVec 1) ×' BitVec 1) (r3 : Dev nD → ((_ : BitVec 1) ×' BitVec 1) → BitVec 32),
    bodyAt0 (F := F) t = (Prog.lift .deviceId >>= fun c => group0 (grid0.coords t) (st0_0 t) (st0_1 t) (st0_2 t) (st0_3 t) c (r0 c) >>= fun w0 =>
      group1 (grid0.coords t) c (r1 c w0) >>= fun w1 => group2 (grid0.coords t) c (r2 c w1) >>= fun w2 => group3 (grid0.coords t) c (r3 c w2) >>= fun _ =>
      group4 (grid0.coords t) c) := by
  obtain ⟨r0, r1, r2, r3, h⟩ := body_eq (F := F) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
  refine ⟨r0, r1, r2, r3, Eq.trans ?_ h⟩
  have e : ∀ (M : Memref sig .tc .vmem S2048x2048 .f32) (hM : M.IsWhole), M = outM →
      cc0__fused_body (F := F) (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) M hM
        (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) cc0_scratch6 cc0_scratch7 cc0_scratch8 cc0_scratch9 cc0_scratch10 cc0_scratch11
      = cc0__fused_body (F := F) (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) outM (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) cc0_scratch6 cc0_scratch7 cc0_scratch8 cc0_scratch9 cc0_scratch10 cc0_scratch11 := by
    rintro M hM rfl; rfl
  exact e _ _ (slot_4 t)

/-- The barrier's part of a point. -/
theorem meets_barQ (t : Fin cfg0.N) (Q : PUnit → sProp 𝕄) :
    iprop(recs (msgs m) K ∗ levAts L lv ∗ phase c t.val ∗ debt c (owedAt c t.val)
        ∗ ((semVal (barCell c) 0 ∗ held' c (ph t.val) ∗ debt c (owedV c (od t.val))) -∗ Q ⟨⟩)) ⊢ Meets c (barQ t c) Q := by
  unfold phase owedAt barQ
  by_cases h : t.val = 0
  · rw [if_pos h, if_pos h, dif_pos h, h, show ph 0 = some (false, 0) from rfl, show od 0 = 0 from rfl, held_A]
    iintro ⟨#HR, #Hlev, ⟨HB, HI⟩, HO, HQ⟩
    iapply (meets_bar (msgs m) K _ c _)
    isplitr; · iexact HR
    isplitr; · iexact Hlev
    isplitl [HB]; · iexact HB
    isplitl [HI]; · iexact HI
    isplitl [HO]; · iexact HO
    iexact HQ
  · rw [if_neg h, if_neg h, dif_neg h, Prog.pure_eq_ret, Meets, wp_ret]
    iintro ⟨#HR, #Hlev, ⟨HB, HI⟩, HO, HQ⟩
    imodintro
    iapply HQ
    isplitl [HB]; · iexact HB
    isplitl [HI]; · iexact HI
    iexact HO

/-- A whole point. -/
theorem meets_point (t : Fin cfg0.N) (f : OutC F) (hf : Agree (lim t.val) f (G m t.val c)) (Q : PUnit → sProp 𝕄) :
    iprop((∃ K, recs (msgs m) K ∗ levAts L lv ∗ phase c t.val) ∗ debt c (owedAt c t.val)
        ∗ owns (c : Thread nD τ) (st0_0 t) fullShare (xB m c t) ∗ owns (c : Thread nD τ) (st0_1 t) fullShare (gB m c t) ∗ owns (c : Thread nD τ) (st0_2 t) fullShare (uB m c t)
        ∗ owns (c : Thread nD τ) (st0_3 t) fullShare (dB m c t) ∗ outPts c f
        ∗ (((∃ K, recs (msgs m) K ∗ levAts L lv ∗ phase c (t.val + 1)) ∗ debt c (owedAt c (t.val + 1))
          ∗ owns (c : Thread nD τ) (st0_0 t) fullShare (xB m c t) ∗ owns (c : Thread nD τ) (st0_1 t) fullShare (gB m c t) ∗ owns (c : Thread nD τ) (st0_2 t) fullShare (uB m c t)
          ∗ owns (c : Thread nD τ) (st0_3 t) fullShare (dB m c t) ∗ ∃ f', ⌜Agree (lim (t.val + 1)) f' (rowsAfter m t.val c)⌝ ∗ outPts c f') -∗ Q ⟨⟩))
      ⊢ Meets c (bodyAt0 t) Q := by
  obtain ⟨r0, r1, r2, r3, e⟩ := body_at (F := F) t
  rw [e, Meets, Prog.lift, Prog.bind_op, wp_deviceId]
  simp only [Prog.bind_ret]
  rw [body_split t]
  simp only [wp_bind]
  iintro ⟨⟨%K, #HR, #Hlev, HP⟩, HO, H0, H1, H2, H3, Hout, HQ⟩
  iapply (meets_barQ m K c t)
  isplitr; · iexact HR
  isplitr; · iexact Hlev
  isplitl [HP]; · iexact HP
  isplitl [HO]; · iexact HO
  iintro ⟨HB, HH, HO⟩
  iapply (meets_prod m t c (st0_0 t) (st0_1 t) (st0_2 t) (st0_3 t) f)
  isplitl [H0]; · iexact H0
  isplitl [H1]; · iexact H1
  isplitl [H2]; · iexact H2
  isplitl [H3]; · iexact H3
  isplitl [Hout]; · iexact Hout
  iintro ⟨H0, H1, H2, H3, Hout⟩
  iapply (meets_round m K t c _ (agree_comp m c t hf))
  isplitr; · iexact HR
  isplitr; · iexact Hlev
  isplitl [HH]; · iexact HH
  isplitl [Hout]; · iexact Hout
  isplitl [HO]; · iexact HO
  iintro ⟨%f', %hf', Hout, HH, HO⟩
  iapply HQ
  unfold phase owedAt
  rw [if_neg (Nat.succ_ne_zero _), if_neg (Nat.succ_ne_zero _)]
  isplitl [HB HH]
  · iexists K
    isplitr; · iexact HR
    isplitr; · iexact Hlev
    isplitl [HB]; · iexact HB
    iexact HH
  isplitl [HO]; · iexact HO
  isplitl [H0]; · iexact H0
  isplitl [H1]; · iexact H1
  isplitl [H2]; · iexact H2
  isplitl [H3]; · iexact H3
  iexists f'
  isplitr; · ipureintro; exact hf'
  iexact Hout

omit [FloatOps F] in
theorem owns_out (c : Dev nD) (f : OutC F) :
    (owns (Ix := Unit) (Name := ℕ) (U := UU) (Lvl := ℕ) (c : Thread nD τ) outM fullShare f : sProp 𝕄) = outPts c f := owns_whole (c : Thread nD τ) _ fullShare f

theorem body_obligation : Pipeline.BodyObligationRel (dats m 0 c) (defs₀ (F := F)) 𝒱₀ () Set.univ fgt (Rl m c) := fun t => by
  rw [bigSep_W0, bigSep_W0]
  show iprop((∃ K, recs (msgs m) K ∗ levAts L lv ∗ phase c t.val) ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ Y, ⌜((dats m 0 c).toRRel fgt (Rl m c)).Finds 4 t Y⌝ ∗ owns (c : Thread nD τ) (st0_4 t) fullShare Y))
    ⊢ Meets c (bodyAt0 t) fun _ => iprop((∃ K, recs (msgs m) K ∗ levAts L lv ∗ phase c (t.val + 1)) ∗ (dats m 0 c).owesAt () t.succ
      ∗ owns (c : Thread nD τ) (st0_0 t) fullShare (xB m c t) ∗ owns (c : Thread nD τ) (st0_1 t) fullShare (gB m c t) ∗ owns (c : Thread nD τ) (st0_2 t) fullShare (uB m c t)
      ∗ owns (c : Thread nD τ) (st0_3 t) fullShare (dB m c t) ∗ ∃ X, ⌜Agree (lim (t.val + 1)) X (rowsAfter m t.val c)⌝ ∗ owns (c : Thread nD τ) (st0_4 t) fullShare X)
  simp only [before_0, before_1, before_2, before_3]
  rw [show st0_4 t = outM from slot_4 t]
  simp only [owns_out]
  iintro ⟨HP, HO, ⟨%_, H0⟩, ⟨%_, H1⟩, ⟨%_, H2⟩, ⟨%_, H3⟩, ⟨%f, %hf, Hout⟩⟩
  iapply (meets_point m c t f (finds_4 m c t f hf))
  isplitl [HP]; · iexact HP
  isplitl [HO]
  · unfold Dat.owesAt Pipeline.owesWithin
    icases HO with ⟨%W, %hW, HO⟩
    unfold debt
    iexists W
    iexact HO
  isplitl [H0]; · iexact H0
  isplitl [H1]; · iexact H1
  isplitl [H2]; · iexact H2
  isplitl [H3]; · iexact H3
  isplitl [Hout]; · iexact Hout
  iintro ⟨HP, HO, H0, H1, H2, H3, Hout⟩
  isplitl [HP]; · iexact HP
  isplitl [HO]
  · unfold debt Dat.owesAt Pipeline.owesWithin
    icases HO with ⟨%W, HO⟩
    iexists W
    isplitr; · ipureintro; exact fun _ _ => Or.inl trivial
    iexact HO
  isplitl [H0]; · iexact H0
  isplitl [H1]; · iexact H1
  isplitl [H2]; · iexact H2
  isplitl [H3]; · iexact H3
  iexact Hout

end Cert.CubeProof

end
-- ==== Proof.Deal.lean ====
module

public import proofs.«01_k».proof.Proof.Obligation

/-! # What the launch deals the devices -/

@[expose] public section

noncomputable section

namespace Cert.CubeProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over the cells of a device -/

section Sums
omit [FloatOps F]

theorem bigSep_exch (Φ : Bool × Fin 3 × Fin 24 → sProp 𝕄) :
    bigSep Finset.univ Φ = iprop((bigSep Finset.univ fun p => bigSep Finset.univ fun k => Φ (true, p, k)) ∗ bigSep Finset.univ fun p => bigSep Finset.univ fun k => Φ (false, p, k)) := by
  rw [bigSep_univ_prod, bigSep_univ_eq_bigSepL [true, false] (by decide) (by decide)]
  exact congrArg₂ (fun P Q : sProp 𝕄 => iprop(P ∗ Q)) (bigSep_univ_prod _) (bigSep_univ_prod _)

theorem bigSep_cells (Φ : CI → sProp 𝕄) : bigSep Finset.univ Φ = iprop(Φ none ∗ bigSep Finset.univ fun x => Φ (some x)) := by
  rw [bigSep_univ_equiv ((Equiv.optionEquivSumPUnit.{0} (Bool × Fin 3 × Fin 24)).trans (Equiv.sumComm _ _)).symm Φ, bigSep_univ_sum, bigSep_univ_of_subsingleton PUnit.unit]
  rfl

/-- What is indexed by devices may be dealt out again along permutations of the devices. -/
theorem deal_along {T : Type} [Fintype T] (e : T → Equiv.Perm (Dev nD)) (Φ : Dev nD → T → sProp 𝕄) :
    (bigSep Finset.univ fun c => bigSep Finset.univ fun t => Φ c t) = bigSep Finset.univ fun c => bigSep Finset.univ fun t => Φ (e t c) t := by
  let E : Dev nD × T ≃ Dev nD × T := ⟨fun x => (e x.2 x.1, x.2), fun x => ((e x.2).symm x.1, x.2), fun x => by simp, fun x => by simp⟩
  rw [← bigSep_univ_prod fun x : Dev nD × T => Φ x.1 x.2, ← bigSep_univ_prod fun x : Dev nD × T => Φ (e x.2 x.1) x.2]
  exact bigSep_univ_equiv E fun x => Φ x.1 x.2

end Sums

/-! ## The tokens -/

theorem kcell_inj : Function.Injective (kcell : Dev nD × CI → GSem nD τ sig) := by
  rintro ⟨c, k⟩ ⟨c', k'⟩ h
  have h1 : c = c' := by have := congrArg (fun g : GSem nD τ sig => g.1.1) h; exact this
  have h2 : k = k' := csem_inj (congrArg Prod.snd h)
  rw [h1, h2]
def cellSet : Finset (GSem nD τ sig) := Finset.univ.map ⟨kcell, kcell_inj⟩

/-- The duties of a device's own cells: three at the barrier's, one at each other. -/
abbrev TI : Type := Fin 3 ⊕ (Bool × Fin 3 × Fin 24)
def tokCell : TI → CI | .inl _ => none | .inr x => some x
def tokDuty : TI → Fin 3 | .inl a => a | .inr _ => 0
theorem tok_inj {s t : TI} (h : tokCell s = tokCell t) (h' : tokDuty s = tokDuty t) : s = t := by
  rcases s with a | x <;> rcases t with b | y
  · exact congrArg Sum.inl h'
  · exact absurd h (by simp [tokCell])
  · exact absurd h (by simp [tokCell])
  · exact congrArg Sum.inr (Option.some.inj h)
abbrev tokOf (ct : Dev nD × TI) : GSem nD τ sig × ℕ × Fin 3 := (kcell (ct.1, tokCell ct.2), 0, tokDuty ct.2)
theorem tokOf_inj : Function.Injective tokOf := by
  rintro ⟨c, s⟩ ⟨c', t⟩ h
  have h1 := kcell_inj (congrArg Prod.fst h)
  have h2 : tokDuty s = tokDuty t := congrArg (fun x => x.2.2) h
  have e1 : c = c' := congrArg Prod.fst h1
  have e2 : s = t := tok_inj (congrArg Prod.snd h1) h2
  rw [e1, e2]
def tokSet : Finset (GSem nD τ sig × ℕ × Fin 3) := Finset.univ.map ⟨tokOf, tokOf_inj⟩

def u₀ : UU := (initOf (Pipeline.cells cfgs cellOf_inj) (Pipeline.launchToks cfgs cellOf_inj), initOf cellSet tokSet)

/-- Who pays the duty: the barrier's a neighbour, a send cell's the device, a receive cell's its mate of the round. -/
def payer : TI → Dev nD → Dev nD
  | .inl a => par a | .inr (true, _, _) => id | .inr (false, p, k) => mate p k
theorem payer_payer : ∀ t, Function.Involutive (payer t)
  | .inl a => par_par a | .inr (true, _, _) => fun _ => rfl | .inr (false, p, k) => par_par _
def payerPerm (t : TI) : Equiv.Perm (Dev nD) := (payer_payer t).toPerm

variable (X : Msgs F)

/-- The tokens of `c`'s own cells, and those of the duties `c` pays. -/
def tokens (c : Dev nD) : sProp 𝕄 := bigSep Finset.univ fun t : TI => dutyTok (ER (F := F)) (kcell (c, tokCell t)) 0 (tokDuty t)
def payToks (c : Dev nD) : sProp 𝕄 := bigSep Finset.univ fun t : TI => dutyTok (ER (F := F)) (kcell (payer t c, tokCell t)) 0 (tokDuty t)
def places (c : Dev nD) : sProp 𝕄 := bigSep Finset.univ fun x : CI => atPos (ER (F := F)) (kcell (c, x)) 0 ∅ 0

theorem tokens_around : (bigSep Finset.univ fun c : Dev nD => tokens (F := F) c) = bigSep Finset.univ fun c : Dev nD => payToks (F := F) c :=
  deal_along payerPerm fun c t => dutyTok (ER (F := F)) (kcell (c, tokCell t)) 0 (tokDuty t)

/-- What a device is dealt. -/
def dealt (c : Dev nD) : sProp 𝕄 :=
  iprop((bigSep Finset.univ fun x : CI => roundState ER (Rd X) (kcell (c, x)) 0)
    ∗ (places (F := F) c ∗ bigSep Finset.univ fun x : CI => reached (ER (F := F)) (kcell (c, x)) 0) ∗ tokens (F := F) c)
/-- What becomes of it. -/
def ready (c : Dev nD) : sProp 𝕄 := iprop(∃ K, recs X K ∗ places (F := F) c ∗ payToks (F := F) c)

theorem fund : BI.own (ER (F := F) (initOf cellSet tokSet)) ⊢ (|==> bigSep Finset.univ (dealt X) : sProp 𝕄) := by
  have hX (Φ : GSem nD τ sig → sProp 𝕄) : bigSep cellSet Φ = bigSep Finset.univ fun c : Dev nD => bigSep Finset.univ fun x : CI => Φ (kcell (c, x)) := by
    unfold cellSet; rw [bigSep_map, bigSep_univ_prod]; rfl
  have hT : bigSep tokSet (fun y => (dutyTok (ER (F := F)) y.1 y.2.1 y.2.2 : sProp 𝕄)) = bigSep Finset.univ fun c : Dev nD => tokens (F := F) c := by
    unfold tokSet; rw [bigSep_map, bigSep_univ_prod]; rfl
  iintro HX
  imod (Rounds.fund ER (Rd X) cellSet tokSet) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt places
  simp only [bigSep_sep']
  isplitl [Hst']; · iexact Hst'
  isplitl [Hat' Hr']
  · isplitl [Hat'] <;> iassumption
  iexact Htok'

/-! ## The semaphores -/

/-- The exchanges' semaphores are the kernel's own. -/
abbrev osem : Bool × Fin 3 × Fin 24 → SemLoc sig := fun x => csem (some x)
theorem ownSemFacts : Pipeline.OwnSemFacts cfg0.spec osem :=
  ⟨by decide +kernel, fun a b h => Option.some.inj (csem_inj h), by decide +kernel⟩

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CI => semVal (kcell (c, x)) 0 : sProp 𝕄) := by
  rw [unscopedSems0_eq, bigSep_cells]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun x : CI => iprop(∃ κ : ℕ, cellInv ER (Rd X) κ (kcell (c, x))))
          ∗ (bigSep Finset.univ fun x : CI => reached (ER (F := F)) (kcell (c, x)) 0) ∗ places (F := F) c ∗ tokens (F := F) c) := by
  unfold dealt
  iintro ⟨Hos, Hus, Hst, ⟨Hat, Hr⟩, Htok⟩
  ihave Hv := (sems0_eq (F := F) c) $$ [Hos Hus]
  · isplitl [Hos] <;> iassumption
  imod (show iprop((bigSep Finset.univ fun x : CI => semVal (kcell (c, x)) 0) ∗ bigSep Finset.univ fun x : CI => roundState ER (Rd X) (kcell (c, x)) 0)
      ⊢ (|={Set.univ}=> bigSep Finset.univ fun x => iprop(∃ κ : ℕ, cellInv ER (Rd X) κ (kcell (c, x))) : sProp 𝕄) from by
        rw [← bigSep_sep']
        exact (bigSep_mono fun x _ => (Rounds.body_intro ER (Rd X) (kcell (c, x))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem ready_intro (K : Dev nD × CI → ℕ) (c : Dev nD) : iprop(recs X K ∗ places (F := F) c ∗ payToks (F := F) c) ⊢ ready X c := by
  unfold ready
  iintro H
  iexists K
  iexact H

theorem regroup :
    (bigSep Finset.univ fun c : Dev nD => iprop((bigSep Finset.univ fun x : CI => iprop(∃ κ : ℕ, cellInv ER (Rd X) κ (kcell (c, x))))
          ∗ (bigSep Finset.univ fun x : CI => reached (ER (F := F)) (kcell (c, x)) 0) ∗ places (F := F) c ∗ tokens (F := F) c) : sProp 𝕄)
      ⊢ bigSep Finset.univ (ready X) := by
  rw [bigSep_sep', bigSep_sep', bigSep_sep', tokens_around, ← bigSep_univ_prod (fun ck : Dev nD × CI => iprop(∃ κ : ℕ, cellInv ER (Rd X) κ (kcell ck))),
    ← bigSep_univ_prod (fun ck : Dev nD × CI => (reached (ER (F := F)) (kcell ck) 0 : sProp 𝕄))]
  iintro ⟨HI, #HR, Hat, Htok⟩
  ihave HK := (BI.bigSep_exists_pi Finset.univ (fun (ck : Dev nD × CI) (κ : ℕ) => (cellInv ER (Rd X) κ (kcell ck) : sProp 𝕄))) $$ HI
  icases HK with ⟨%K, #HI⟩
  ihave #HR' := (Entails.of_eq (bigSep_sep' Finset.univ (fun ck : Dev nD × CI => (cellInv ER (Rd X) (K ck) (kcell ck) : sProp 𝕄)) (fun ck => reached (ER (F := F)) (kcell ck) 0)).symm) $$ [HI HR]
  · isplitr; · iexact HI
    iexact HR
  ihave H := (Entails.of_eq (bigSep_sep' Finset.univ (fun c : Dev nD => places (F := F) c) payToks).symm) $$ [Hat Htok]
  · isplitl [Hat] <;> iassumption
  iapply ((sep_mono_left (BI.bigSep_of_persistent Finset.univ (recs X K))).trans
    ((Entails.of_eq (bigSep_sep' Finset.univ (fun _ : Dev nD => recs X K) (fun c => iprop(places (F := F) c ∗ payToks c))).symm).trans
      (bigSep_mono fun c _ => ready_intro X K c)))
  isplitr
  · unfold recs; iexact HR'
  iexact H

theorem glob : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (ready X) :=
  ((bigSep_mono fun c _ => core_alloc X c).trans (bigSep_fupd _ _)).trans (BI.fupd_mono (regroup X))

/-! ## The credit -/

theorem cell_tally (e c : Dev nD) (y x : CI) (n : ℕ) : (tallyAt (kcell (e, y)) () n : CellTallies nD τ sig Unit) (kcell (c, x)) () = if c = e ∧ x = y then n else 0 := by
  rw [tallyAt_apply]
  by_cases h : c = e ∧ x = y
  · rw [if_pos h, h.1, h.2, if_pos ⟨rfl, rfl⟩]
  · rw [if_neg h, if_neg fun h' => h ⟨congrArg Prod.fst (kcell_inj h'.1), congrArg Prod.snd (kcell_inj h'.1)⟩]

theorem owedP_at (d c : Dev nD) (q : Fin 3) (x : CI) :
    owedP d q 0 (kcell (c, x)) () = ∑ k : Fin 24, if c = mate q k d ∧ x = some (false, q, k) then nB q k else 0 := by
  unfold owedP
  rw [geS_zero, Finset.sum_apply, Finsupp.finset_sum_apply]
  exact Finset.sum_congr rfl fun k _ => cell_tally _ _ (some (false, q, k)) _ _

theorem owedBar_at (d c : Dev nD) (x : CI) :
    owedBar d (kcell (c, x)) () = ∑ a : Fin 3, if c = par a d ∧ x = none then 1 else 0 := by
  unfold owedBar
  rw [Pi.add_apply, Finsupp.add_apply, Pi.add_apply, Finsupp.add_apply, Fin.sum_univ_three]
  exact congrArg₂ _ (congrArg₂ _ (cell_tally _ _ none _ _) (cell_tally _ _ none _ _)) (cell_tally _ _ none _ _)

theorem owed_at (d c : Dev nD) (x : CI) : owedAt d 0 (kcell (c, x)) ()
    = (∑ q : Fin 3, ∑ k : Fin 24, if c = mate q k d ∧ x = some (false, q, k) then nB q k else 0) + ∑ a : Fin 3, if c = par a d ∧ x = none then 1 else 0 := by
  unfold owedAt owedV
  rw [if_pos rfl, Pi.add_apply, Finsupp.add_apply, Pi.add_apply, Finsupp.add_apply, Pi.add_apply, Finsupp.add_apply, owedBar_at, Fin.sum_univ_three, Fin.sum_univ_three,
    owedP_at, owedP_at, owedP_at]

theorem credit_bar (c : Dev nD) : ∑ d : Dev nD, owedAt d 0 (kcell (c, none)) () = 3 := by
  have h : ∀ c : Dev nD, ∑ d : Dev nD, ∑ a : Fin 3, (if c = par a d then 1 else 0) = 3 := by decide +kernel
  refine (Finset.sum_congr rfl fun d _ => ?_).trans (h c)
  have h0 : (∑ q : Fin 3, ∑ k : Fin 24, if c = mate q k d ∧ (none : CI) = some (false, q, k) then nB q k else 0) = 0 :=
    Finset.sum_eq_zero fun q _ => Finset.sum_eq_zero fun k _ => if_neg fun h => by cases h.2
  rw [owed_at, h0, Nat.zero_add]
  exact Finset.sum_congr rfl fun a _ => if_congr (and_iff_left rfl) rfl rfl

theorem owed_recv (d c : Dev nD) (p : Fin 3) (k : Fin 24) : owedAt d 0 (kcell (c, some (false, p, k))) () = if d = mate p k c then nB p k else 0 := by
  have h0 : (∑ a : Fin 3, if c = par a d ∧ (some (false, p, k) : CI) = none then 1 else 0) = 0 :=
    Finset.sum_eq_zero fun a _ => if_neg fun h => by cases h.2
  have h1 : ∀ (q : Fin 3) (k' : Fin 24), (some (false, p, k) : CI) = some (false, q, k') → p = q ∧ k = k' := fun q k' h => by
    simp only [Option.some.injEq, Prod.mk.injEq] at h; exact h.2
  rw [owed_at, h0, Nat.add_zero, Finset.sum_eq_single_of_mem p (Finset.mem_univ _) fun q _ hq => Finset.sum_eq_zero fun k' _ => if_neg fun h => hq (h1 q k' h.2).1.symm,
    Finset.sum_eq_single_of_mem k (Finset.mem_univ _) fun k' _ hk => if_neg fun h => hk (h1 p k' h.2).2.symm]
  refine if_congr ⟨fun h => ?_, fun h => ⟨?_, rfl⟩⟩ rfl rfl
  · rw [h.1]; exact (par_par _ _).symm
  · rw [h]; exact (par_par _ _).symm

theorem credit_recv (c : Dev nD) (p : Fin 3) (k : Fin 24) : ∑ d : Dev nD, owedAt d 0 (kcell (c, some (false, p, k))) () = nB p k := by
  rw [Finset.sum_congr rfl fun d _ => owed_recv d c p k, Finset.sum_ite_eq' Finset.univ (mate p k c) fun _ => nB p k, if_pos (Finset.mem_univ _)]

theorem launch_at (c : Dev nD) (x : CI) (n : ℕ) (h : ∑ d : Dev nD, owedAt d 0 (kcell (c, x)) () = n) :
    tallyOn (kcell (c, x)) (launchCredit (Pipeline.owing fun d : Dev nD => owedAt d 0) 0 (kcell (c, x))) = (tallyAt (kcell (c, x)) () n : CellTallies nD τ sig Unit) := by
  unfold tallyAt; refine congrArg _ (Finsupp.ext fun u => ?_); cases u
  rw [Pipeline.launchCredit_owing, Finsupp.single_eq_same, h]

omit [FloatOps F] in
theorem creds (c : Dev nD) :
    (Pipeline.launchCred (fun d : Dev nD => owedAt d 0) c : sProp 𝕄)
      ⊢ iprop(cred (tallyAt (barCell c) () 3) ∗ bigSep Finset.univ fun p : Fin 3 => bigSep Finset.univ fun k : Fin 24 => cred (tallyAt (rCell c p k) () (nB p k))) := by
  unfold Pipeline.launchCred
  refine (bigSep_subset (Finset.subset_univ (Finset.univ.map ⟨csem, csem_inj⟩))).trans ?_
  rw [bigSep_map, bigSep_cells, bigSep_exch]
  refine BIClass.sep_mono (Entails.of_eq (congrArg cred (launch_at c none _ (credit_bar c)))) ?_
  refine BIBase.Entails.trans ?_ (bigSep_mono fun p _ => bigSep_mono fun k _ => Entails.of_eq (congrArg cred (launch_at c (some (false, p, k)) _ (credit_recv c p k))))
  iintro ⟨-, H⟩
  iexact H

end Cert.CubeProof

end
-- ==== Proof.Launch.lean ====
module

public import proofs.«01_k».proof.Proof.Deal
public import Idealize.ShloMosaic.Lib.Ring
public import Idealize.ShloMosaic.Lib.Pipeline.CollectiveSegs
public import Idealize.ShloMosaic.Lib.Pipeline.ArrRel
public import Idealize.ShloMosaic.Lib.Pipeline.ValueKit.Geometry

/-! # The run of the whole program -/

@[expose] public section

noncomputable section

namespace Cert.CubeProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ UU ℕ

/-! ## The buffers, whole and in pieces -/

theorem row_region : ∀ r : Fin 896, ∃ j : Fin 6, roffN j.val ≤ r.val ∧ r.val < roffN j.val + szN j.val := by decide +kernel
theorem regions_apart : ∀ j j' : Fin 6, j ≠ j' → roffN j.val + szN j.val ≤ roffN j'.val ∨ roffN j'.val + szN j'.val ≤ roffN j.val := by decide

theorem mem_regR (p : Fin 3) (j : ℕ) (i : (rbS p).Idx) : i ∈ (regR p j).set ↔ roffN j ≤ (i 0).val ∧ (i 0).val < roffN j + szN j := by
  rw [Rect.mem_set_unit]
  refine ⟨fun h => h 0, fun h a => ?_⟩
  fin_cases a
  · exact h
  · exact ⟨Nat.zero_le _, (Nat.zero_add (colw p)).symm ▸ (i 1).isLt⟩
theorem mem_slotR (p : Fin 3) (b : ℕ) (i : (sbS p).Idx) : i ∈ (slotR p b).set ↔ (i 0).val = b % 2 := by
  rw [Rect.mem_set_unit]
  refine ⟨fun h => ?_, fun h a => ?_⟩
  · have h0 : b % 2 ≤ (i 0).val ∧ (i 0).val < b % 2 + 1 := h 0
    omega
  · fin_cases a
    · exact ⟨h.ge, h.le.trans_lt (Nat.lt_succ_self _)⟩
    · exact ⟨Nat.zero_le _, (Nat.zero_add 256).symm ▸ (i 1).isLt⟩
    · exact ⟨Nat.zero_le _, (Nat.zero_add (colw p)).symm ▸ (i 2).isLt⟩

theorem regSet_apart (p : Fin 3) (j j' : Fin 6) (h : j ≠ j') : Disjoint (regSet p j.val) (regSet p j'.val) := by
  unfold regSet Memref.access
  rw [View.set_slice, View.set_slice]
  refine (Finset.disjoint_map _).mpr (Finset.disjoint_left.mpr fun i hi hi' => ?_)
  have h1 := (mem_regR p j.val i).mp hi
  have h2 := (mem_regR p j'.val i).mp hi'
  have := regions_apart j j' h
  omega
theorem regSet_cover (p : Fin 3) (x : (rbM p).view.ty.Idx) : ∃ j : Fin 6, x ∈ regSet p j.val := by
  have hx : x ∈ (rbM p).view.set := (rbM_whole p).set_eq_univ ▸ Finset.mem_univ x
  obtain ⟨i, -, rfl⟩ := Finset.mem_map.mp hx
  obtain ⟨j, hj⟩ := row_region ⟨(i 0).val, (i 0).isLt⟩
  refine ⟨j, ?_⟩
  unfold regSet Memref.access
  rw [View.set_slice]
  exact Finset.mem_map_of_mem _ ((mem_regR p j.val i).mpr hj)
theorem slotSet_apart (p : Fin 3) (b b' : Fin 2) (h : b ≠ b') : Disjoint (slotSet p b.val) (slotSet p b'.val) := by
  unfold slotSet Memref.access
  rw [View.set_slice, View.set_slice]
  refine (Finset.disjoint_map _).mpr (Finset.disjoint_left.mpr fun i hi hi' => h (Fin.ext ?_))
  have h1 := (mem_slotR p b.val i).mp hi
  have h2 := (mem_slotR p b'.val i).mp hi'
  omega
theorem slotSet_cover (p : Fin 3) (x : (sbM p).view.ty.Idx) : ∃ b : Fin 2, x ∈ slotSet p b.val := by
  have hx : x ∈ (sbM p).view.set := (sbM_whole p).set_eq_univ ▸ Finset.mem_univ x
  obtain ⟨i, -, rfl⟩ := Finset.mem_map.mp hx
  have hi : (i 0).val < 2 := (i 0).isLt
  refine ⟨⟨(i 0).val, hi⟩, ?_⟩
  unfold slotSet Memref.access
  rw [View.set_slice]
  exact Finset.mem_map_of_mem _ ((mem_slotR p (i 0).val i).mpr (Nat.mod_eq_of_lt hi).symm)

section Buffers
omit [FloatOps F]

/-- Pieces that cover a buffer and do not meet. -/
theorem cover_univ {ℓ : Loc nD τ sig} {n : ℕ} (I : Fin n → Finset (Idx ℓ)) (h : ∀ x : Idx ℓ, ∃ j, x ∈ I j) : Finset.univ.biUnion I = Finset.univ :=
  Finset.eq_univ_of_forall fun x => let ⟨j, hj⟩ := h x; Finset.mem_biUnion.mpr ⟨j, Finset.mem_univ _, hj⟩

/-- A part's send buffer and landing buffer, whole. -/
def sbAll (c : Dev nD) (p : Fin 3) : sProp 𝕄 := iprop(∃ f : Buf (Elt F) ((sbM p).view.loc (c : Thread nD τ)), (sbM p).view.loc (c : Thread nD τ) ↦{fullShare} f)
def rbAll (c : Dev nD) (p : Fin 3) : sProp 𝕄 := iprop(∃ f : Buf (Elt F) ((rbM p).view.loc (c : Thread nD τ)), (rbM p).view.loc (c : Thread nD τ) ↦{fullShare} f)
/-- In pieces. -/
def sbPieces (c : Dev nD) (p : Fin 3) : sProp 𝕄 := iprop(freeSlot (F := F) c p 0 ∗ freeSlot (F := F) c p 1)
def rbPieces (c : Dev nD) (p : Fin 3) : sProp 𝕄 := bigSep Finset.univ fun j : Fin 6 => reg (F := F) c p j.val

theorem sbPieces_eq (c : Dev nD) (p : Fin 3) : sbPieces (F := F) c p = bigSep Finset.univ fun b : Fin 2 => freeSlot (F := F) c p b.val := by
  rw [bigSep_univ_eq_bigSepL [0, 1] (by decide) (by decide)]; rfl

theorem rb_split (c : Dev nD) (p : Fin 3) : rbAll (F := F) c p ⊢ rbPieces c p := by
  unfold rbAll
  iintro ⟨%f, H⟩
  ihave H' := (Entails.of_eq (Ring.pointsTo_blocks (ℓ := (rbM p).view.loc (c : Thread nD τ)) (fun j : Fin 6 => regSet p j.val) (regSet_apart p) (cover_univ _ (regSet_cover p)) f)) $$ H
  have h (j : Fin 6) : ((rbM p).view.loc (c : Thread nD τ) ↦[regSet p j.val]{fullShare} f : sProp 𝕄) ⊢ reg (F := F) c p j.val := by
    unfold reg rbPts
    iintro H
    iexists f
    iexact H
  have hs : (bigSep Finset.univ fun j : Fin 6 => ((rbM p).view.loc (c : Thread nD τ) ↦[regSet p j.val]{fullShare} f : sProp 𝕄)) ⊢ rbPieces (F := F) c p := bigSep_mono fun j _ => h j
  iapply hs $$ H'
theorem rb_join (c : Dev nD) (p : Fin 3) (f₀ : Buf (Elt F) ((rbM p).view.loc (c : Thread nD τ))) : rbPieces (F := F) c p ⊢ rbAll c p :=
  Ring.pointsTo_blocks_join_exists (ℓ := (rbM p).view.loc (c : Thread nD τ)) (fun j : Fin 6 => regSet p j.val) (regSet_apart p) (cover_univ _ (regSet_cover p)) f₀
theorem sb_split (c : Dev nD) (p : Fin 3) : sbAll (F := F) c p ⊢ sbPieces c p := by
  rw [sbPieces_eq]
  unfold sbAll
  iintro ⟨%f, H⟩
  ihave H' := (Entails.of_eq (Ring.pointsTo_blocks (ℓ := (sbM p).view.loc (c : Thread nD τ)) (fun b : Fin 2 => slotSet p b.val) (slotSet_apart p) (cover_univ _ (slotSet_cover p)) f)) $$ H
  have h (b : Fin 2) : ((sbM p).view.loc (c : Thread nD τ) ↦[slotSet p b.val]{fullShare} f : sProp 𝕄) ⊢ freeSlot (F := F) c p b.val := by
    unfold freeSlot sbPts
    iintro H
    iexists f
    iexact H
  have hs : (bigSep Finset.univ fun b : Fin 2 => ((sbM p).view.loc (c : Thread nD τ) ↦[slotSet p b.val]{fullShare} f : sProp 𝕄)) ⊢ bigSep Finset.univ fun b : Fin 2 => freeSlot (F := F) c p b.val := bigSep_mono fun b _ => h b
  iapply hs $$ H'
theorem sb_join (c : Dev nD) (p : Fin 3) (f₀ : Buf (Elt F) ((sbM p).view.loc (c : Thread nD τ))) : sbPieces (F := F) c p ⊢ sbAll c p := by
  rw [sbPieces_eq]
  exact Ring.pointsTo_blocks_join_exists (ℓ := (sbM p).view.loc (c : Thread nD τ)) (fun b : Fin 2 => slotSet p b.val) (slotSet_apart p) (cover_univ _ (slotSet_cover p)) f₀

theorem rest_eq (c : Dev nD) : (Pipeline.scopedRest (Ix := Unit) (Name := ℕ) (U := UU) (Lvl := ℕ) (Val := Elt F) cfg0.spec c : sProp 𝕄)
    = iprop(sbAll c 0 ∗ rbAll c 0 ∗ sbAll c 1 ∗ rbAll c 1 ∗ sbAll c 2 ∗ rbAll c 2) := scopedRest0_eq c

theorem rest_split (c : Dev nD) : (Pipeline.scopedRest (Ix := Unit) (Name := ℕ) (U := UU) (Lvl := ℕ) (Val := Elt F) cfg0.spec c : sProp 𝕄)
    ⊢ iprop((bigSep Finset.univ fun p => sbPieces (F := F) c p) ∗ bigSep Finset.univ fun p => rbPieces (F := F) c p) := by
  rw [rest_eq, bigSep_three, bigSep_three]
  iintro ⟨S0, R0, S1, R1, S2, R2⟩
  isplitl [S0 S1 S2]
  · isplitl [S0]; · iapply (sb_split (F := F) c 0) $$ S0
    isplitl [S1]; · iapply (sb_split (F := F) c 1) $$ S1
    iapply (sb_split (F := F) c 2) $$ S2
  · isplitl [R0]; · iapply (rb_split (F := F) c 0) $$ R0
    isplitl [R1]; · iapply (rb_split (F := F) c 1) $$ R1
    iapply (rb_split (F := F) c 2) $$ R2

theorem rest_join (m : (ℓ : Loc nD τ sig) → Buf (Elt F) ℓ) (c : Dev nD) :
    iprop((bigSep Finset.univ fun p => sbPieces (F := F) c p) ∗ bigSep Finset.univ fun p => rbPieces (F := F) c p)
      ⊢ (Pipeline.scopedRest (Ix := Unit) (Name := ℕ) (U := UU) (Lvl := ℕ) (Val := Elt F) cfg0.spec c : sProp 𝕄) := by
  rw [rest_eq, bigSep_three, bigSep_three]
  iintro ⟨⟨S0, S1, S2⟩, R0, R1, R2⟩
  isplitl [S0]; · iapply (sb_join (F := F) c 0 (m _)) $$ S0
  isplitl [R0]; · iapply (rb_join (F := F) c 0 (m _)) $$ R0
  isplitl [S1]; · iapply (sb_join (F := F) c 1 (m _)) $$ S1
  isplitl [R1]; · iapply (rb_join (F := F) c 1 (m _)) $$ R1
  isplitl [S2]; · iapply (sb_join (F := F) c 2 (m _)) $$ S2
  iapply (rb_join (F := F) c 2 (m _)) $$ R2

/-! ## The parts' holdings, at the start and at the end -/

theorem places_eq (c : Dev nD) : places (F := F) c = iprop(atPos (ER (F := F)) (barCell c) 0 ∅ 0
    ∗ (bigSep Finset.univ fun p => bigSep Finset.univ fun k => atPos (ER (F := F)) (sCell c p k) 0 ∅ 0)
    ∗ bigSep Finset.univ fun p => bigSep Finset.univ fun k => atPos (ER (F := F)) (rCell c p k) 0 ∅ 0) := by
  unfold places; rw [bigSep_cells, bigSep_exch]; rfl
theorem payToks_eq (c : Dev nD) : payToks (F := F) c = iprop(
    (dutyTok (ER (F := F)) (barCell (par 0 c)) 0 0 ∗ dutyTok (ER (F := F)) (barCell (par 1 c)) 0 1 ∗ dutyTok (ER (F := F)) (barCell (par 2 c)) 0 2)
    ∗ (bigSep Finset.univ fun p => bigSep Finset.univ fun k => dutyTok (ER (F := F)) (sCell c p k) 0 0)
    ∗ bigSep Finset.univ fun p => bigSep Finset.univ fun k => dutyTok (ER (F := F)) (rCell (mate p k c) p k) 0 0) := by
  unfold payToks; rw [bigSep_univ_sum, bigSep_exch, bigSep_three]; rfl

theorem allI_eq (c : Dev nD) : AllI (F := F) c = iprop(
    (((bigSep Finset.univ fun p => bigSep Finset.univ fun k => dutyTok (ER (F := F)) (sCell c p k) 0 0)
      ∗ (bigSep Finset.univ fun p => bigSep Finset.univ fun k => dutyTok (ER (F := F)) (rCell (mate p k c) p k) 0 0)
      ∗ bigSep Finset.univ fun p => bigSep Finset.univ fun k => atPos (ER (F := F)) (sCell c p k) 0 ∅ 0)
      ∗ bigSep Finset.univ fun p => sbPieces (F := F) c p)
    ∗ ((bigSep Finset.univ fun p => bigSep Finset.univ fun k => atPos (ER (F := F)) (rCell c p k) 0 ∅ 0)
      ∗ bigSep Finset.univ fun p => bigSep Finset.univ fun k => cred (tallyAt (rCell c p k) () (nB p k)))
    ∗ bigSep Finset.univ fun p => rbPieces (F := F) c p) := by
  have h : ∀ p, PartI (F := F) c p = iprop(
      ((bigSep Finset.univ fun k => iprop(dutyTok (ER (F := F)) (sCell c p k) 0 0 ∗ dutyTok ER (rCell (mate p k c) p k) 0 0 ∗ atPos ER (sCell c p k) 0 ∅ 0)) ∗ sbPieces c p)
        ∗ (bigSep Finset.univ fun k => iprop(atPos (ER (F := F)) (rCell c p k) 0 ∅ 0 ∗ cred (tallyAt (rCell c p k) () (nB p k)))) ∗ rbPieces c p) := fun p => rfl
  have e : AllI (F := F) c = bigSep Finset.univ (PartI (F := F) c) := (bigSep_three _).symm
  rw [e, bigSep_congr fun p _ => h p]
  simp only [bigSep_sep']

theorem allZ_eq (c : Dev nD) : AllZ (F := F) c = iprop(
    (bigSep Finset.univ fun p => sbPieces (F := F) c p)
    ∗ (bigSep Finset.univ fun p => bigSep Finset.univ fun k => sDone (F := F) c p k)
    ∗ (bigSep Finset.univ fun p => bigSep Finset.univ fun k => rDone (F := F) c p k)
    ∗ bigSep Finset.univ fun p => rbPieces (F := F) c p) := by
  have h : ∀ p, PartZ (F := F) c p = iprop(sbPieces c p ∗ (bigSep Finset.univ fun k => sDone c p k) ∗ (bigSep Finset.univ fun k => rDone c p k) ∗ rbPieces c p) := fun p => by
    unfold PartZ rbPieces
    rw [show ({0, 1, 2, 3, 4, 5} : Finset ℕ) = (Finset.univ : Finset (Fin 6)).map Fin.valEmbedding by decide, bigSep_map]; rfl
  have e : AllZ (F := F) c = bigSep Finset.univ (PartZ (F := F) c) := (bigSep_three _).symm
  rw [e, bigSep_congr fun p _ => h p]
  simp only [bigSep_sep']

theorem ownSems_eq (c : Dev nD) : (Pipeline.ownSems0 (Ix := Unit) (Name := ℕ) (U := UU) (Lvl := ℕ) (Val := Elt F) (τ := τ) osem c : sProp 𝕄)
    = iprop((bigSep Finset.univ fun p => bigSep Finset.univ fun k => sDone (F := F) c p k) ∗ bigSep Finset.univ fun p => bigSep Finset.univ fun k => rDone (F := F) c p k) := by
  unfold Pipeline.ownSems0; rw [bigSep_exch]; rfl

end Buffers

/-! ## The launch's side conditions -/

variable (m : (ℓ : Loc nD τ sig) → Buf (Elt F) ℓ) (ρ : Dev nD → PrngReg)

/-- What a device enters the pipeline with. -/
def start (c : Dev nD) : sProp 𝕄 :=
  iprop(ready (msgs m) c ∗ levAts L lv ∗ cred (tallyAt (barCell c) () 3) ∗ bigSep Finset.univ fun p : Fin 3 => bigSep Finset.univ fun k : Fin 24 => cred (tallyAt (rCell c p k) () (nB p k)))

theorem start_intro (c : Dev nD) :
    iprop(Pipeline.unscopedRestP Pipeline.Prefetch.none cfg0.spec c (fun b => m ((c : Thread nD τ).loc b)) ∗ levAts L lv
        ∗ Pipeline.launchCred (fun d : Dev nD => owedAt d 0) c ∗ prngReg c (ρ c) ∗ ready (msgs m) c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    iexact HN
  · iempintro

def Φ₀ (c : Dev nD) : sProp 𝕄 := iprop(∃ K, recs (msgs m) K ∗ levAts L lv ∗ barI (F := F) c ∗ AllI (F := F) c)
def Φ₁ (c : Dev nD) : sProp 𝕄 := iprop(∃ K, recs (msgs m) K ∗ levAts L lv ∗ semVal (barCell c) 0 ∗ AllZ (F := F) c)

theorem phi_start (c : Dev nD) : ((dats m 0 c).toRRel fgt (Rl m c)).Φ 0 = Φ₀ m c := rfl
theorem phi_end (c : Dev nD) : ((dats m 0 c).toRRel fgt (Rl m c)).Φ (Fin.last cfg0.N) = Φ₁ m c := rfl

theorem phi0_intro (c : Dev nD) :
    iprop(start m c ∗ Pipeline.prefHeld Pipeline.Prefetch.none c (fun _ => fullShare.right) (fun k => k.elim0) ∗ Pipeline.scopedRest cfg0.spec c)
      ⊢ ((dats m 0 c).toRRel fgt (Rl m c)).Φ 0 := by
  rw [phi_start]
  unfold start ready Φ₀ barI
  rw [places_eq, payToks_eq, allI_eq]
  iintro ⟨⟨⟨%K, #HR, ⟨HaB, HaS, HaR⟩, ⟨HtB0, HtB1, HtB2⟩, HtS, HtR⟩, Hlev, HcB, HcR⟩, -, Hrest⟩
  ihave Hp := (rest_split (F := F) c) $$ Hrest
  icases Hp with ⟨Hsb, Hrb⟩
  iexists K
  isplitr; · iexact HR
  isplitl [Hlev]; · iexact Hlev
  isplitl [HaB HcB HtB0 HtB1 HtB2]
  · isplitl [HaB]; · iexact HaB
    isplitl [HcB]; · iexact HcB
    isplitl [HtB0]; · iexact HtB0
    isplitl [HtB1]; · iexact HtB1
    iexact HtB2
  isplitl [HtS HtR HaS Hsb]
  · isplitl [HtS HtR HaS]
    · isplitl [HtS]; · iexact HtS
      isplitl [HtR]; · iexact HtR
      iexact HaS
    iexact Hsb
  isplitl [HaR HcR]
  · isplitl [HaR]; · iexact HaR
    iexact HcR
  iexact Hrb

theorem phi1_exit (c : Dev nD) :
    ((dats m 0 c).toRRel fgt (Rl m c)).Φ (Fin.last cfg0.N) ⊢ iprop(unscopedSems0 c ∗ Pipeline.ownSems0 osem c ∗ Pipeline.scopedRest cfg0.spec c) := by
  rw [phi_end]
  unfold Φ₁
  rw [unscopedSems0_eq, ownSems_eq, allZ_eq]
  iintro ⟨%K, -, -, HB, Hsb, HS, HR, Hrb⟩
  isplitl [HB]; · iexact HB
  isplitl [HS HR]
  · isplitl [HS] <;> iassumption
  iapply (rest_join m c)
  isplitl [Hsb] <;> iassumption

theorem cls_stage : ∀ (w : Fin cfg0.W) (s : Fin (cfg0.win w).nbuf), cls (.dma ((cfg0.win w).sem s)) = none := by
  intro w s
  fin_cases w <;> fin_cases s <;> rfl

theorem above_owedAt (c : Dev nD) (t : ℕ) : Above 0 (owedAt c t) := by
  unfold owedAt
  split
  · exact ((above_owedV c 0).mono (Nat.zero_le _)).add (above_bar c)
  · exact (above_owedV c (od t)).mono (Nat.zero_le _)

theorem waits (c : Dev nD) : (levAts L lv : sProp 𝕄) ⊢ RDat.cellsWaits cfgs (fun p c => (dats m p c).toRRel fgt (Rl m c)) () 0 c :=
  RDat.cellsWaits_intro cfgs (fun p c => (dats m p c).toRRel fgt (Rl m c)) () 0 c fun w s t =>
    mayWait_of_above c _ (n := 0) (by unfold lv; rw [cls_stage w s]) (above_owedAt c t.val)

/-! ## The run -/

/-- What a device's buffers hold in the end. -/
def Ends (c : Dev nD) (s : MemSt nD τ sig (Elt F)) : Prop :=
  s.mem ((c : Thread nD τ).loc main_v1) = final m c
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)

theorem whole_4 : (cfg0.win 4).WholeAt (⟨31, by decide⟩ : Fin cfg0.N) := by decide +kernel

theorem result_4 (c : Dev nD) (f : Buf (Elt F) ((c : Thread nD τ).loc main_v1))
    (h : ((dats m 0 c).toRRel fgt (Rl m c)).ArrAt 4 cfg0.N f) : f = final m c := by
  obtain ⟨X, hX, hf⟩ := h.emb_eq_of_wholeAt whole_4
  have hR : Agree (lim (31 + 1)) X (rowsAfter m 31 c) := (dats m 0 c).toRRel_leaves (fgt := fgt) (Rl := Rl m c) rfl hX
  unfold rowsAfter at hR
  rw [if_pos rfl] at hR
  rw [← agree_full hR]
  exact funext fun i => hf i

set_option maxRecDepth 8000 in
/-- Every weakly fair execution ends, with the result everywhere as computed, the arguments as they were and every counter at zero. -/
theorem run_main : θ_run defs (onTc (τ := τ) (main (F := F))) (s₀ m ρ) (fun r => (∀ c : Dev nD, Ends m c r.2) ∧ r.2.sem = fun _ => 0) :=
  RDat.θ_run_region_owing_glob_pf (fun p => (cfgs p).toPCfg) (fun p => (cfgs p).toPCfg_adm) (fun p c => (dats m p c).toRRel fgt (Rl m c)) () cellOf_inj (0 : Fin 1)
    winFacts0.to₀ ownSemFacts (Pipeline.PreFacts.none _) EP defs₀ 𝒱₀ m ρ main
    (hmain := fun _ => rfl)
    (hbody := fun c => (body_obligation m c).toRRel)
    (hne := block_pos0) (harr := arr_whole0) (hstage := stage_whole0)
    (hshare := fun c w => by show (dats m 0 c).share w = fullShare; unfold Dat.share; split <;> rfl)
    (hdistinct := winFacts0.arr_inj)
    (O₀ := fun d => owedAt d 0) (howed₀ := fun _ => rfl) (howedN := fun c => owedV_last c)
    (L := L) (lv := lv) (hL := L_of_ne) (hwaits := waits m)
    (G := dealt (msgs m)) (G' := ready (msgs m)) (u₀ := u₀)
    (hu₀ := by
      unfold u₀
      iintro Hu
      ihave H := (ownU_pair _ _) $$ Hu
      icases H with ⟨HP, HX⟩
      imod (fund (msgs m)) $$ HX with HG
      imodintro
      isplitl [HP] <;> iassumption)
    (hglob := glob (msgs m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c =>
        have h1 := (h c).1
        have hin (w : Fin cfg0.W) (hw : (cfg0.win w).isOut = false) := (congrFun (RDat.ArrAt_in _ w hw _) _).mp (h1 w)
        ⟨result_4 m c _ (h1 4), hin 0 rfl, hin 1 rfl, hin 2 rfl, hin 3 rfl⟩,
      sem_eq_zero hs fun c => (h c).2.2⟩)

end Cert.CubeProof

end
-- ==== Proof.Frames.lean ====
module

public import proofs.«01_k».proof.Proof.Launch
public import proofs.«01_k».proof.Proof.Gen.Kernel
public import proofs.«01_k».proof.Defs
public import proofs.«01_k».proof.Proof.Gen.ReferenceIdeal.Run

/-! # The frames

The program printed for bits and the one printed for ideal values have the same text, so both frames are the one run. -/

@[expose] public section

noncomputable section

namespace Cert.CubeProof

open Idealize.ShloMosaic Idealize.ShloMosaic.TcCoe Idealize.SL.Sem

variable {F : FTy → Type} [FloatOps F]

theorem frame_run (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_main m g)

theorem frame_ideal : Cert.quiescent_KernelIdeal (hKernelIdeal := Cert.KernelIdeal.Gen.facts) := fun m g _ => frame_run m g

/-! The two printed texts name the same programs. -/

theorem kernels_same : Cert.Kernel.defs₀ (F := Bits) = Cert.KernelIdeal.defs₀ := by
  unfold Cert.Kernel.defs₀ Cert.KernelIdeal.defs₀
  refine congrArg Defs.onTc (funext fun l => ?_)
  match l with
  | ⟨0, _⟩ => exact funext fun ⟨t, s⟩ => rfl
theorem defs_same : Cert.Kernel.defs (F := Bits) = Cert.KernelIdeal.defs := by
  unfold Cert.Kernel.defs Cert.KernelIdeal.defs
  exact congrArg (Pipeline.defs _) kernels_same

theorem frame_bits : Cert.quiescent_Kernel (hKernel := Cert.Kernel.Gen.facts) := fun m g _ => by
  rw [defs_same]
  exact frame_run (F := Bits) m g

theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

end Cert.CubeProof

end
-- ==== Proof.Cube.lean ====
module

public import proofs.«01_k».proof.Proof.Contents

/-! # Six exchanges over the cube add up all eight devices

Of one element of the result rows, each device holds a number. `step p q j` is what exchange `j` of part `p` does to those
eight numbers when the element lies in the `q`-th 64 rows of its wave. It only adds and copies, so what it makes of any
numbers is known once it is known what it makes of the eight unit vectors; and that is decided. -/

@[expose] public section

namespace Cert.CubeProof

open Cert.KernelIdeal Cert.KernelIdeal.Gen
open Idealize.ShloMosaic

/-- Exchange `j` of part `p` writes, on `c`, the `q`-th 64 rows of the wave. -/
def hit (p : Fin 3) (q : ℕ) (j : ℕ) (c : Dev nD) : Prop :=
  if j < 3 then base p c (j + 1) ≤ 64 * q ∧ 64 * q < base p c (j + 1) + szN j
  else base p c (5 - j) + (1 - bit (axN p (5 - j)) c) * szN (5 - j) ≤ 64 * q
    ∧ 64 * q < base p c (5 - j) + (1 - bit (axN p (5 - j)) c) * szN (5 - j) + szN j
instance (p : Fin 3) (q j : ℕ) (c : Dev nD) : Decidable (hit p q j c) := by unfold hit; infer_instance

/-- One exchange, -/
def step {α : Type} [Add α] (p : Fin 3) (q j : ℕ) (v : Dev nD → α) (c : Dev nD) : α :=
  if hit p q j c then (if j < 3 then v c + v (par (axJ p j) c) else v (par (axJ p j) c)) else v c

/-- and the first `n`. -/
def steps {α : Type} [Add α] (p : Fin 3) (q : ℕ) (v : Dev nD → α) : ℕ → Dev nD → α
  | 0 => v
  | n + 1 => step p q n (steps p q v n)

theorem steps_succ {α : Type} [Add α] (p : Fin 3) (q : ℕ) (v : Dev nD → α) (n : ℕ) : steps p q v (n + 1) = step p q n (steps p q v n) := rfl

/-- An exchange commutes with what respects sums. -/
theorem step_hom {α β : Type} [Add α] [Add β] (f : α → β) (hf : ∀ a b, f (a + b) = f a + f b) (p : Fin 3) (q j : ℕ) (v : Dev nD → α) :
    step p q j (fun c => f (v c)) = fun c => f (step p q j v c) := by
  funext c
  unfold step
  by_cases h : hit p q j c
  · rw [if_pos h, if_pos h]
    by_cases hj : j < 3
    · rw [if_pos hj, if_pos hj, hf]
    · rw [if_neg hj, if_neg hj]
  · rw [if_neg h, if_neg h]

theorem steps_hom {α β : Type} [Add α] [Add β] (f : α → β) (hf : ∀ a b, f (a + b) = f a + f b) (p : Fin 3) (q : ℕ) (v : Dev nD → α) :
    ∀ n, steps p q (fun c => f (v c)) n = fun c => f (steps p q v n c)
  | 0 => rfl
  | n + 1 => by rw [steps_succ, steps_hom f hf p q v n, step_hom f hf]; rfl

/-- The unit vectors. -/
def unitV (c c' : Dev nD) : ℕ := if c = c' then 1 else 0

theorem steps_unit : ∀ (p : Fin 3) (q : Fin 8) (c c' : Dev nD), steps p q.val unitV 6 c c' = 1 := by decide +kernel

/-- After the six exchanges every device has the sum. -/
theorem steps_all {M : Type} [AddCommMonoid M] (p : Fin 3) (q : Fin 8) (v : Dev nD → M) (c : Dev nD) : steps p q.val v 6 c = ∑ c', v c' := by
  let f : (Dev nD → ℕ) → M := fun a => ∑ c', a c' • v c'
  have hf : ∀ a b, f (a + b) = f a + f b := fun a b => by
    show ∑ c', (a c' + b c') • v c' = _
    simp only [add_nsmul, Finset.sum_add_distrib]; rfl
  have hv : v = fun c => f (unitV c) := funext fun c => by
    show v c = ∑ c', (if c = c' then 1 else 0) • v c'
    simp only [ite_smul, one_nsmul, zero_nsmul, Finset.sum_ite_eq, Finset.mem_univ, if_true]
  have h := congrFun (steps_hom f hf p q.val unitV 6) c
  rw [← hv] at h
  rw [h]
  show ∑ c', steps p q.val unitV 6 c c' • v c' = _
  exact Finset.sum_congr rfl fun c' _ => by rw [steps_unit, one_nsmul]

/-! ## Which rows a round writes -/

theorem consRow_64 : ∀ (p : Fin 3) (k : Fin 24) (c : Dev nD), 64 ∣ consRow p k c ∧ 64 ∣ sz k := by decide +kernel

theorem consRow_ge (p : Fin 3) (k : Fin 24) (c : Dev nD) : 512 * (k.val / 6) ≤ consRow p k c := by unfold consRow; exact Nat.le_add_right _ _

/-- In the round's own wave the rows written are those of `hit`. -/
theorem cons_hit (p : Fin 3) (k : Fin 24) (c : Dev nD) (r : ℕ) (hr : r / 512 = k.val / 6) :
    (consRow p k c ≤ r ∧ r < consRow p k c + sz k) ↔ hit p (r % 512 / 64) (k.val % 6) c := by
  obtain ⟨⟨a, ha⟩, ⟨b, hb⟩⟩ := consRow_64 p k c
  have h : hit p (r % 512 / 64) (k.val % 6) c ↔ (consRow p k c ≤ 512 * (k.val / 6) + 64 * (r % 512 / 64) ∧ 512 * (k.val / 6) + 64 * (r % 512 / 64) < consRow p k c + sz k) := by
    unfold hit consRow
    by_cases hj : k.val % 6 < 3
    · rw [if_pos hj, if_pos hj]; unfold sz; omega
    · rw [if_neg hj, if_neg hj]; unfold sz; omega
  rw [h, ha, hb]
  omega

end Cert.CubeProof

end
-- ==== Proof.Rows.lean ====
module

public import proofs.«01_k».proof.Proof.Cube
public import Idealize.ShloMosaic.PureOps.Ideal.Laws
public import Idealize.ShloMosaic.Lib.MatmulPlain
public import Idealize.ShloMosaic.Lib.StackMember
public import Idealize.ShloMosaic.Lib.Pointwise.Sums

/-! # The rows at an element, over the reals -/

@[expose] public section

noncomputable section

namespace Cert.CubeProof

open Cert.KernelIdeal Cert.KernelIdeal.Gen
open Idealize.ShloMosaic Idealize.ShloMosaic.TcCoe Idealize.SL.Sem

/-! ## A write of rows, element by element -/

theorem write_in {F : FTy → Type} (r : Rect S2048x2048) (w : r.shape.Idx → Elt F .f32) (f : OutC F) (x : r.shape.Idx) :
    (outM.access r).write (Elt F) f w Finset.univ (r.emb x) = w x :=
  View.read_slice_write_emb (v := outM.view) r f w (Finset.mem_univ x)

theorem write_out {F : FTy → Type} (r : Rect S2048x2048) (w : r.shape.Idx → Elt F .f32) (f : OutC F) (i : S2048x2048.Idx) (hi : i ∉ r.set) :
    (outM.access r).write (Elt F) f w Finset.univ i = f i :=
  View.write_of_not_mem _ _ _ fun hm => hi ((out_set r) ▸ hm)

theorem mem_emb (r : Rect S2048x2048) {i : S2048x2048.Idx} (hi : i ∈ r.set) : ∃ x, r.emb x = i := by
  obtain ⟨x, -, h⟩ := Finset.mem_map.mp ((Rect.map_emb_univ r).symm ▸ hi)
  exact ⟨x, h⟩

/-! ## An exchange -/

/-- What is sent are the rows themselves. -/
theorem sent_apply (p : Fin 3) (k : Fin 24) (c : Dev nD) (f : OutC Ideal) (x : (blkS p k).Idx) :
    sent p k c f x = f ((rSo p k c).emb x) := by
  unfold sent stagePay shapeCast
  show f ((rSo p k c).emb (Shape.reshapeEquiv _ (Shape.reshapeEquiv _ (Shape.reshapeEquiv _ x)))) = _
  rw [Shape.reshapeEquiv_self, Shape.reshapeEquiv_reshapeEquiv, Shape.reshapeEquiv_self]

/-- A device's rows go to the same rows of its mate. -/
theorem emb_mate (p : Fin 3) (k : Fin 24) (c : Dev nD) (x : (blkS p k).Idx) : (rSo p k (mate p k c)).emb x = (rCo p k c).emb x := by
  have h : soffT p k (mate p k c) = coffT p k c := by rw [soffT_eq, coffT_eq, consRow_mate]
  refine funext fun a => Fin.ext ?_
  show soffT p k (mate p k c) a + 1 * (x a).val = coffT p k c a + 1 * (x a).val
  rw [h]

/-- The rows' element at `i`, a real or an infinity. -/
abbrev el (f : OutC Ideal) (i : S2048x2048.Idx) : EReal := f i

/-- Where it lands, an exchange adds or copies the mate's element; -/
theorem got_in (p : Fin 3) (k : Fin 24) (c : Dev nD) (Z f : OutC Ideal) (i : S2048x2048.Idx) (hi : i ∈ (rCo p k c).set) :
    el (got p k c (sent p k (mate p k c) Z) f) i = if k.val % 6 < 3 then el f i + el Z i else el Z i := by
  obtain ⟨x, rfl⟩ := mem_emb _ hi
  unfold el got
  rw [write_in]
  by_cases hk : k.val % 6 < 3
  · rw [if_pos hk, if_pos hk]
    unfold addPay
    show el f ((rCo p k c).emb (Shape.reshapeEquiv _ x)) + (sent p k (mate p k c) Z x : EReal) = _
    rw [Shape.reshapeEquiv_self, sent_apply, emb_mate]
  · rw [if_neg hk, if_neg hk]
    show sent p k (mate p k c) Z x = _
    rw [sent_apply, emb_mate]

/-- elsewhere it leaves the rows. -/
theorem got_out (p : Fin 3) (k : Fin 24) (c : Dev nD) (v : Vec Ideal (blkS p k) .bf16) (f : OutC Ideal) (i : S2048x2048.Idx) (hi : i ∉ (rCo p k c).set) :
    got p k c v f i = f i := write_out _ _ _ _ hi

/-- The part of a column. -/
def partOf (n : ℕ) : Fin 3 := if n < 768 then 0 else if n < 1408 then 1 else 2
theorem partOf_iff (p : Fin 3) (n : ℕ) (hn : n < 2048) : (col0 p ≤ n ∧ n < col0 p + colw p) ↔ p = partOf n := by
  unfold partOf
  match p with
  | 0 => simp only [col0, colw]; split_ifs <;> simp <;> omega
  | 1 => simp only [col0, colw]; split_ifs <;> simp <;> omega
  | 2 => simp only [col0, colw]; split_ifs <;> simp <;> omega

abbrev pOf (i : S2048x2048.Idx) : Fin 3 := partOf (i 1).val
/-- The wave of an element, -/
abbrev wOf (i : S2048x2048.Idx) : ℕ := (i 0).val / 512
/-- and the 64 rows of the wave it lies in. -/
abbrev qOf (i : S2048x2048.Idx) : ℕ := (i 0).val % 512 / 64

theorem mem_cons {p : Fin 3} {k : Fin 24} {c : Dev nD} {i : S2048x2048.Idx} :
    i ∈ (rCo p k c).set ↔ (consRow p k c ≤ (i 0).val ∧ (i 0).val < consRow p k c + sz k) ∧ p = pOf i := by
  rw [mem_rCo, partOf_iff p _ (i 1).isLt]

/-- A round of another wave leaves an element; -/
theorem gotM_other (k : Fin 24) (Z : Dev nD → OutC Ideal) (c : Dev nD) (f : OutC Ideal) (i : S2048x2048.Idx) (hi : wOf i ≠ k.val / 6) :
    gotM k Z c f i = f i := by
  have h : ∀ p, i ∉ (rCo p k c).set := fun p hm => by
    have h1 := (mem_cons.mp hm).1
    have h2 := consRow_ge p k c
    have h3 := consRow_le p k c
    unfold wOf at hi
    omega
  unfold gotM
  rw [got_out _ _ _ _ _ _ (h 2), got_out _ _ _ _ _ _ (h 1), got_out _ _ _ _ _ _ (h 0)]

/-- one of its own does a step. -/
theorem gotM_own (k : Fin 24) (Z : Dev nD → OutC Ideal) (c : Dev nD) (f : OutC Ideal) (i : S2048x2048.Idx) (hi : wOf i = k.val / 6) (hf : el f i = el (Z c) i) :
    el (gotM k Z c f) i = step (pOf i) (qOf i) (k.val % 6) (fun c => el (Z c) i) c := by
  have hm : ∀ p, i ∈ (rCo p k c).set ↔ hit p (qOf i) (k.val % 6) c ∧ p = pOf i := fun p => by
    rw [mem_cons, cons_hit p k c _ hi]
  have key : ∀ (p : Fin 3) (g : OutC Ideal), (p = pOf i → el g i = el (Z c) i) →
      el (got p k c (sent p k (mate p k c) (Z (mate p k c))) g) i = if p = pOf i then step (pOf i) (qOf i) (k.val % 6) (fun c => el (Z c) i) c else el g i := by
    intro p g hg
    by_cases hp : p = pOf i
    · rw [if_pos hp]
      unfold step
      by_cases hh : hit (pOf i) (qOf i) (k.val % 6) c
      · rw [if_pos hh, got_in _ _ _ _ _ _ ((hm p).mpr ⟨hp ▸ hh, hp⟩), hg hp, ← hp]
      · rw [if_neg hh]
        exact (got_out _ _ _ _ _ _ (fun h => hh (hp ▸ ((hm p).mp h).1))).trans (hg hp)
    · rw [if_neg hp]
      exact got_out _ _ _ _ _ _ (fun h => hp ((hm p).mp h).2)
  have step3 : ∀ (s z e0 e1 e2 e3 : EReal) (p : Fin 3), e0 = z → (((0 : Fin 3) = p → e0 = z) → e1 = if (0 : Fin 3) = p then s else e0) →
      (((1 : Fin 3) = p → e1 = z) → e2 = if (1 : Fin 3) = p then s else e1) → (((2 : Fin 3) = p → e2 = z) → e3 = if (2 : Fin 3) = p then s else e2) → e3 = s := by
    intro s z e0 e1 e2 e3 p h0 h1 h2 h3
    match p with
    | 0 =>
      have h1 : e1 = s := h1 fun _ => h0
      have h2 : e2 = e1 := h2 fun h => absurd h (by decide)
      have h3 : e3 = e2 := h3 fun h => absurd h (by decide)
      rw [h3, h2, h1]
    | 1 =>
      have h1 : e1 = e0 := h1 fun h => absurd h (by decide)
      have h2 : e2 = s := h2 fun _ => h1.trans h0
      have h3 : e3 = e2 := h3 fun h => absurd h (by decide)
      rw [h3, h2]
    | 2 =>
      have h1 : e1 = e0 := h1 fun h => absurd h (by decide)
      have h2 : e2 = e1 := h2 fun h => absurd h (by decide)
      exact h3 fun _ => h2.trans (h1.trans h0)
  unfold gotM
  exact step3 _ _ _ _ _ _ (pOf i) hf (key 0 _) (key 1 _) (key 2 _)

end Cert.CubeProof

end
-- ==== Proof.Trace.lean ====
module

public import proofs.«01_k».proof.Proof.Rows

/-! # An element of the result through the whole run, over the reals

A wave's eight points add up, on each device, that device's share `D` of the element; the wave's six rounds then add up the
devices' shares; nothing else touches it. -/

@[expose] public section

noncomputable section

namespace Cert.CubeProof

open Cert.KernelIdeal Cert.KernelIdeal.Gen
open Idealize.ShloMosaic Idealize.ShloMosaic.TcCoe Idealize.SL.Sem

variable (m : (ℓ : Loc nD τ sig) → Buf (Elt Ideal) ℓ)

/-! ## A point's product -/

/-- What point `t` contributes to an element of its wave. -/
def pay (c : Dev nD) (t : Fin cfg0.N) (i : S2048x2048.Idx) : EReal :=
  k0_pay133 (F := Ideal) (xB m c t) (gB m c t) (uB m c t) (dB m c t) (ValueIdx.ix2 ⟨(i 0).val % 512, Nat.mod_lt _ (by decide)⟩ (i 1))

theorem comp_other (c : Dev nD) (t : Fin cfg0.N) (f : OutC Ideal) (i : S2048x2048.Idx) (hi : wOf i ≠ t.val / 8) :
    el (comp m c t f) i = el f i := by
  unfold comp el
  exact write_out _ _ _ _ fun h => by rw [mem_rOut] at h; unfold wOf at hi; omega

theorem comp_own (c : Dev nD) (t : Fin cfg0.N) (f : OutC Ideal) (i : S2048x2048.Idx) (hi : wOf i = t.val / 8) :
    el (comp m c t f) i = if t.val % 8 = 0 then pay m c t i else el f i + pay m c t i := by
  obtain ⟨x, hx⟩ := mem_emb (rOut t) (i := i) (by rw [mem_rOut]; unfold wOf at hi; omega)
  have h0 : 512 * (t.val / 8) + 1 * (x 0).val = (i 0).val := by rw [← hx]; rfl
  have h1 : 0 + 1 * (x 1).val = (i 1).val := by rw [← hx]; rfl
  have hx0 : (x 0).val < 512 := (x 0).isLt
  have e : x = ValueIdx.ix2 ⟨(i 0).val % 512, Nat.mod_lt _ (by decide)⟩ (i 1) := by
    refine funext fun a => Fin.ext ?_
    match a with
    | ⟨0, _⟩ => show (x 0).val = (i 0).val % 512; omega
    | ⟨1, _⟩ => show (x 1).val = (i 1).val; omega
  have hp : pay m c t i = k0_pay133 (F := Ideal) (xB m c t) (gB m c t) (uB m c t) (dB m c t) x :=
    congrArg (k0_pay133 (F := Ideal) (xB m c t) (gB m c t) (uB m c t) (dB m c t)) e.symm
  rw [hp]
  unfold comp el
  rw [← hx, write_in]
  by_cases ht : t.val % 8 = 0
  · rw [if_pos ht, if_pos ht]
  · rw [if_neg ht, if_neg ht]
    unfold k0_pay134
    show el f ((rOut t).emb (Shape.reshapeEquiv _ x)) + _ = _
    rw [Shape.reshapeEquiv_self]

/-! ## One point of the run -/

theorem endK_val (t : Fin cfg0.N) (h : ends t.val) : (endK t.val).val / 6 = t.val / 8 - 1 ∧ (endK t.val).val % 6 = t.val % 8 - 1 := by
  have ht : t.val < 32 := lt_of_lt_of_eq t.isLt cfg0_N
  have : (endK t.val).val = (6 * (t.val / 8 - 1) + (t.val % 8 - 1)) % 24 := rfl
  unfold ends at h
  omega

theorem G_keep (c : Dev nD) (t : Fin cfg0.N) (i : S2048x2048.Idx) (h1 : wOf i ≠ t.val / 8) (h2 : ends t.val → wOf i ≠ t.val / 8 - 1) :
    el (G m (t.val + 1) c) i = el (G m t.val c) i := by
  by_cases h : ends t.val
  · rw [G_succ_ends m c t h]
    exact (gotM_other _ _ _ _ _ (by rw [(endK_val t h).1]; exact h2 h)).trans (comp_other m c t _ i h1)
  · rw [G_succ m c t h]; exact comp_other m c t _ i h1

theorem G_add (c : Dev nD) (t : Fin cfg0.N) (i : S2048x2048.Idx) (h1 : wOf i = t.val / 8) :
    el (G m (t.val + 1) c) i = if t.val % 8 = 0 then pay m c t i else el (G m t.val c) i + pay m c t i := by
  by_cases h : ends t.val
  · rw [G_succ_ends m c t h]
    refine (gotM_other _ _ _ _ _ ?_).trans (comp_own m c t _ i h1)
    rw [(endK_val t h).1]; unfold ends at h; omega
  · rw [G_succ m c t h]; exact comp_own m c t _ i h1

theorem G_round (c : Dev nD) (t : Fin cfg0.N) (i : S2048x2048.Idx) (h : ends t.val) (h1 : wOf i = t.val / 8 - 1) :
    el (G m (t.val + 1) c) i = step (pOf i) (qOf i) (t.val % 8 - 1) (fun c => el (G m t.val c) i) c := by
  rw [G_succ_ends m c t h, gotM_own (endK t.val) (G m t.val) c _ i (by rw [(endK_val t h).1]; exact h1)
    (comp_other m c t _ i (by unfold ends at h; omega)), (endK_val t h).2]

/-! ## A wave's points -/

/-- A point by its number. -/
abbrev ptF (n : ℕ) : Fin cfg0.N := Fin.cast cfg0_N.symm (Fin.ofNat 32 n)
theorem ptF_val {n : ℕ} (h : n < 32) : (ptF n).val = n := Nat.mod_eq_of_lt h

/-- A device's share of an element. -/
def D (c : Dev nD) (i : S2048x2048.Idx) : EReal := ∑ h ∈ Finset.range 8, pay m c (ptF (8 * wOf i + h)) i

theorem wOf_lt (i : S2048x2048.Idx) : wOf i < 4 := by
  have : (i 0).val < 2048 := (i 0).isLt
  unfold wOf; omega

theorem G_sum (c : Dev nD) (i : S2048x2048.Idx) : ∀ h, h < 8 →
    el (G m (8 * wOf i + h + 1) c) i = ∑ h' ∈ Finset.range (h + 1), pay m c (ptF (8 * wOf i + h')) i
  | 0, _ => by
    have hw := wOf_lt i
    have hv : (ptF (8 * wOf i + 0)).val = 8 * wOf i + 0 := ptF_val (by omega)
    have h := G_add m c (ptF (8 * wOf i + 0)) i (by rw [hv]; omega)
    rw [if_pos (by rw [hv]; omega), hv] at h
    rw [h, zero_add, Finset.sum_range_one]
  | n + 1, hn => by
    have hw := wOf_lt i
    have hv : (ptF (8 * wOf i + (n + 1))).val = 8 * wOf i + (n + 1) := ptF_val (by omega)
    have h := G_add m c (ptF (8 * wOf i + (n + 1))) i (by rw [hv]; omega)
    rw [if_neg (by rw [hv]; omega), hv] at h
    rw [h, Finset.sum_range_succ, ← G_sum c i n (by omega)]; rfl

theorem G_share (c : Dev nD) (i : S2048x2048.Idx) : el (G m (8 * wOf i + 8) c) i = D m c i := G_sum m c i 7 (by decide)

/-! ## A wave's rounds -/

theorem G_steps (i : S2048x2048.Idx) (hw : wOf i < 3) : ∀ j, j ≤ 6 → ∀ c,
    el (G m (8 * wOf i + 9 + j) c) i = steps (pOf i) (qOf i) (fun c => D m c i) j c
  | 0, _, c => by
    have hv : (ptF (8 * wOf i + 8)).val = 8 * wOf i + 8 := ptF_val (by omega)
    have h := G_keep m c (ptF (8 * wOf i + 8)) i (by rw [hv]; omega) (by rw [hv]; unfold ends; omega)
    rw [hv, G_share] at h
    exact h
  | n + 1, hn, c => by
    have hv : (ptF (8 * wOf i + 9 + n)).val = 8 * wOf i + 9 + n := ptF_val (by omega)
    have h := G_round m c (ptF (8 * wOf i + 9 + n)) i (by rw [hv]; unfold ends; omega) (by rw [hv]; omega)
    rw [hv, show (8 * wOf i + 9 + n) % 8 - 1 = n by omega, funext (G_steps i hw n (by omega))] at h
    exact h

theorem G_after (i : S2048x2048.Idx) (hw : wOf i < 3) (c : Dev nD) : ∀ n, 8 * wOf i + 15 + n ≤ 32 →
    el (G m (8 * wOf i + 15 + n) c) i = steps (pOf i) (qOf i) (fun c => D m c i) 6 c
  | 0, _ => G_steps m i hw 6 le_rfl c
  | n + 1, hn => by
    have hv : (ptF (8 * wOf i + 15 + n)).val = 8 * wOf i + 15 + n := ptF_val (by omega)
    have h := G_keep m c (ptF (8 * wOf i + 15 + n)) i (by rw [hv]; omega) (by rw [hv]; unfold ends; omega)
    rw [hv, G_after i hw c n (by omega)] at h
    exact h

theorem T_succ (n : ℕ) (c : Dev nD) : T m (n + 1) c = gotM (Fin.ofNat 24 (18 + n)) (T m n) c (T m n c) := by rw [T]
theorem T_start : T m 0 = G m 32 := by rw [T]

theorem T_keep (i : S2048x2048.Idx) (hw : wOf i < 3) (c : Dev nD) : ∀ n, n ≤ 6 → el (T m n c) i = el (G m 32 c) i
  | 0, _ => by rw [T_start]
  | n + 1, hn => by
    rw [T_succ]
    refine (gotM_other _ _ _ _ _ ?_).trans (T_keep i hw c n (by omega))
    have : (Fin.ofNat 24 (18 + n)).val = (18 + n) % 24 := rfl
    omega

theorem T_steps (i : S2048x2048.Idx) (hw : wOf i = 3) : ∀ n, n ≤ 6 → ∀ c, el (T m n c) i = steps (pOf i) (qOf i) (fun c => D m c i) n c
  | 0, _, c => by
    have h := G_share m c i
    rw [hw] at h
    rw [T_start]; exact h
  | n + 1, hn, c => by
    have hk : (Fin.ofNat 24 (18 + n)).val = 18 + n := Nat.mod_eq_of_lt (by omega)
    rw [T_succ, gotM_own (Fin.ofNat 24 (18 + n)) (T m n) c (T m n c) i (by rw [hk]; omega) rfl, hk, show (18 + n) % 6 = n by omega,
      funext (T_steps i hw n (by omega))]
    rfl

/-- Every device ends with the sum of all devices' shares. -/
theorem final_apply (c : Dev nD) (i : S2048x2048.Idx) : el (final m c) i = ∑ c', D m c' i := by
  have hq : qOf i < 8 := by unfold qOf; omega
  refine Eq.trans ?_ (steps_all (pOf i) ⟨qOf i, hq⟩ (fun c => D m c i) c)
  unfold final
  by_cases hw : wOf i < 3
  · rw [T_keep m i hw c 6 le_rfl]
    have h := G_after m i hw c (32 - (8 * wOf i + 15)) (by omega)
    rwa [show 8 * wOf i + 15 + (32 - (8 * wOf i + 15)) = 32 by omega] at h
  · exact T_steps m i (by have := wOf_lt i; omega) 6 le_rfl c

end Cert.CubeProof

end
-- ==== Proof.Share.lean ====
module

public import proofs.«01_k».proof.Proof.Trace

/-! # A point's product over the reals, as sums of the arguments' elements -/

@[expose] public section

noncomputable section

namespace Cert.CubeProof

open Cert.KernelIdeal Cert.KernelIdeal.Gen
open Idealize.ShloMosaic Idealize.ShloMosaic.TcCoe Idealize.SL.Sem

variable (m : (ℓ : Loc nD τ sig) → Buf (Elt Ideal) ℓ)

/-! ## The blocks -/

theorem at0 : ∀ t : Fin grid0.N, cc0_transform_0 (grid0.coords t) 0 = t.val / 8 ∧ cc0_transform_0 (grid0.coords t) 1 = 0 := by decide +kernel
theorem at1 : ∀ t : Fin grid0.N, cc0_transform_1 (grid0.coords t) 0 = 0 ∧ cc0_transform_1 (grid0.coords t) 1 = t.val % 8 := by decide +kernel
theorem at2 : ∀ t : Fin grid0.N, cc0_transform_2 (grid0.coords t) 0 = 0 ∧ cc0_transform_2 (grid0.coords t) 1 = t.val % 8 := by decide +kernel
theorem at3 : ∀ t : Fin grid0.N, cc0_transform_3 (grid0.coords t) 0 = t.val % 8 ∧ cc0_transform_3 (grid0.coords t) 1 = 0 := by decide +kernel

theorem xB_apply (c : Dev nD) (t : Fin cfg0.N) (r : Fin 512) (k : Fin 2048) (R : Fin 2048) (hR : R.val = 512 * (t.val / 8) + r.val) :
    xB m c t (ValueIdx.ix2 r k) = m ((c : Thread nD τ).loc main_arg0) (ValueIdx.ix2 R k) := by
  unfold xB iblk
  refine congrArg (m ((c : Thread nD τ).loc main_arg0)) (funext fun a => Fin.ext ?_)
  match a with
  | ⟨0, _⟩ =>
    show cc0_transform_0 (grid0.coords t) 0 * 512 + 1 * r.val = R.val
    rw [(at0 t).1]; omega
  | ⟨1, _⟩ =>
    show cc0_transform_0 (grid0.coords t) 1 * 2048 + 1 * k.val = k.val
    rw [(at0 t).2]; omega

theorem gB_apply (c : Dev nD) (t : Fin cfg0.N) (k : Fin 2048) (r : Fin 512) (R : Fin 4096) (hR : R.val = 512 * (t.val % 8) + r.val) :
    gB m c t (ValueIdx.ix2 k r) = m ((c : Thread nD τ).loc main_arg1) (ValueIdx.ix2 k R) := by
  unfold gB iblk
  refine congrArg (m ((c : Thread nD τ).loc main_arg1)) (funext fun a => Fin.ext ?_)
  match a with
  | ⟨0, _⟩ =>
    show cc0_transform_1 (grid0.coords t) 0 * 2048 + 1 * k.val = k.val
    rw [(at1 t).1]; omega
  | ⟨1, _⟩ =>
    show cc0_transform_1 (grid0.coords t) 1 * 512 + 1 * r.val = R.val
    rw [(at1 t).2]; omega

theorem uB_apply (c : Dev nD) (t : Fin cfg0.N) (k : Fin 2048) (r : Fin 512) (R : Fin 4096) (hR : R.val = 512 * (t.val % 8) + r.val) :
    uB m c t (ValueIdx.ix2 k r) = m ((c : Thread nD τ).loc main_arg2) (ValueIdx.ix2 k R) := by
  unfold uB iblk
  refine congrArg (m ((c : Thread nD τ).loc main_arg2)) (funext fun a => Fin.ext ?_)
  match a with
  | ⟨0, _⟩ =>
    show cc0_transform_2 (grid0.coords t) 0 * 2048 + 1 * k.val = k.val
    rw [(at2 t).1]; omega
  | ⟨1, _⟩ =>
    show cc0_transform_2 (grid0.coords t) 1 * 512 + 1 * r.val = R.val
    rw [(at2 t).2]; omega

theorem dB_apply (c : Dev nD) (t : Fin cfg0.N) (r : Fin 512) (k : Fin 2048) (R : Fin 4096) (hR : R.val = 512 * (t.val % 8) + r.val) :
    dB m c t (ValueIdx.ix2 r k) = m ((c : Thread nD τ).loc main_arg3) (ValueIdx.ix2 R k) := by
  unfold dB iblk
  refine congrArg (m ((c : Thread nD τ).loc main_arg3)) (funext fun a => Fin.ext ?_)
  match a with
  | ⟨0, _⟩ =>
    show cc0_transform_3 (grid0.coords t) 0 * 512 + 1 * r.val = R.val
    rw [(at3 t).1]; omega
  | ⟨1, _⟩ =>
    show cc0_transform_3 (grid0.coords t) 1 * 2048 + 1 * k.val = k.val
    rw [(at3 t).2]; omega

/-! ## The gated unit -/

/-- The gate times the other product through x / (1 + e⁻ˣ). -/
def act (g u : EReal) : EReal := g * Ideal.div u (1 + Ideal.exp (-u))

theorem exp_nonneg : ∀ x : EReal, 0 ≤ Ideal.exp x := fun x => by
  induction x with
  | bot => exact le_rfl
  | top => exact le_top
  | coe r => exact EReal.coe_nonneg.mpr (Real.exp_pos r).le

theorem one_add_exp (x : EReal) : 1 + Ideal.exp x ≠ 0 := fun h => by
  have : (1 : EReal) ≤ 1 + Ideal.exp x := le_add_of_nonneg_right (exp_nonneg x)
  rw [h] at this
  exact absurd this (not_le.mpr zero_lt_one)

theorem mul_recip (u d : EReal) (hd : d ≠ 0) : u * Ideal.div 1 d = Ideal.div u d := by
  unfold Ideal.div
  rw [if_neg hd, if_neg hd, one_mul]

theorem one_bits : Ideal.ofBits .f32 0x3F800000#32 = 1 := by
  simp only [Ideal.ofBits, Ideal.ieee]
  have h : ((8388608 : ℝ) * ((2 : ℝ) ^ 23)⁻¹) = 1 := by norm_num
  simpa [← EReal.coe_mul] using congrArg Real.toEReal h

/-- The kernel's block product at an element. -/
theorem pay133_apply (x : Vec Ideal S512x2048 .bf16) (g u : Vec Ideal S2048x512 .bf16) (d : Vec Ideal S512x2048 .bf16) (r : Fin 512) (C : Fin 2048) :
    (k0_pay133 (F := Ideal) x g u d (ValueIdx.ix2 r C) : EReal)
      = ∑ k : Fin 512, act (∑ j : Fin 2048, (x (ValueIdx.ix2 r j) : EReal) * (g (ValueIdx.ix2 j k) : EReal)) (∑ j : Fin 2048, (x (ValueIdx.ix2 r j) : EReal) * (u (ValueIdx.ix2 j k) : EReal))
          * (d (ValueIdx.ix2 k C) : EReal) := by
  have mm : ∀ (w : Vec Ideal S2048x512 .bf16) (k : Fin 512),
      (matmul (F := Ideal) (φ₁ := .bf16) (φ₂ := .bf16) dot_S512x2048_S2048x512_S512x512_1_0_0_1_n_n none x w (constant S512x512 .f32 0x00000000#32) (ValueIdx.ix2 r k) : EReal)
        = ∑ j : Fin 2048, (x (ValueIdx.ix2 r j) : EReal) * (w (ValueIdx.ix2 j k) : EReal) := fun w k => by
    refine (Ideal.matmul_plain_apply none x w _ r k).trans ?_
    show Ideal.ofBits .f32 0x00000000#32 + _ = _
    rw [Ideal.ofBits_zero_f32, zero_add]
  unfold k0_pay133
  simp only [shapeCast_self]
  refine (Ideal.matmul_plain_apply none _ d _ r C).trans ?_
  show Ideal.ofBits .f32 0x00000000#32 + _ = _
  rw [Ideal.ofBits_zero_f32, zero_add]
  refine Finset.sum_congr rfl fun k _ => congrArg (· * (d (ValueIdx.ix2 k C) : EReal)) ?_
  have hg := mm g k
  have hu := mm u k
  rw [← hg, ← hu]
  generalize (matmul (F := Ideal) (φ₁ := .bf16) (φ₂ := .bf16) dot_S512x2048_S2048x512_S512x512_1_0_0_1_n_n none x g (constant S512x512 .f32 0x00000000#32)) = A
  generalize (matmul (F := Ideal) (φ₁ := .bf16) (φ₂ := .bf16) dot_S512x2048_S2048x512_S512x512_1_0_0_1_n_n none x u (constant S512x512 .f32 0x00000000#32)) = B
  show (A (ValueIdx.ix2 r k) : EReal) * ((B (ValueIdx.ix2 r k) : EReal) * Ideal.div (Ideal.ofBits .f32 0x3F800000#32) (Ideal.ofBits .f32 0x3F800000#32 + Ideal.exp (Ideal.ofBits .f32 0x00000000#32 - (B (ValueIdx.ix2 r k) : EReal)))) = act _ _
  rw [one_bits, Ideal.ofBits_zero_f32, zero_sub, mul_recip _ _ (one_add_exp _)]
  rfl

end Cert.CubeProof

end
-- ==== Proof.Value.lean ====
module

public import proofs.«01_k».proof.Proof.Share

/-! # The sum that every device ends with -/

@[expose] public section

noncomputable section

namespace Cert.CubeProof

open Cert.KernelIdeal Cert.KernelIdeal.Gen
open Idealize.ShloMosaic Idealize.ShloMosaic.TcCoe Idealize.SL.Sem

variable (m : (ℓ : Loc nD τ sig) → Buf (Elt Ideal) ℓ)

/-! ## The mathematics, at an element -/

/-- The hidden unit `K` of row `R`, times its weight for column `C`. -/
def term {n : ℕ} (x : (⟨2, ![2048, 2048]⟩ : Shape).Idx → EReal) (g u : (⟨2, ![2048, n]⟩ : Shape).Idx → EReal) (d : (⟨2, ![n, 2048]⟩ : Shape).Idx → EReal)
    (R C : Fin 2048) (K : Fin n) : EReal :=
  act (∑ j : Fin 2048, x (ValueIdx.ix2 R j) * g (ValueIdx.ix2 j K)) (∑ j : Fin 2048, x (ValueIdx.ix2 R j) * u (ValueIdx.ix2 j K)) * d (ValueIdx.ix2 K C)

/-- A block's unit is a unit of the whole. -/
theorem term_block (x : (⟨2, ![2048, 2048]⟩ : Shape).Idx → EReal) (g u : (⟨2, ![2048, 32768]⟩ : Shape).Idx → EReal) (d : (⟨2, ![32768, 2048]⟩ : Shape).Idx → EReal)
    (c : Fin 8) (R C : Fin 2048) (K : Fin 4096) (K' : Fin 32768) (hK : K'.val = c.val * 4096 + K.val) :
    term x (Layout.block ⟨2, ![2048, 4096]⟩ ⟨2, ![2048, 32768]⟩ 1 8 c g) (Layout.block ⟨2, ![2048, 4096]⟩ ⟨2, ![2048, 32768]⟩ 1 8 c u)
      (Layout.block ⟨2, ![4096, 2048]⟩ ⟨2, ![32768, 2048]⟩ 0 8 c d) R C K = term x g u d R C K' := by
  have hc : ∀ (w : (⟨2, ![2048, 32768]⟩ : Shape).Idx → EReal) (j : Fin 2048),
      Layout.block ⟨2, ![2048, 4096]⟩ ⟨2, ![2048, 32768]⟩ 1 8 c w (by decide) (ValueIdx.ix2 j K) = w (ValueIdx.ix2 j K') := fun w j =>
    congrArg w (funext fun a => Fin.ext (match a with | ⟨0, _⟩ => rfl | ⟨1, _⟩ => hK.symm))
  have hr : Layout.block ⟨2, ![4096, 2048]⟩ ⟨2, ![32768, 2048]⟩ 0 8 c d (by decide) (ValueIdx.ix2 K C) = d (ValueIdx.ix2 K' C) :=
    congrArg d (funext fun a => Fin.ext (match a with | ⟨0, _⟩ => hK.symm | ⟨1, _⟩ => rfl))
  unfold term
  rw [hr]
  simp only [hc]

/-! ## A device's share -/

/-- A device's argument, as numbers. -/
abbrev A0 (c : Dev nD) : (⟨2, ![2048, 2048]⟩ : Shape).Idx → EReal := m ((c : Thread nD τ).loc main_arg0)
abbrev A1 (c : Dev nD) : (⟨2, ![2048, 4096]⟩ : Shape).Idx → EReal := m ((c : Thread nD τ).loc main_arg1)
abbrev A2 (c : Dev nD) : (⟨2, ![2048, 4096]⟩ : Shape).Idx → EReal := m ((c : Thread nD τ).loc main_arg2)
abbrev A3 (c : Dev nD) : (⟨2, ![4096, 2048]⟩ : Shape).Idx → EReal := m ((c : Thread nD τ).loc main_arg3)

theorem pay_apply (c : Dev nD) (t : Fin cfg0.N) (R C : Fin 2048) (hR : R.val / 512 = t.val / 8) :
    pay m c t (ValueIdx.ix2 R C)
      = ∑ k : Fin 512, term (A0 m c) (A1 m c) (A2 m c) (A3 m c) R C ⟨t.val % 8 * 512 + k.val, by have := k.isLt; omega⟩ := by
  unfold pay
  refine (pay133_apply _ _ _ _ ⟨R.val % 512, Nat.mod_lt _ (by decide)⟩ C).trans (Finset.sum_congr rfl fun k _ => ?_)
  unfold term
  have hx : ∀ j, xB m c t (ValueIdx.ix2 ⟨R.val % 512, Nat.mod_lt _ (by decide)⟩ j) = m ((c : Thread nD τ).loc main_arg0) (ValueIdx.ix2 R j) := fun j =>
    xB_apply m c t _ j R (by show R.val = 512 * (t.val / 8) + R.val % 512; omega)
  have hK : t.val % 8 * 512 + k.val = 512 * (t.val % 8) + k.val := by omega
  rw [dB_apply m c t k C ⟨t.val % 8 * 512 + k.val, by have := k.isLt; omega⟩ hK]
  refine congrArg (· * _) ?_
  refine congrArg₂ act (Finset.sum_congr rfl fun j _ => ?_) (Finset.sum_congr rfl fun j _ => ?_)
  · rw [hx, gB_apply m c t j k ⟨t.val % 8 * 512 + k.val, by have := k.isLt; omega⟩ hK]
  · rw [hx, uB_apply m c t j k ⟨t.val % 8 * 512 + k.val, by have := k.isLt; omega⟩ hK]

theorem share_apply (c : Dev nD) (R C : Fin 2048) :
    D m c (ValueIdx.ix2 R C) = ∑ K : Fin 4096, term (A0 m c) (A1 m c) (A2 m c) (A3 m c) R C K := by
  rw [Fin.sum_univ_tiles 8 512 (by decide) (term (A0 m c) (A1 m c) (A2 m c) (A3 m c) R C)]
  unfold D
  rw [Finset.sum_range]
  refine Finset.sum_congr rfl fun h _ => ?_
  have hR : R.val < 2048 := R.isLt
  have hh := h.isLt
  have hw : wOf (ValueIdx.ix2 R C) = R.val / 512 := rfl
  have hv : (ptF (8 * wOf (ValueIdx.ix2 R C) + h.val)).val = 8 * (R.val / 512) + h.val := ptF_val (by rw [hw]; omega)
  rw [pay_apply m c _ R C (by rw [hv]; omega)]
  refine Finset.sum_congr rfl fun k _ => congrArg _ (Fin.ext ?_)
  show (ptF (8 * wOf (ValueIdx.ix2 R C) + h.val)).val % 8 * 512 + k.val = h.val * 512 + k.val
  rw [hv]; omega

/-- The whole sum, when the devices hold the blocks of whole weights. -/
theorem final_whole (x : (⟨2, ![2048, 2048]⟩ : Shape).Idx → EReal) (g u : (⟨2, ![2048, 32768]⟩ : Shape).Idx → EReal) (d : (⟨2, ![32768, 2048]⟩ : Shape).Idx → EReal)
    (h0 : ∀ c, A0 m c = x) (h1 : ∀ c, A1 m c = Layout.block ⟨2, ![2048, 4096]⟩ ⟨2, ![2048, 32768]⟩ 1 8 c g)
    (h2 : ∀ c, A2 m c = Layout.block ⟨2, ![2048, 4096]⟩ ⟨2, ![2048, 32768]⟩ 1 8 c u)
    (h3 : ∀ c, A3 m c = Layout.block ⟨2, ![4096, 2048]⟩ ⟨2, ![32768, 2048]⟩ 0 8 c d) (c : Dev nD) (R C : Fin 2048) :
    el (final m c) (ValueIdx.ix2 R C) = ∑ K : Fin 32768, term x g u d R C K := by
  rw [final_apply, Fin.sum_univ_tiles 8 4096 (by decide) (term x g u d R C)]
  refine Finset.sum_congr rfl fun c' _ => ?_
  rw [share_apply, h0, h1, h2, h3]
  exact Finset.sum_congr rfl fun K _ => term_block x g u d c' R C K _ rfl

end Cert.CubeProof

end
-- ==== Proof.Reference.lean ====
module

public import proofs.«01_k».proof.Proof.Value
public import proofs.«01_k».proof.Proof.Frames

/-! # The reference's result, and that every device ends with it -/

@[expose] public section

noncomputable section

namespace Cert.CubeProof

open Cert.ReferenceIdeal Cert.ReferenceIdeal.Gen
open Idealize.ShloMosaic Idealize.ShloMosaic.TcCoe Idealize.SL.Sem

/-- The reference's result, as its run leaves it. -/
abbrev refOut (x : FVec Ideal S2048x2048 .bf16) (g u : FVec Ideal S2048x32768 .bf16) (d : FVec Ideal S32768x2048 .bf16) : FVec Ideal S2048x2048 .f32 :=
  Host.dotGeneral dot_S2048x32768_S32768x2048_S2048x2048_1_0_0_1_n_n none
    (mulf (Host.dotGeneral dot_S2048x2048_S2048x32768_S2048x32768_1_0_0_1_n_n none x g)
      (Host.divf (Host.dotGeneral dot_S2048x2048_S2048x32768_S2048x32768_1_0_0_1_n_n none x u)
        (addf (broadcastInDim S2048x32768 ![] Facts₀.bcast_S_S2048x32768 (constant S_ .f32 0x3F800000#32))
          (Host.exp (Host.negf (Host.dotGeneral dot_S2048x2048_S2048x32768_S2048x32768_1_0_0_1_n_n none x u))))))
    (extf .f32 d Facts₀.bitsLt_bf16_f32)

theorem refOut_apply (x : FVec Ideal S2048x2048 .bf16) (g u : FVec Ideal S2048x32768 .bf16) (d : FVec Ideal S32768x2048 .bf16) (R C : Fin 2048) :
    refOut x g u d (ValueIdx.ix2 R C) = ∑ K : Fin 32768, term x g u d R C K := by
  have mm : ∀ (w : FVec Ideal S2048x32768 .bf16) (K : Fin 32768),
      (Host.dotGeneral (F := Ideal) dot_S2048x2048_S2048x32768_S2048x32768_1_0_0_1_n_n none x w : FVec Ideal S2048x32768 .f32) (ValueIdx.ix2 R K)
        = ∑ j : Fin 2048, (x (ValueIdx.ix2 R j) : EReal) * (w (ValueIdx.ix2 j K) : EReal) := fun w K =>
    StackMember.dotGeneral_plain_apply none x w R K
  refine (StackMember.dotGeneral_plain_apply none _ _ R C).trans (Finset.sum_congr rfl fun K _ => congrArg (· * (d (ValueIdx.ix2 K C) : EReal)) ?_)
  rw [← mm g K, ← mm u K]
  generalize (Host.dotGeneral (F := Ideal) dot_S2048x2048_S2048x32768_S2048x32768_1_0_0_1_n_n none x g : FVec Ideal S2048x32768 .f32) = A
  generalize (Host.dotGeneral (F := Ideal) dot_S2048x2048_S2048x32768_S2048x32768_1_0_0_1_n_n none x u : FVec Ideal S2048x32768 .f32) = B
  show (A (ValueIdx.ix2 R K) : EReal) * Ideal.div (B (ValueIdx.ix2 R K)) (Ideal.ofBits .f32 0x3F800000#32 + Ideal.exp (-(B (ValueIdx.ix2 R K) : EReal))) = act _ _
  rw [one_bits]
  rfl

/-! ## The claim -/

/-- Every device's result is the reference's. -/
theorem final_eq (m : (ℓ : Loc Cert.KernelIdeal.nD Cert.KernelIdeal.τ Cert.KernelIdeal.sig) → Buf (Elt Ideal) ℓ)
    (x : FVec Ideal S2048x2048 .bf16) (g u : FVec Ideal S2048x32768 .bf16) (d : FVec Ideal S32768x2048 .bf16)
    (h0 : ∀ c, A0 m c = x) (h1 : ∀ c, A1 m c = Layout.block ⟨2, ![2048, 4096]⟩ ⟨2, ![2048, 32768]⟩ 1 8 c g)
    (h2 : ∀ c, A2 m c = Layout.block ⟨2, ![2048, 4096]⟩ ⟨2, ![2048, 32768]⟩ 1 8 c u)
    (h3 : ∀ c, A3 m c = Layout.block ⟨2, ![4096, 2048]⟩ ⟨2, ![32768, 2048]⟩ 0 8 c d) (c : Dev Cert.KernelIdeal.nD) :
    final m c = refOut x g u d := by
  funext i
  have hi : i = ValueIdx.ix2 (i 0) (i 1) := ValueIdx.eq_ix2 i
  rw [hi]
  exact (final_whole m x g u d h0 h1 h2 h3 c (i 0) (i 1)).trans (refOut_apply x g u d (i 0) (i 1)).symm

theorem value : Cert.algebraic_KernelIdeal_ReferenceIdeal (hKernelIdeal := Cert.KernelIdeal.Gen.facts) (hReferenceIdeal := Cert.ReferenceIdeal.Gen.facts) :=
  fun m ρ m' ρ' _ hargs =>
    ⟨_, (θ_run _ _ _).mono (fun r h c => ⟨(h.1 c).1.trans (final_eq m _ _ _ _ (fun c => (hargs c).1) (fun c => (hargs c).2.1) (fun c => (hargs c).2.2.1) (fun c => (hargs c).2.2.2) c), (h.1 c).2⟩)
      (run_main (F := Ideal) m ρ),
    (θ_run _ _ _).mono (fun r h => h 0) (Cert.ReferenceIdeal.Value.run (F := Ideal) m' ρ')⟩

end Cert.CubeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Reference
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨Cert.CubeProof.frame_bits, Cert.CubeProof.frame_ideal, Cert.CubeProof.frame_reference, trivial, Cert.CubeProof.value⟩⟩

end Cert.Proof

end
